-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesRefIdeal (m : (ℓ : Loc Cert.CodesRefIdeal.nD Cert.CodesRefIdeal.τ Cert.CodesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v10) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v6) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_v6) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v6) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v27) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v9) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v2_0)) (v1 : (c : Dev Cert.FirstIdeal.nD) → Buf (Elt Ideal) ((c.tc : Thread Cert.FirstIdeal.nD Cert.FirstIdeal.τ).loc Cert.FirstIdeal.main_v2_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2_0) = v0 c
          ∧ r.2.mem ((c.tc : Thread Cert.FirstIdeal.nD Cert.FirstIdeal.τ).loc Cert.FirstIdeal.main_v2_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v56) = v0 c
          ∧ r.2.mem ((c.tc : Thread Cert.FirstRefIdeal.nD Cert.FirstRefIdeal.τ).loc Cert.FirstRefIdeal.main_v60) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3))

def preserves_Codes_CodesIdeal : Prop :=
  True

def algebraic_CodesIdeal_CodesRefIdeal [hCodesIdeal : Cert.CodesIdeal.Facts] [hCodesRefIdeal : Cert.CodesRefIdeal.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)) →
    ∃ (v0 : (c : Dev Cert.CodesIdeal.nD) → Buf (Elt Ideal) ((c.tc : Thread Cert.CodesIdeal.nD Cert.CodesIdeal.τ).loc Cert.CodesIdeal.main_v3)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v3) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v3) = v0 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hPost : Cert.Post.Facts) (hPostIdeal : Cert.PostIdeal.Facts) (hPostRefIdeal : Cert.PostRefIdeal.Facts) (hAda : Cert.Ada.Facts) (hAdaIdeal : Cert.AdaIdeal.Facts) (hAdaRefIdeal : Cert.AdaRefIdeal.Facts) (hFirst : Cert.First.Facts) (hFirstIdeal : Cert.FirstIdeal.Facts) (hFirstRefIdeal : Cert.FirstRefIdeal.Facts) (hCodes : Cert.Codes.Facts) (hCodesIdeal : Cert.CodesIdeal.Facts) (hCodesRefIdeal : Cert.CodesRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Post (hPost := hPost)
    ∧ quiescent_PostIdeal (hPostIdeal := hPostIdeal)
    ∧ quiescent_PostRefIdeal (hPostRefIdeal := hPostRefIdeal)
    ∧ quiescent_Ada (hAda := hAda)
    ∧ quiescent_AdaIdeal (hAdaIdeal := hAdaIdeal)
    ∧ quiescent_AdaRefIdeal (hAdaRefIdeal := hAdaRefIdeal)
    ∧ quiescent_First (hFirst := hFirst)
    ∧ quiescent_FirstIdeal (hFirstIdeal := hFirstIdeal)
    ∧ quiescent_FirstRefIdeal (hFirstRefIdeal := hFirstRefIdeal)
    ∧ quiescent_Codes (hCodes := hCodes)
    ∧ quiescent_CodesIdeal (hCodesIdeal := hCodesIdeal)
    ∧ quiescent_CodesRefIdeal (hCodesRefIdeal := hCodesRefIdeal)
    ∧ preserves_Kernel_KernelIdeal
    ∧ algebraic_KernelIdeal_ReferenceIdeal (hKernelIdeal := hKernelIdeal) (hReferenceIdeal := hReferenceIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_Post_PostIdeal
    ∧ algebraic_PostIdeal_PostRefIdeal (hPostIdeal := hPostIdeal) (hPostRefIdeal := hPostRefIdeal)
    ∧ preserves_Ada_AdaIdeal
    ∧ algebraic_AdaIdeal_AdaRefIdeal (hAdaIdeal := hAdaIdeal) (hAdaRefIdeal := hAdaRefIdeal)
    ∧ preserves_First_FirstIdeal
    ∧ algebraic_FirstIdeal_FirstRefIdeal (hFirstIdeal := hFirstIdeal) (hFirstRefIdeal := hFirstRefIdeal)
    ∧ preserves_Codes_CodesIdeal
    ∧ algebraic_CodesIdeal_CodesRefIdeal (hCodesIdeal := hCodesIdeal) (hCodesRefIdeal := hCodesRefIdeal)
-- ==== Kernel.lean ====
abbrev S17408x4096 : Shape := ⟨2, ![17408, 4096]⟩
abbrev S6x4096 : Shape := ⟨2, ![6, 4096]⟩
abbrev S8x9x4096 : Shape := ⟨3, ![8, 9, 4096]⟩
abbrev S3x256x4096 : Shape := ⟨3, ![3, 256, 4096]⟩
abbrev S3 : Shape := ⟨1, ![3]⟩
abbrev S2x1x9x4096 : Shape := ⟨4, ![2, 1, 9, 4096]⟩
abbrev S2 : Shape := ⟨1, ![2]⟩
abbrev S2x256x4096 : Shape := ⟨3, ![2, 256, 4096]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S1x1x9x4096 : Shape := ⟨4, ![1, 1, 9, 4096]⟩
abbrev S1x9x4096 : Shape := ⟨3, ![1, 9, 4096]⟩
abbrev S9x4096 : Shape := ⟨2, ![9, 4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S17408x4096, .bf16⟩
  | .hbm, ⟨1, _⟩ => ⟨S17408x4096, .f32⟩
  | .hbm, ⟨2, _⟩ => ⟨S6x4096, .f32⟩
  | .hbm, ⟨3, _⟩ => ⟨S8x9x4096, .f32⟩
  | .hbm, ⟨4, _⟩ => ⟨S17408x4096, .f32⟩
  | .hbm, ⟨5, _⟩ => ⟨S17408x4096, .bf16⟩
  | .local _ .vmem, ⟨0, _⟩ => ⟨S3x256x4096, .bf16⟩
  | .local _ .vmem, ⟨1, _⟩ => ⟨S3x256x4096, .f32⟩
  | .local _ .vmem, ⟨2, _⟩ => ⟨S6x4096, .f32⟩
  | .local _ .vmem, ⟨3, _⟩ => ⟨S2x1x9x4096, .f32⟩
  | .local _ .vmem, ⟨4, _⟩ => ⟨S6x4096, .f32⟩
  | .local _ .vmem, ⟨5, _⟩ => ⟨S2x1x9x4096, .f32⟩
  | .local _ .vmem, ⟨6, _⟩ => ⟨S2x256x4096, .f32⟩
  | .local _ .vmem, ⟨7, _⟩ => ⟨S2x256x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped5 : Ref sig .tc := ⟨.vmem, 3, rfl⟩
abbrev cc0_scoped7 : Ref sig .tc := ⟨.vmem, 4, rfl⟩
abbrev cc0_scoped8 : Ref sig .tc := ⟨.vmem, 5, rfl⟩
abbrev cc0_scoped10 : Ref sig .tc := ⟨.vmem, 6, rfl⟩
abbrev cc0_scoped12 : Ref sig .tc := ⟨.vmem, 7, rfl⟩

abbrev nD : Nat := 1
abbrev τ : Topo := Topo.v7x

variable {F : FTy → Type} [FloatOps F]

abbrev grid0 : Pipeline.Grid := .none

def k0_off1 : Fin 1 → Nat :=
  let c0_i32_23_r0 : BitVec 32 := 0#32
  let c3_i32_r0 : BitVec 32 := 3#32
  let v24_r0 : BitVec 32 := Scalar.remui c0_i32_23_r0 c3_i32_r0
  ![v24_r0.toNat]
def k0_off2 : Fin 3 → Nat :=
  let c0_i32_23_r0 : BitVec 32 := 0#32
  let c3_i32_r0 : BitVec 32 := 3#32
  let v24_r0 : BitVec 32 := Scalar.remui c0_i32_23_r0 c3_i32_r0
  let c0_i32_24_r0 : BitVec 32 := 0#32
  let c0_i32_25_r0 : BitVec 32 := 0#32
  ![v24_r0.toNat, 0, 0]
def k0_off3 : Fin 1 → Nat :=
  let c0_i32_38_r0 : BitVec 32 := 0#32
  let c2_i32_r0 : BitVec 32 := 2#32
  let v38_r0 : BitVec 32 := Scalar.remui c0_i32_38_r0 c2_i32_r0
  ![v38_r0.toNat]
def k0_off4 : Fin 4 → Nat :=
  let c0_i32_38_r0 : BitVec 32 := 0#32
  let c2_i32_r0 : BitVec 32 := 2#32
  let v38_r0 : BitVec 32 := Scalar.remui c0_i32_38_r0 c2_i32_r0
  let c0_i32_41_r0 : BitVec 32 := 0#32
  let c0_i32_42_r0 : BitVec 32 := 0#32
  let c0_i32_43_r0 : BitVec 32 := 0#32
  ![v38_r0.toNat, 0, 0, 0]
def k0_off5 : Fin 3 → Nat :=
  let c1_i32_40_r0 : BitVec 32 := 1#32
  let c0_i32_39_r0 : BitVec 32 := 0#32
  let c4_i32_r0 : BitVec 32 := 4#32
  let v39_r0 : BitVec 32 := Scalar.minsi c0_i32_39_r0 c4_i32_r0
  let v40_r0 : BitVec 32 := Scalar.muli c1_i32_40_r0 v39_r0
  let c0_i32_44_r0 : BitVec 32 := 0#32
  let c0_i32_45_r0 : BitVec 32 := 0#32
  ![v40_r0.toNat, 0, 0]
def k0_cond1 : BitVec 1 :=
  let true_61_r0 : BitVec 1 := 1#1
  let true_9_r0 : BitVec 1 := 1#1
  let c1_i32_r0 : BitVec 32 := 1#32
  let c0_i32_10_r0 : BitVec 32 := 0#32
  let v10_r0 : BitVec 32 := Scalar.select true_9_r0 c1_i32_r0 c0_i32_10_r0
  let c68_i32_r0 : BitVec 32 := 68#32
  let v11_r0 : BitVec 1 := Scalar.cmpi .eq v10_r0 c68_i32_r0
  let c0_i32_11_r0 : BitVec 32 := 0#32
  let v12_r0 : BitVec 32 := Scalar.select v11_r0 c0_i32_11_r0 v10_r0
  let c0_i32_12_r0 : BitVec 32 := 0#32
  let v13_r0 : BitVec 32 := Scalar.addi v12_r0 c0_i32_12_r0
  let c0_i32_60_r0 : BitVec 32 := 0#32
  let v56_r0 : BitVec 1 := Scalar.cmpi .ne v13_r0 c0_i32_60_r0
  let v57_r0 : BitVec 1 := Scalar.andi true_61_r0 v56_r0
  let true_62_r0 : BitVec 1 := 1#1
  let v58_r0 : BitVec 1 := Scalar.andi v57_r0 true_62_r0
  let v59_r0 : BitVec 32 := Scalar.extui v58_r0
  let c0_i32_63_r0 : BitVec 32 := 0#32
  let v60_r0 : BitVec 1 := Scalar.cmpi .ne v59_r0 c0_i32_63_r0
  v60_r0

def k0_off6 : Fin 1 → Nat :=
  let c0_i32_28_r0 : BitVec 32 := 0#32
  let c1_i32_29_r0 : BitVec 32 := 1#32
  let v30_r0 : BitVec 32 := Scalar.addi c0_i32_28_r0 c1_i32_29_r0
  let c3_i32_121_r0 : BitVec 32 := 3#32
  let v111_r0 : BitVec 32 := Scalar.remui v30_r0 c3_i32_121_r0
  ![v111_r0.toNat]
def k0_off7 : Fin 3 → Nat :=
  let c0_i32_28_r0 : BitVec 32 := 0#32
  let c1_i32_29_r0 : BitVec 32 := 1#32
  let v30_r0 : BitVec 32 := Scalar.addi c0_i32_28_r0 c1_i32_29_r0
  let c3_i32_121_r0 : BitVec 32 := 3#32
  let v111_r0 : BitVec 32 := Scalar.remui v30_r0 c3_i32_121_r0
  let c0_i32_123_r0 : BitVec 32 := 0#32
  let c0_i32_124_r0 : BitVec 32 := 0#32
  ![v111_r0.toNat, 0, 0]
def k0_off8 : Fin 2 → Nat :=
  let c256_i32_122_r0 : BitVec 32 := 256#32
  let true_9_r0 : BitVec 1 := 1#1
  let c1_i32_r0 : BitVec 32 := 1#32
  let c0_i32_10_r0 : BitVec 32 := 0#32
  let v10_r0 : BitVec 32 := Scalar.select true_9_r0 c1_i32_r0 c0_i32_10_r0
  let c68_i32_r0 : BitVec 32 := 68#32
  let v11_r0 : BitVec 1 := Scalar.cmpi .eq v10_r0 c68_i32_r0
  let c0_i32_11_r0 : BitVec 32 := 0#32
  let v12_r0 : BitVec 32 := Scalar.select v11_r0 c0_i32_11_r0 v10_r0
  let c0_i32_12_r0 : BitVec 32 := 0#32
  let v13_r0 : BitVec 32 := Scalar.addi v12_r0 c0_i32_12_r0
  let v112_r0 : BitVec 32 := Scalar.muli c256_i32_122_r0 v13_r0
  let c0_i32_125_r0 : BitVec 32 := 0#32
  ![v112_r0.toNat, 0]
def k0_cond2 : BitVec 1 :=
  let true_66_r0 : BitVec 1 := 1#1
  let true_9_r0 : BitVec 1 := 1#1
  let c1_i32_r0 : BitVec 32 := 1#32
  let c0_i32_10_r0 : BitVec 32 := 0#32
  let v10_r0 : BitVec 32 := Scalar.select true_9_r0 c1_i32_r0 c0_i32_10_r0
  let c68_i32_r0 : BitVec 32 := 68#32
  let v11_r0 : BitVec 1 := Scalar.cmpi .eq v10_r0 c68_i32_r0
  let c0_i32_11_r0 : BitVec 32 := 0#32
  let v12_r0 : BitVec 32 := Scalar.select v11_r0 c0_i32_11_r0 v10_r0
  let c0_i32_12_r0 : BitVec 32 := 0#32
  let v13_r0 : BitVec 32 := Scalar.addi v12_r0 c0_i32_12_r0
  let c0_i32_65_r0 : BitVec 32 := 0#32
  let v63_r0 : BitVec 1 := Scalar.cmpi .ne v13_r0 c0_i32_65_r0
  let v64_r0 : BitVec 1 := Scalar.andi true_66_r0 v63_r0
  let true_67_r0 : BitVec 1 := 1#1
  let v65_r0 : BitVec 1 := Scalar.andi v64_r0 true_67_r0
  let v66_r0 : BitVec 32 := Scalar.extui v65_r0
  let c0_i32_68_r0 : BitVec 32 := 0#32
  let v67_r0 : BitVec 1 := Scalar.cmpi .ne v66_r0 c0_i32_68_r0
  v67_r0

def k0_off9 : Fin 1 → Nat :=
  let c0_i32_36_r0 : BitVec 32 := 0#32
  let c1_i32_37_r0 : BitVec 32 := 1#32
  let v37_r0 : BitVec 32 := Scalar.addi c0_i32_36_r0 c1_i32_37_r0
  let c3_i32_121_r0 : BitVec 32 := 3#32
  let v111_r0 : BitVec 32 := Scalar.remui v37_r0 c3_i32_121_r0
  ![v111_r0.toNat]
def k0_off10 : Fin 3 → Nat :=
  let c0_i32_36_r0 : BitVec 32 := 0#32
  let c1_i32_37_r0 : BitVec 32 := 1#32
  let v37_r0 : BitVec 32 := Scalar.addi c0_i32_36_r0 c1_i32_37_r0
  let c3_i32_121_r0 : BitVec 32 := 3#32
  let v111_r0 : BitVec 32 := Scalar.remui v37_r0 c3_i32_121_r0
  let c0_i32_123_r0 : BitVec 32 := 0#32
  let c0_i32_124_r0 : BitVec 32 := 0#32
  ![v111_r0.toNat, 0, 0]
def k0_off11 : Fin 2 → Nat :=
  let c256_i32_122_r0 : BitVec 32 := 256#32
  let true_9_r0 : BitVec 1 := 1#1
  let c1_i32_r0 : BitVec 32 := 1#32
  let c0_i32_10_r0 : BitVec 32 := 0#32
  let v10_r0 : BitVec 32 := Scalar.select true_9_r0 c1_i32_r0 c0_i32_10_r0
  let c68_i32_r0 : BitVec 32 := 68#32
  let v11_r0 : BitVec 1 := Scalar.cmpi .eq v10_r0 c68_i32_r0
  let c0_i32_11_r0 : BitVec 32 := 0#32
  let v12_r0 : BitVec 32 := Scalar.select v11_r0 c0_i32_11_r0 v10_r0
  let c0_i32_12_r0 : BitVec 32 := 0#32
  let v13_r0 : BitVec 32 := Scalar.addi v12_r0 c0_i32_12_r0
  let v112_r0 : BitVec 32 := Scalar.muli c256_i32_122_r0 v13_r0
  let c0_i32_125_r0 : BitVec 32 := 0#32
  ![v112_r0.toNat, 0]
@[reducible] def k0_t1_loop : Scf.Loop 32 :=
  let c0_i32_83_r0 : BitVec 32 := 0#32
  let c68_i32_84_r0 : BitVec 32 := 68#32
  let v70_r0 : BitVec 32 := Scalar.addi c0_i32_83_r0 c68_i32_84_r0
  let c1_i32_85_r0 : BitVec 32 := 1#32
  ⟨c0_i32_83_r0, v70_r0, c1_i32_85_r0⟩
def k0_off12 (arg9_r0 : BitVec 32) : Fin 1 → Nat :=
  let c3_i32_285_r0 : BitVec 32 := 3#32
  let v442_r0 : BitVec 32 := Scalar.remui arg9_r0 c3_i32_285_r0
  ![v442_r0.toNat]
def k0_cond3 (k0_t1 : Fin k0_t1_loop.trips) (arg23_r0 : BitVec 32) : BitVec 1 :=
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let true_135_r0 : BitVec 1 := 1#1
  let c1_i32_134_r0 : BitVec 32 := 1#32
  let v124_r0 : BitVec 32 := Scalar.addi v122_r0 c1_i32_134_r0
  let v125_r0 : BitVec 32 := Scalar.select true_135_r0 v124_r0 v122_r0
  let c68_i32_136_r0 : BitVec 32 := 68#32
  let v126_r0 : BitVec 1 := Scalar.cmpi .eq v125_r0 c68_i32_136_r0
  let c0_i32_137_r0 : BitVec 32 := 0#32
  let v127_r0 : BitVec 32 := Scalar.select v126_r0 c0_i32_137_r0 v125_r0
  let c0_i32_138_r0 : BitVec 32 := 0#32
  let v128_r0 : BitVec 32 := Scalar.addi v127_r0 c0_i32_138_r0
  let v134_r0 : BitVec 1 := Scalar.cmpi .ne v123_r0 v128_r0
  let c0_i32_83_r0 : BitVec 32 := 0#32
  let c1_i32_85_r0 : BitVec 32 := 1#32
  let arg8_r0 : BitVec 32 := Scf.iv c0_i32_83_r0 c1_i32_85_r0 k0_t1
  let c66_i32_r0 : BitVec 32 := 66#32
  let v135_r0 : BitVec 1 := Scalar.cmpi .sge arg8_r0 c66_i32_r0
  let true_144_r0 : BitVec 1 := 1#1
  let v136_r0 : BitVec 1 := Scalar.xori v135_r0 true_144_r0
  let v137_r0 : BitVec 1 := Scalar.andi v134_r0 v136_r0
  let true_145_r0 : BitVec 1 := 1#1
  let v138_r0 : BitVec 1 := Scalar.andi v137_r0 true_145_r0
  let v139_r0 : BitVec 32 := Scalar.extui v138_r0
  let c0_i32_146_r0 : BitVec 32 := 0#32
  let v140_r0 : BitVec 1 := Scalar.cmpi .ne v139_r0 c0_i32_146_r0
  v140_r0

def k0_off13 (arg9_r0 : BitVec 32) : Fin 3 → Nat :=
  let c3_i32_285_r0 : BitVec 32 := 3#32
  let v442_r0 : BitVec 32 := Scalar.remui arg9_r0 c3_i32_285_r0
  let c0_i32_287_r0 : BitVec 32 := 0#32
  let c0_i32_288_r0 : BitVec 32 := 0#32
  ![v442_r0.toNat, 0, 0]
def k0_off14 (arg23_r0 : BitVec 32) : Fin 2 → Nat :=
  let c256_i32_286_r0 : BitVec 32 := 256#32
  let true_135_r0 : BitVec 1 := 1#1
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c1_i32_134_r0 : BitVec 32 := 1#32
  let v124_r0 : BitVec 32 := Scalar.addi v122_r0 c1_i32_134_r0
  let v125_r0 : BitVec 32 := Scalar.select true_135_r0 v124_r0 v122_r0
  let c68_i32_136_r0 : BitVec 32 := 68#32
  let v126_r0 : BitVec 1 := Scalar.cmpi .eq v125_r0 c68_i32_136_r0
  let c0_i32_137_r0 : BitVec 32 := 0#32
  let v127_r0 : BitVec 32 := Scalar.select v126_r0 c0_i32_137_r0 v125_r0
  let c0_i32_138_r0 : BitVec 32 := 0#32
  let v128_r0 : BitVec 32 := Scalar.addi v127_r0 c0_i32_138_r0
  let v443_r0 : BitVec 32 := Scalar.muli c256_i32_286_r0 v128_r0
  let c0_i32_289_r0 : BitVec 32 := 0#32
  ![v443_r0.toNat, 0]
def k0_off15 (arg11_r0 : BitVec 32) : Fin 1 → Nat :=
  let c3_i32_285_r0 : BitVec 32 := 3#32
  let v442_r0 : BitVec 32 := Scalar.remui arg11_r0 c3_i32_285_r0
  ![v442_r0.toNat]
def k0_cond4 (k0_t1 : Fin k0_t1_loop.trips) (arg23_r0 : BitVec 32) : BitVec 1 :=
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let true_135_r0 : BitVec 1 := 1#1
  let c1_i32_134_r0 : BitVec 32 := 1#32
  let v124_r0 : BitVec 32 := Scalar.addi v122_r0 c1_i32_134_r0
  let v125_r0 : BitVec 32 := Scalar.select true_135_r0 v124_r0 v122_r0
  let c68_i32_136_r0 : BitVec 32 := 68#32
  let v126_r0 : BitVec 1 := Scalar.cmpi .eq v125_r0 c68_i32_136_r0
  let c0_i32_137_r0 : BitVec 32 := 0#32
  let v127_r0 : BitVec 32 := Scalar.select v126_r0 c0_i32_137_r0 v125_r0
  let c0_i32_138_r0 : BitVec 32 := 0#32
  let v128_r0 : BitVec 32 := Scalar.addi v127_r0 c0_i32_138_r0
  let v144_r0 : BitVec 1 := Scalar.cmpi .ne v123_r0 v128_r0
  let c0_i32_83_r0 : BitVec 32 := 0#32
  let c1_i32_85_r0 : BitVec 32 := 1#32
  let arg8_r0 : BitVec 32 := Scf.iv c0_i32_83_r0 c1_i32_85_r0 k0_t1
  let c66_i32_149_r0 : BitVec 32 := 66#32
  let v145_r0 : BitVec 1 := Scalar.cmpi .sge arg8_r0 c66_i32_149_r0
  let true_150_r0 : BitVec 1 := 1#1
  let v146_r0 : BitVec 1 := Scalar.xori v145_r0 true_150_r0
  let v147_r0 : BitVec 1 := Scalar.andi v144_r0 v146_r0
  let true_151_r0 : BitVec 1 := 1#1
  let v148_r0 : BitVec 1 := Scalar.andi v147_r0 true_151_r0
  let v149_r0 : BitVec 32 := Scalar.extui v148_r0
  let c0_i32_152_r0 : BitVec 32 := 0#32
  let v150_r0 : BitVec 1 := Scalar.cmpi .ne v149_r0 c0_i32_152_r0
  v150_r0

def k0_off16 (arg11_r0 : BitVec 32) : Fin 3 → Nat :=
  let c3_i32_285_r0 : BitVec 32 := 3#32
  let v442_r0 : BitVec 32 := Scalar.remui arg11_r0 c3_i32_285_r0
  let c0_i32_287_r0 : BitVec 32 := 0#32
  let c0_i32_288_r0 : BitVec 32 := 0#32
  ![v442_r0.toNat, 0, 0]
def k0_off17 (arg23_r0 : BitVec 32) : Fin 2 → Nat :=
  let c256_i32_286_r0 : BitVec 32 := 256#32
  let true_135_r0 : BitVec 1 := 1#1
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c1_i32_134_r0 : BitVec 32 := 1#32
  let v124_r0 : BitVec 32 := Scalar.addi v122_r0 c1_i32_134_r0
  let v125_r0 : BitVec 32 := Scalar.select true_135_r0 v124_r0 v122_r0
  let c68_i32_136_r0 : BitVec 32 := 68#32
  let v126_r0 : BitVec 1 := Scalar.cmpi .eq v125_r0 c68_i32_136_r0
  let c0_i32_137_r0 : BitVec 32 := 0#32
  let v127_r0 : BitVec 32 := Scalar.select v126_r0 c0_i32_137_r0 v125_r0
  let c0_i32_138_r0 : BitVec 32 := 0#32
  let v128_r0 : BitVec 32 := Scalar.addi v127_r0 c0_i32_138_r0
  let v443_r0 : BitVec 32 := Scalar.muli c256_i32_286_r0 v128_r0
  let c0_i32_289_r0 : BitVec 32 := 0#32
  ![v443_r0.toNat, 0]
def k0_off18 (arg14_r0 : BitVec 32) : Fin 1 → Nat :=
  let c2_i32_285_r0 : BitVec 32 := 2#32
  let v442_r0 : BitVec 32 := Scalar.remui arg14_r0 c2_i32_285_r0
  ![v442_r0.toNat]
def k0_cond5 (k0_t1 : Fin k0_t1_loop.trips) (arg23_r0 : BitVec 32) : BitVec 1 :=
  let c0_i32_123_r0 : BitVec 32 := 0#32
  let v113_r0 : BitVec 32 := Scalar.addi arg23_r0 c0_i32_123_r0
  let c0_i32_155_r0 : BitVec 32 := 0#32
  let v155_r0 : BitVec 1 := Scalar.cmpi .sgt v113_r0 c0_i32_155_r0
  let v156_r0 : BitVec 32 := Scalar.extui v155_r0
  let c0_i32_156_r0 : BitVec 32 := 0#32
  let v157_r0 : BitVec 1 := Scalar.cmpi .slt v113_r0 c0_i32_156_r0
  let v158_r0 : BitVec 32 := Scalar.extui v157_r0
  let v159_r0 : BitVec 32 := Scalar.subi v156_r0 v158_r0
  let c16_i32_r0 : BitVec 32 := 16#32
  let c0_i32_157_r0 : BitVec 32 := 0#32
  let v160_r0 : BitVec 1 := Scalar.cmpi .sgt c16_i32_r0 c0_i32_157_r0
  let v161_r0 : BitVec 32 := Scalar.extui v160_r0
  let c0_i32_158_r0 : BitVec 32 := 0#32
  let v162_r0 : BitVec 1 := Scalar.cmpi .slt c16_i32_r0 c0_i32_158_r0
  let v163_r0 : BitVec 32 := Scalar.extui v162_r0
  let v164_r0 : BitVec 32 := Scalar.subi v161_r0 v163_r0
  let v165_r0 : BitVec 1 := Scalar.cmpi .ne v159_r0 v164_r0
  let v166_r0 : BitVec 32 := Scalar.remsi v113_r0 c16_i32_r0
  let c0_i32_159_r0 : BitVec 32 := 0#32
  let v167_r0 : BitVec 1 := Scalar.cmpi .ne v166_r0 c0_i32_159_r0
  let v168_r0 : BitVec 1 := Scalar.andi v165_r0 v167_r0
  let v154_r0 : BitVec 32 := Scalar.divsi v113_r0 c16_i32_r0
  let c1_i32_160_r0 : BitVec 32 := 1#32
  let v169_r0 : BitVec 32 := Scalar.subi v154_r0 c1_i32_160_r0
  let v170_r0 : BitVec 32 := Scalar.select v168_r0 v169_r0 v154_r0
  let c4_i32_161_r0 : BitVec 32 := 4#32
  let v171_r0 : BitVec 32 := Scalar.minsi v170_r0 c4_i32_161_r0
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let c0_i32_163_r0 : BitVec 32 := 0#32
  let v173_r0 : BitVec 1 := Scalar.cmpi .sgt v123_r0 c0_i32_163_r0
  let v174_r0 : BitVec 32 := Scalar.extui v173_r0
  let c0_i32_164_r0 : BitVec 32 := 0#32
  let v175_r0 : BitVec 1 := Scalar.cmpi .slt v123_r0 c0_i32_164_r0
  let v176_r0 : BitVec 32 := Scalar.extui v175_r0
  let v177_r0 : BitVec 32 := Scalar.subi v174_r0 v176_r0
  let c16_i32_162_r0 : BitVec 32 := 16#32
  let c0_i32_165_r0 : BitVec 32 := 0#32
  let v178_r0 : BitVec 1 := Scalar.cmpi .sgt c16_i32_162_r0 c0_i32_165_r0
  let v179_r0 : BitVec 32 := Scalar.extui v178_r0
  let c0_i32_166_r0 : BitVec 32 := 0#32
  let v180_r0 : BitVec 1 := Scalar.cmpi .slt c16_i32_162_r0 c0_i32_166_r0
  let v181_r0 : BitVec 32 := Scalar.extui v180_r0
  let v182_r0 : BitVec 32 := Scalar.subi v179_r0 v181_r0
  let v183_r0 : BitVec 1 := Scalar.cmpi .ne v177_r0 v182_r0
  let v184_r0 : BitVec 32 := Scalar.remsi v123_r0 c16_i32_162_r0
  let c0_i32_167_r0 : BitVec 32 := 0#32
  let v185_r0 : BitVec 1 := Scalar.cmpi .ne v184_r0 c0_i32_167_r0
  let v186_r0 : BitVec 1 := Scalar.andi v183_r0 v185_r0
  let v172_r0 : BitVec 32 := Scalar.divsi v123_r0 c16_i32_162_r0
  let c1_i32_168_r0 : BitVec 32 := 1#32
  let v187_r0 : BitVec 32 := Scalar.subi v172_r0 c1_i32_168_r0
  let v188_r0 : BitVec 32 := Scalar.select v186_r0 v187_r0 v172_r0
  let c4_i32_169_r0 : BitVec 32 := 4#32
  let v189_r0 : BitVec 32 := Scalar.minsi v188_r0 c4_i32_169_r0
  let v190_r0 : BitVec 1 := Scalar.cmpi .ne v171_r0 v189_r0
  let c0_i32_83_r0 : BitVec 32 := 0#32
  let c1_i32_85_r0 : BitVec 32 := 1#32
  let arg8_r0 : BitVec 32 := Scf.iv c0_i32_83_r0 c1_i32_85_r0 k0_t1
  let c67_i32_170_r0 : BitVec 32 := 67#32
  let v191_r0 : BitVec 1 := Scalar.cmpi .sge arg8_r0 c67_i32_170_r0
  let true_171_r0 : BitVec 1 := 1#1
  let v192_r0 : BitVec 1 := Scalar.xori v191_r0 true_171_r0
  let v193_r0 : BitVec 1 := Scalar.andi v190_r0 v192_r0
  let true_172_r0 : BitVec 1 := 1#1
  let v194_r0 : BitVec 1 := Scalar.andi v193_r0 true_172_r0
  let v195_r0 : BitVec 32 := Scalar.extui v194_r0
  let c0_i32_173_r0 : BitVec 32 := 0#32
  let v196_r0 : BitVec 1 := Scalar.cmpi .ne v195_r0 c0_i32_173_r0
  v196_r0

def k0_off19 (arg14_r0 : BitVec 32) : Fin 4 → Nat :=
  let c2_i32_285_r0 : BitVec 32 := 2#32
  let v442_r0 : BitVec 32 := Scalar.remui arg14_r0 c2_i32_285_r0
  let c0_i32_295_r0 : BitVec 32 := 0#32
  let c0_i32_296_r0 : BitVec 32 := 0#32
  let c0_i32_297_r0 : BitVec 32 := 0#32
  ![v442_r0.toNat, 0, 0, 0]
def k0_off20 (arg23_r0 : BitVec 32) : Fin 3 → Nat :=
  let c1_i32_294_r0 : BitVec 32 := 1#32
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let c0_i32_287_r0 : BitVec 32 := 0#32
  let v444_r0 : BitVec 1 := Scalar.cmpi .sgt v123_r0 c0_i32_287_r0
  let v445_r0 : BitVec 32 := Scalar.extui v444_r0
  let c0_i32_288_r0 : BitVec 32 := 0#32
  let v446_r0 : BitVec 1 := Scalar.cmpi .slt v123_r0 c0_i32_288_r0
  let v447_r0 : BitVec 32 := Scalar.extui v446_r0
  let v448_r0 : BitVec 32 := Scalar.subi v445_r0 v447_r0
  let c16_i32_286_r0 : BitVec 32 := 16#32
  let c0_i32_289_r0 : BitVec 32 := 0#32
  let v449_r0 : BitVec 1 := Scalar.cmpi .sgt c16_i32_286_r0 c0_i32_289_r0
  let v450_r0 : BitVec 32 := Scalar.extui v449_r0
  let c0_i32_290_r0 : BitVec 32 := 0#32
  let v451_r0 : BitVec 1 := Scalar.cmpi .slt c16_i32_286_r0 c0_i32_290_r0
  let v452_r0 : BitVec 32 := Scalar.extui v451_r0
  let v453_r0 : BitVec 32 := Scalar.subi v450_r0 v452_r0
  let v454_r0 : BitVec 1 := Scalar.cmpi .ne v448_r0 v453_r0
  let v455_r0 : BitVec 32 := Scalar.remsi v123_r0 c16_i32_286_r0
  let c0_i32_291_r0 : BitVec 32 := 0#32
  let v456_r0 : BitVec 1 := Scalar.cmpi .ne v455_r0 c0_i32_291_r0
  let v457_r0 : BitVec 1 := Scalar.andi v454_r0 v456_r0
  let v443_r0 : BitVec 32 := Scalar.divsi v123_r0 c16_i32_286_r0
  let c1_i32_292_r0 : BitVec 32 := 1#32
  let v458_r0 : BitVec 32 := Scalar.subi v443_r0 c1_i32_292_r0
  let v459_r0 : BitVec 32 := Scalar.select v457_r0 v458_r0 v443_r0
  let c4_i32_293_r0 : BitVec 32 := 4#32
  let v460_r0 : BitVec 32 := Scalar.minsi v459_r0 c4_i32_293_r0
  let v461_r0 : BitVec 32 := Scalar.muli c1_i32_294_r0 v460_r0
  let c0_i32_298_r0 : BitVec 32 := 0#32
  let c0_i32_299_r0 : BitVec 32 := 0#32
  ![v461_r0.toNat, 0, 0]
def k0_off21 (arg17_r0 : BitVec 32) : Fin 1 → Nat :=
  let c2_i32_285_r0 : BitVec 32 := 2#32
  let v442_r0 : BitVec 32 := Scalar.remui arg17_r0 c2_i32_285_r0
  ![v442_r0.toNat]
def k0_cond6 (k0_t1 : Fin k0_t1_loop.trips) (arg23_r0 : BitVec 32) : BitVec 1 :=
  let c0_i32_123_r0 : BitVec 32 := 0#32
  let v113_r0 : BitVec 32 := Scalar.addi arg23_r0 c0_i32_123_r0
  let c0_i32_155_r0 : BitVec 32 := 0#32
  let v155_r0 : BitVec 1 := Scalar.cmpi .sgt v113_r0 c0_i32_155_r0
  let v156_r0 : BitVec 32 := Scalar.extui v155_r0
  let c0_i32_156_r0 : BitVec 32 := 0#32
  let v157_r0 : BitVec 1 := Scalar.cmpi .slt v113_r0 c0_i32_156_r0
  let v158_r0 : BitVec 32 := Scalar.extui v157_r0
  let v159_r0 : BitVec 32 := Scalar.subi v156_r0 v158_r0
  let c16_i32_r0 : BitVec 32 := 16#32
  let c0_i32_157_r0 : BitVec 32 := 0#32
  let v160_r0 : BitVec 1 := Scalar.cmpi .sgt c16_i32_r0 c0_i32_157_r0
  let v161_r0 : BitVec 32 := Scalar.extui v160_r0
  let c0_i32_158_r0 : BitVec 32 := 0#32
  let v162_r0 : BitVec 1 := Scalar.cmpi .slt c16_i32_r0 c0_i32_158_r0
  let v163_r0 : BitVec 32 := Scalar.extui v162_r0
  let v164_r0 : BitVec 32 := Scalar.subi v161_r0 v163_r0
  let v165_r0 : BitVec 1 := Scalar.cmpi .ne v159_r0 v164_r0
  let v166_r0 : BitVec 32 := Scalar.remsi v113_r0 c16_i32_r0
  let c0_i32_159_r0 : BitVec 32 := 0#32
  let v167_r0 : BitVec 1 := Scalar.cmpi .ne v166_r0 c0_i32_159_r0
  let v168_r0 : BitVec 1 := Scalar.andi v165_r0 v167_r0
  let v154_r0 : BitVec 32 := Scalar.divsi v113_r0 c16_i32_r0
  let c1_i32_160_r0 : BitVec 32 := 1#32
  let v169_r0 : BitVec 32 := Scalar.subi v154_r0 c1_i32_160_r0
  let v170_r0 : BitVec 32 := Scalar.select v168_r0 v169_r0 v154_r0
  let c4_i32_161_r0 : BitVec 32 := 4#32
  let v171_r0 : BitVec 32 := Scalar.minsi v170_r0 c4_i32_161_r0
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let c0_i32_163_r0 : BitVec 32 := 0#32
  let v173_r0 : BitVec 1 := Scalar.cmpi .sgt v123_r0 c0_i32_163_r0
  let v174_r0 : BitVec 32 := Scalar.extui v173_r0
  let c0_i32_164_r0 : BitVec 32 := 0#32
  let v175_r0 : BitVec 1 := Scalar.cmpi .slt v123_r0 c0_i32_164_r0
  let v176_r0 : BitVec 32 := Scalar.extui v175_r0
  let v177_r0 : BitVec 32 := Scalar.subi v174_r0 v176_r0
  let c16_i32_162_r0 : BitVec 32 := 16#32
  let c0_i32_165_r0 : BitVec 32 := 0#32
  let v178_r0 : BitVec 1 := Scalar.cmpi .sgt c16_i32_162_r0 c0_i32_165_r0
  let v179_r0 : BitVec 32 := Scalar.extui v178_r0
  let c0_i32_166_r0 : BitVec 32 := 0#32
  let v180_r0 : BitVec 1 := Scalar.cmpi .slt c16_i32_162_r0 c0_i32_166_r0
  let v181_r0 : BitVec 32 := Scalar.extui v180_r0
  let v182_r0 : BitVec 32 := Scalar.subi v179_r0 v181_r0
  let v183_r0 : BitVec 1 := Scalar.cmpi .ne v177_r0 v182_r0
  let v184_r0 : BitVec 32 := Scalar.remsi v123_r0 c16_i32_162_r0
  let c0_i32_167_r0 : BitVec 32 := 0#32
  let v185_r0 : BitVec 1 := Scalar.cmpi .ne v184_r0 c0_i32_167_r0
  let v186_r0 : BitVec 1 := Scalar.andi v183_r0 v185_r0
  let v172_r0 : BitVec 32 := Scalar.divsi v123_r0 c16_i32_162_r0
  let c1_i32_168_r0 : BitVec 32 := 1#32
  let v187_r0 : BitVec 32 := Scalar.subi v172_r0 c1_i32_168_r0
  let v188_r0 : BitVec 32 := Scalar.select v186_r0 v187_r0 v172_r0
  let c4_i32_169_r0 : BitVec 32 := 4#32
  let v189_r0 : BitVec 32 := Scalar.minsi v188_r0 c4_i32_169_r0
  let v200_r0 : BitVec 1 := Scalar.cmpi .ne v171_r0 v189_r0
  let c0_i32_83_r0 : BitVec 32 := 0#32
  let c1_i32_85_r0 : BitVec 32 := 1#32
  let arg8_r0 : BitVec 32 := Scf.iv c0_i32_83_r0 c1_i32_85_r0 k0_t1
  let c67_i32_176_r0 : BitVec 32 := 67#32
  let v201_r0 : BitVec 1 := Scalar.cmpi .sge arg8_r0 c67_i32_176_r0
  let true_177_r0 : BitVec 1 := 1#1
  let v202_r0 : BitVec 1 := Scalar.xori v201_r0 true_177_r0
  let v203_r0 : BitVec 1 := Scalar.andi v200_r0 v202_r0
  let true_178_r0 : BitVec 1 := 1#1
  let v204_r0 : BitVec 1 := Scalar.andi v203_r0 true_178_r0
  let v205_r0 : BitVec 32 := Scalar.extui v204_r0
  let c0_i32_179_r0 : BitVec 32 := 0#32
  let v206_r0 : BitVec 1 := Scalar.cmpi .ne v205_r0 c0_i32_179_r0
  v206_r0

def k0_off22 (arg17_r0 : BitVec 32) : Fin 4 → Nat :=
  let c2_i32_285_r0 : BitVec 32 := 2#32
  let v442_r0 : BitVec 32 := Scalar.remui arg17_r0 c2_i32_285_r0
  let c0_i32_295_r0 : BitVec 32 := 0#32
  let c0_i32_296_r0 : BitVec 32 := 0#32
  let c0_i32_297_r0 : BitVec 32 := 0#32
  ![v442_r0.toNat, 0, 0, 0]
def k0_off23 (arg23_r0 : BitVec 32) : Fin 3 → Nat :=
  let c1_i32_294_r0 : BitVec 32 := 1#32
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let c0_i32_287_r0 : BitVec 32 := 0#32
  let v444_r0 : BitVec 1 := Scalar.cmpi .sgt v123_r0 c0_i32_287_r0
  let v445_r0 : BitVec 32 := Scalar.extui v444_r0
  let c0_i32_288_r0 : BitVec 32 := 0#32
  let v446_r0 : BitVec 1 := Scalar.cmpi .slt v123_r0 c0_i32_288_r0
  let v447_r0 : BitVec 32 := Scalar.extui v446_r0
  let v448_r0 : BitVec 32 := Scalar.subi v445_r0 v447_r0
  let c16_i32_286_r0 : BitVec 32 := 16#32
  let c0_i32_289_r0 : BitVec 32 := 0#32
  let v449_r0 : BitVec 1 := Scalar.cmpi .sgt c16_i32_286_r0 c0_i32_289_r0
  let v450_r0 : BitVec 32 := Scalar.extui v449_r0
  let c0_i32_290_r0 : BitVec 32 := 0#32
  let v451_r0 : BitVec 1 := Scalar.cmpi .slt c16_i32_286_r0 c0_i32_290_r0
  let v452_r0 : BitVec 32 := Scalar.extui v451_r0
  let v453_r0 : BitVec 32 := Scalar.subi v450_r0 v452_r0
  let v454_r0 : BitVec 1 := Scalar.cmpi .ne v448_r0 v453_r0
  let v455_r0 : BitVec 32 := Scalar.remsi v123_r0 c16_i32_286_r0
  let c0_i32_291_r0 : BitVec 32 := 0#32
  let v456_r0 : BitVec 1 := Scalar.cmpi .ne v455_r0 c0_i32_291_r0
  let v457_r0 : BitVec 1 := Scalar.andi v454_r0 v456_r0
  let v443_r0 : BitVec 32 := Scalar.divsi v123_r0 c16_i32_286_r0
  let c1_i32_292_r0 : BitVec 32 := 1#32
  let v458_r0 : BitVec 32 := Scalar.subi v443_r0 c1_i32_292_r0
  let v459_r0 : BitVec 32 := Scalar.select v457_r0 v458_r0 v443_r0
  let c4_i32_293_r0 : BitVec 32 := 4#32
  let v460_r0 : BitVec 32 := Scalar.minsi v459_r0 c4_i32_293_r0
  let v461_r0 : BitVec 32 := Scalar.muli c1_i32_294_r0 v460_r0
  let c0_i32_298_r0 : BitVec 32 := 0#32
  let c0_i32_299_r0 : BitVec 32 := 0#32
  ![v461_r0.toNat, 0, 0]
def k0_off24 (arg10_r0 : BitVec 32) : Fin 1 → Nat :=
  let c3_i32_286_r0 : BitVec 32 := 3#32
  let v443_r0 : BitVec 32 := Scalar.remui arg10_r0 c3_i32_286_r0
  ![v443_r0.toNat]
def k0_cond7 (k0_t1 : Fin k0_t1_loop.trips) (arg23_r0 : BitVec 32) : BitVec 1 :=
  let c0_i32_123_r0 : BitVec 32 := 0#32
  let v113_r0 : BitVec 32 := Scalar.addi arg23_r0 c0_i32_123_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v218_r0 : BitVec 1 := Scalar.cmpi .ne v113_r0 v118_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let v219_r0 : BitVec 1 := Scalar.ori v218_r0 v111_r0
  let c0_i32_186_r0 : BitVec 32 := 0#32
  let v220_r0 : BitVec 1 := Scalar.cmpi .sge arg8_r0 c0_i32_186_r0
  let v221_r0 : BitVec 1 := Scalar.andi v219_r0 v220_r0
  let v222_r0 : BitVec 32 := Scalar.extui v221_r0
  let c0_i32_187_r0 : BitVec 32 := 0#32
  let v223_r0 : BitVec 1 := Scalar.cmpi .ne v222_r0 c0_i32_187_r0
  v223_r0

def k0_off25 (arg10_r0 : BitVec 32) : Fin 3 → Nat :=
  let c3_i32_286_r0 : BitVec 32 := 3#32
  let v443_r0 : BitVec 32 := Scalar.remui arg10_r0 c3_i32_286_r0
  let c0_i32_287_r0 : BitVec 32 := 0#32
  let c0_i32_288_r0 : BitVec 32 := 0#32
  ![v443_r0.toNat, 0, 0]
def k0_off26 (arg23_r0 : BitVec 32) : Fin 2 → Nat :=
  let c256_i32_285_r0 : BitVec 32 := 256#32
  let c0_i32_123_r0 : BitVec 32 := 0#32
  let v113_r0 : BitVec 32 := Scalar.addi arg23_r0 c0_i32_123_r0
  let v442_r0 : BitVec 32 := Scalar.muli c256_i32_285_r0 v113_r0
  let c0_i32_289_r0 : BitVec 32 := 0#32
  ![v442_r0.toNat, 0]
def k0_off27 (arg12_r0 : BitVec 32) : Fin 1 → Nat :=
  let c3_i32_286_r0 : BitVec 32 := 3#32
  let v443_r0 : BitVec 32 := Scalar.remui arg12_r0 c3_i32_286_r0
  ![v443_r0.toNat]
def k0_cond8 (k0_t1 : Fin k0_t1_loop.trips) (arg23_r0 : BitVec 32) : BitVec 1 :=
  let c0_i32_123_r0 : BitVec 32 := 0#32
  let v113_r0 : BitVec 32 := Scalar.addi arg23_r0 c0_i32_123_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v224_r0 : BitVec 1 := Scalar.cmpi .ne v113_r0 v118_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let v225_r0 : BitVec 1 := Scalar.ori v224_r0 v111_r0
  let c0_i32_188_r0 : BitVec 32 := 0#32
  let v226_r0 : BitVec 1 := Scalar.cmpi .sge arg8_r0 c0_i32_188_r0
  let v227_r0 : BitVec 1 := Scalar.andi v225_r0 v226_r0
  let v228_r0 : BitVec 32 := Scalar.extui v227_r0
  let c0_i32_189_r0 : BitVec 32 := 0#32
  let v229_r0 : BitVec 1 := Scalar.cmpi .ne v228_r0 c0_i32_189_r0
  v229_r0

def k0_off28 (arg12_r0 : BitVec 32) : Fin 3 → Nat :=
  let c3_i32_286_r0 : BitVec 32 := 3#32
  let v443_r0 : BitVec 32 := Scalar.remui arg12_r0 c3_i32_286_r0
  let c0_i32_287_r0 : BitVec 32 := 0#32
  let c0_i32_288_r0 : BitVec 32 := 0#32
  ![v443_r0.toNat, 0, 0]
def k0_off29 (arg23_r0 : BitVec 32) : Fin 2 → Nat :=
  let c256_i32_285_r0 : BitVec 32 := 256#32
  let c0_i32_123_r0 : BitVec 32 := 0#32
  let v113_r0 : BitVec 32 := Scalar.addi arg23_r0 c0_i32_123_r0
  let v442_r0 : BitVec 32 := Scalar.muli c256_i32_285_r0 v113_r0
  let c0_i32_289_r0 : BitVec 32 := 0#32
  ![v442_r0.toNat, 0]
def k0_off30 (arg15_r0 : BitVec 32) : Fin 1 → Nat :=
  let c2_i32_294_r0 : BitVec 32 := 2#32
  let v461_r0 : BitVec 32 := Scalar.remui arg15_r0 c2_i32_294_r0
  ![v461_r0.toNat]
def k0_cond9 (k0_t1 : Fin k0_t1_loop.trips) (arg23_r0 : BitVec 32) : BitVec 1 :=
  let c0_i32_123_r0 : BitVec 32 := 0#32
  let v113_r0 : BitVec 32 := Scalar.addi arg23_r0 c0_i32_123_r0
  let c0_i32_155_r0 : BitVec 32 := 0#32
  let v155_r0 : BitVec 1 := Scalar.cmpi .sgt v113_r0 c0_i32_155_r0
  let v156_r0 : BitVec 32 := Scalar.extui v155_r0
  let c0_i32_156_r0 : BitVec 32 := 0#32
  let v157_r0 : BitVec 1 := Scalar.cmpi .slt v113_r0 c0_i32_156_r0
  let v158_r0 : BitVec 32 := Scalar.extui v157_r0
  let v159_r0 : BitVec 32 := Scalar.subi v156_r0 v158_r0
  let c16_i32_r0 : BitVec 32 := 16#32
  let c0_i32_157_r0 : BitVec 32 := 0#32
  let v160_r0 : BitVec 1 := Scalar.cmpi .sgt c16_i32_r0 c0_i32_157_r0
  let v161_r0 : BitVec 32 := Scalar.extui v160_r0
  let c0_i32_158_r0 : BitVec 32 := 0#32
  let v162_r0 : BitVec 1 := Scalar.cmpi .slt c16_i32_r0 c0_i32_158_r0
  let v163_r0 : BitVec 32 := Scalar.extui v162_r0
  let v164_r0 : BitVec 32 := Scalar.subi v161_r0 v163_r0
  let v165_r0 : BitVec 1 := Scalar.cmpi .ne v159_r0 v164_r0
  let v166_r0 : BitVec 32 := Scalar.remsi v113_r0 c16_i32_r0
  let c0_i32_159_r0 : BitVec 32 := 0#32
  let v167_r0 : BitVec 1 := Scalar.cmpi .ne v166_r0 c0_i32_159_r0
  let v168_r0 : BitVec 1 := Scalar.andi v165_r0 v167_r0
  let v154_r0 : BitVec 32 := Scalar.divsi v113_r0 c16_i32_r0
  let c1_i32_160_r0 : BitVec 32 := 1#32
  let v169_r0 : BitVec 32 := Scalar.subi v154_r0 c1_i32_160_r0
  let v170_r0 : BitVec 32 := Scalar.select v168_r0 v169_r0 v154_r0
  let c4_i32_161_r0 : BitVec 32 := 4#32
  let v171_r0 : BitVec 32 := Scalar.minsi v170_r0 c4_i32_161_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let c0_i32_191_r0 : BitVec 32 := 0#32
  let v231_r0 : BitVec 1 := Scalar.cmpi .sgt v118_r0 c0_i32_191_r0
  let v232_r0 : BitVec 32 := Scalar.extui v231_r0
  let c0_i32_192_r0 : BitVec 32 := 0#32
  let v233_r0 : BitVec 1 := Scalar.cmpi .slt v118_r0 c0_i32_192_r0
  let v234_r0 : BitVec 32 := Scalar.extui v233_r0
  let v235_r0 : BitVec 32 := Scalar.subi v232_r0 v234_r0
  let c16_i32_190_r0 : BitVec 32 := 16#32
  let c0_i32_193_r0 : BitVec 32 := 0#32
  let v236_r0 : BitVec 1 := Scalar.cmpi .sgt c16_i32_190_r0 c0_i32_193_r0
  let v237_r0 : BitVec 32 := Scalar.extui v236_r0
  let c0_i32_194_r0 : BitVec 32 := 0#32
  let v238_r0 : BitVec 1 := Scalar.cmpi .slt c16_i32_190_r0 c0_i32_194_r0
  let v239_r0 : BitVec 32 := Scalar.extui v238_r0
  let v240_r0 : BitVec 32 := Scalar.subi v237_r0 v239_r0
  let v241_r0 : BitVec 1 := Scalar.cmpi .ne v235_r0 v240_r0
  let v242_r0 : BitVec 32 := Scalar.remsi v118_r0 c16_i32_190_r0
  let c0_i32_195_r0 : BitVec 32 := 0#32
  let v243_r0 : BitVec 1 := Scalar.cmpi .ne v242_r0 c0_i32_195_r0
  let v244_r0 : BitVec 1 := Scalar.andi v241_r0 v243_r0
  let v230_r0 : BitVec 32 := Scalar.divsi v118_r0 c16_i32_190_r0
  let c1_i32_196_r0 : BitVec 32 := 1#32
  let v245_r0 : BitVec 32 := Scalar.subi v230_r0 c1_i32_196_r0
  let v246_r0 : BitVec 32 := Scalar.select v244_r0 v245_r0 v230_r0
  let c4_i32_197_r0 : BitVec 32 := 4#32
  let v247_r0 : BitVec 32 := Scalar.minsi v246_r0 c4_i32_197_r0
  let v248_r0 : BitVec 1 := Scalar.cmpi .ne v171_r0 v247_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let v249_r0 : BitVec 1 := Scalar.ori v248_r0 v111_r0
  let c0_i32_198_r0 : BitVec 32 := 0#32
  let v250_r0 : BitVec 1 := Scalar.cmpi .sge arg8_r0 c0_i32_198_r0
  let v251_r0 : BitVec 1 := Scalar.andi v249_r0 v250_r0
  let v252_r0 : BitVec 32 := Scalar.extui v251_r0
  let c0_i32_199_r0 : BitVec 32 := 0#32
  let v253_r0 : BitVec 1 := Scalar.cmpi .ne v252_r0 c0_i32_199_r0
  v253_r0

def k0_off31 (arg15_r0 : BitVec 32) : Fin 4 → Nat :=
  let c2_i32_294_r0 : BitVec 32 := 2#32
  let v461_r0 : BitVec 32 := Scalar.remui arg15_r0 c2_i32_294_r0
  let c0_i32_295_r0 : BitVec 32 := 0#32
  let c0_i32_296_r0 : BitVec 32 := 0#32
  let c0_i32_297_r0 : BitVec 32 := 0#32
  ![v461_r0.toNat, 0, 0, 0]
def k0_off32 (arg23_r0 : BitVec 32) : Fin 3 → Nat :=
  let c1_i32_293_r0 : BitVec 32 := 1#32
  let c0_i32_123_r0 : BitVec 32 := 0#32
  let v113_r0 : BitVec 32 := Scalar.addi arg23_r0 c0_i32_123_r0
  let c0_i32_286_r0 : BitVec 32 := 0#32
  let v443_r0 : BitVec 1 := Scalar.cmpi .sgt v113_r0 c0_i32_286_r0
  let v444_r0 : BitVec 32 := Scalar.extui v443_r0
  let c0_i32_287_r0 : BitVec 32 := 0#32
  let v445_r0 : BitVec 1 := Scalar.cmpi .slt v113_r0 c0_i32_287_r0
  let v446_r0 : BitVec 32 := Scalar.extui v445_r0
  let v447_r0 : BitVec 32 := Scalar.subi v444_r0 v446_r0
  let c16_i32_285_r0 : BitVec 32 := 16#32
  let c0_i32_288_r0 : BitVec 32 := 0#32
  let v448_r0 : BitVec 1 := Scalar.cmpi .sgt c16_i32_285_r0 c0_i32_288_r0
  let v449_r0 : BitVec 32 := Scalar.extui v448_r0
  let c0_i32_289_r0 : BitVec 32 := 0#32
  let v450_r0 : BitVec 1 := Scalar.cmpi .slt c16_i32_285_r0 c0_i32_289_r0
  let v451_r0 : BitVec 32 := Scalar.extui v450_r0
  let v452_r0 : BitVec 32 := Scalar.subi v449_r0 v451_r0
  let v453_r0 : BitVec 1 := Scalar.cmpi .ne v447_r0 v452_r0
  let v454_r0 : BitVec 32 := Scalar.remsi v113_r0 c16_i32_285_r0
  let c0_i32_290_r0 : BitVec 32 := 0#32
  let v455_r0 : BitVec 1 := Scalar.cmpi .ne v454_r0 c0_i32_290_r0
  let v456_r0 : BitVec 1 := Scalar.andi v453_r0 v455_r0
  let v442_r0 : BitVec 32 := Scalar.divsi v113_r0 c16_i32_285_r0
  let c1_i32_291_r0 : BitVec 32 := 1#32
  let v457_r0 : BitVec 32 := Scalar.subi v442_r0 c1_i32_291_r0
  let v458_r0 : BitVec 32 := Scalar.select v456_r0 v457_r0 v442_r0
  let c4_i32_292_r0 : BitVec 32 := 4#32
  let v459_r0 : BitVec 32 := Scalar.minsi v458_r0 c4_i32_292_r0
  let v460_r0 : BitVec 32 := Scalar.muli c1_i32_293_r0 v459_r0
  let c0_i32_298_r0 : BitVec 32 := 0#32
  let c0_i32_299_r0 : BitVec 32 := 0#32
  ![v460_r0.toNat, 0, 0]
def k0_off33 (arg18_r0 : BitVec 32) : Fin 1 → Nat :=
  let c2_i32_294_r0 : BitVec 32 := 2#32
  let v461_r0 : BitVec 32 := Scalar.remui arg18_r0 c2_i32_294_r0
  ![v461_r0.toNat]
def k0_cond10 (k0_t1 : Fin k0_t1_loop.trips) (arg23_r0 : BitVec 32) : BitVec 1 :=
  let c0_i32_123_r0 : BitVec 32 := 0#32
  let v113_r0 : BitVec 32 := Scalar.addi arg23_r0 c0_i32_123_r0
  let c0_i32_155_r0 : BitVec 32 := 0#32
  let v155_r0 : BitVec 1 := Scalar.cmpi .sgt v113_r0 c0_i32_155_r0
  let v156_r0 : BitVec 32 := Scalar.extui v155_r0
  let c0_i32_156_r0 : BitVec 32 := 0#32
  let v157_r0 : BitVec 1 := Scalar.cmpi .slt v113_r0 c0_i32_156_r0
  let v158_r0 : BitVec 32 := Scalar.extui v157_r0
  let v159_r0 : BitVec 32 := Scalar.subi v156_r0 v158_r0
  let c16_i32_r0 : BitVec 32 := 16#32
  let c0_i32_157_r0 : BitVec 32 := 0#32
  let v160_r0 : BitVec 1 := Scalar.cmpi .sgt c16_i32_r0 c0_i32_157_r0
  let v161_r0 : BitVec 32 := Scalar.extui v160_r0
  let c0_i32_158_r0 : BitVec 32 := 0#32
  let v162_r0 : BitVec 1 := Scalar.cmpi .slt c16_i32_r0 c0_i32_158_r0
  let v163_r0 : BitVec 32 := Scalar.extui v162_r0
  let v164_r0 : BitVec 32 := Scalar.subi v161_r0 v163_r0
  let v165_r0 : BitVec 1 := Scalar.cmpi .ne v159_r0 v164_r0
  let v166_r0 : BitVec 32 := Scalar.remsi v113_r0 c16_i32_r0
  let c0_i32_159_r0 : BitVec 32 := 0#32
  let v167_r0 : BitVec 1 := Scalar.cmpi .ne v166_r0 c0_i32_159_r0
  let v168_r0 : BitVec 1 := Scalar.andi v165_r0 v167_r0
  let v154_r0 : BitVec 32 := Scalar.divsi v113_r0 c16_i32_r0
  let c1_i32_160_r0 : BitVec 32 := 1#32
  let v169_r0 : BitVec 32 := Scalar.subi v154_r0 c1_i32_160_r0
  let v170_r0 : BitVec 32 := Scalar.select v168_r0 v169_r0 v154_r0
  let c4_i32_161_r0 : BitVec 32 := 4#32
  let v171_r0 : BitVec 32 := Scalar.minsi v170_r0 c4_i32_161_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let c0_i32_191_r0 : BitVec 32 := 0#32
  let v231_r0 : BitVec 1 := Scalar.cmpi .sgt v118_r0 c0_i32_191_r0
  let v232_r0 : BitVec 32 := Scalar.extui v231_r0
  let c0_i32_192_r0 : BitVec 32 := 0#32
  let v233_r0 : BitVec 1 := Scalar.cmpi .slt v118_r0 c0_i32_192_r0
  let v234_r0 : BitVec 32 := Scalar.extui v233_r0
  let v235_r0 : BitVec 32 := Scalar.subi v232_r0 v234_r0
  let c16_i32_190_r0 : BitVec 32 := 16#32
  let c0_i32_193_r0 : BitVec 32 := 0#32
  let v236_r0 : BitVec 1 := Scalar.cmpi .sgt c16_i32_190_r0 c0_i32_193_r0
  let v237_r0 : BitVec 32 := Scalar.extui v236_r0
  let c0_i32_194_r0 : BitVec 32 := 0#32
  let v238_r0 : BitVec 1 := Scalar.cmpi .slt c16_i32_190_r0 c0_i32_194_r0
  let v239_r0 : BitVec 32 := Scalar.extui v238_r0
  let v240_r0 : BitVec 32 := Scalar.subi v237_r0 v239_r0
  let v241_r0 : BitVec 1 := Scalar.cmpi .ne v235_r0 v240_r0
  let v242_r0 : BitVec 32 := Scalar.remsi v118_r0 c16_i32_190_r0
  let c0_i32_195_r0 : BitVec 32 := 0#32
  let v243_r0 : BitVec 1 := Scalar.cmpi .ne v242_r0 c0_i32_195_r0
  let v244_r0 : BitVec 1 := Scalar.andi v241_r0 v243_r0
  let v230_r0 : BitVec 32 := Scalar.divsi v118_r0 c16_i32_190_r0
  let c1_i32_196_r0 : BitVec 32 := 1#32
  let v245_r0 : BitVec 32 := Scalar.subi v230_r0 c1_i32_196_r0
  let v246_r0 : BitVec 32 := Scalar.select v244_r0 v245_r0 v230_r0
  let c4_i32_197_r0 : BitVec 32 := 4#32
  let v247_r0 : BitVec 32 := Scalar.minsi v246_r0 c4_i32_197_r0
  let v254_r0 : BitVec 1 := Scalar.cmpi .ne v171_r0 v247_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let v255_r0 : BitVec 1 := Scalar.ori v254_r0 v111_r0
  let c0_i32_200_r0 : BitVec 32 := 0#32
  let v256_r0 : BitVec 1 := Scalar.cmpi .sge arg8_r0 c0_i32_200_r0
  let v257_r0 : BitVec 1 := Scalar.andi v255_r0 v256_r0
  let v258_r0 : BitVec 32 := Scalar.extui v257_r0
  let c0_i32_201_r0 : BitVec 32 := 0#32
  let v259_r0 : BitVec 1 := Scalar.cmpi .ne v258_r0 c0_i32_201_r0
  v259_r0

def k0_off34 (arg18_r0 : BitVec 32) : Fin 4 → Nat :=
  let c2_i32_294_r0 : BitVec 32 := 2#32
  let v461_r0 : BitVec 32 := Scalar.remui arg18_r0 c2_i32_294_r0
  let c0_i32_295_r0 : BitVec 32 := 0#32
  let c0_i32_296_r0 : BitVec 32 := 0#32
  let c0_i32_297_r0 : BitVec 32 := 0#32
  ![v461_r0.toNat, 0, 0, 0]
def k0_off35 (arg23_r0 : BitVec 32) : Fin 3 → Nat :=
  let c1_i32_293_r0 : BitVec 32 := 1#32
  let c0_i32_123_r0 : BitVec 32 := 0#32
  let v113_r0 : BitVec 32 := Scalar.addi arg23_r0 c0_i32_123_r0
  let c0_i32_286_r0 : BitVec 32 := 0#32
  let v443_r0 : BitVec 1 := Scalar.cmpi .sgt v113_r0 c0_i32_286_r0
  let v444_r0 : BitVec 32 := Scalar.extui v443_r0
  let c0_i32_287_r0 : BitVec 32 := 0#32
  let v445_r0 : BitVec 1 := Scalar.cmpi .slt v113_r0 c0_i32_287_r0
  let v446_r0 : BitVec 32 := Scalar.extui v445_r0
  let v447_r0 : BitVec 32 := Scalar.subi v444_r0 v446_r0
  let c16_i32_285_r0 : BitVec 32 := 16#32
  let c0_i32_288_r0 : BitVec 32 := 0#32
  let v448_r0 : BitVec 1 := Scalar.cmpi .sgt c16_i32_285_r0 c0_i32_288_r0
  let v449_r0 : BitVec 32 := Scalar.extui v448_r0
  let c0_i32_289_r0 : BitVec 32 := 0#32
  let v450_r0 : BitVec 1 := Scalar.cmpi .slt c16_i32_285_r0 c0_i32_289_r0
  let v451_r0 : BitVec 32 := Scalar.extui v450_r0
  let v452_r0 : BitVec 32 := Scalar.subi v449_r0 v451_r0
  let v453_r0 : BitVec 1 := Scalar.cmpi .ne v447_r0 v452_r0
  let v454_r0 : BitVec 32 := Scalar.remsi v113_r0 c16_i32_285_r0
  let c0_i32_290_r0 : BitVec 32 := 0#32
  let v455_r0 : BitVec 1 := Scalar.cmpi .ne v454_r0 c0_i32_290_r0
  let v456_r0 : BitVec 1 := Scalar.andi v453_r0 v455_r0
  let v442_r0 : BitVec 32 := Scalar.divsi v113_r0 c16_i32_285_r0
  let c1_i32_291_r0 : BitVec 32 := 1#32
  let v457_r0 : BitVec 32 := Scalar.subi v442_r0 c1_i32_291_r0
  let v458_r0 : BitVec 32 := Scalar.select v456_r0 v457_r0 v442_r0
  let c4_i32_292_r0 : BitVec 32 := 4#32
  let v459_r0 : BitVec 32 := Scalar.minsi v458_r0 c4_i32_292_r0
  let v460_r0 : BitVec 32 := Scalar.muli c1_i32_293_r0 v459_r0
  let c0_i32_298_r0 : BitVec 32 := 0#32
  let c0_i32_299_r0 : BitVec 32 := 0#32
  ![v460_r0.toNat, 0, 0]
def k0_off36 (arg15_r0 : BitVec 32) : Fin 4 → Nat :=
  let c2_i32_208_r0 : BitVec 32 := 2#32
  let v274_r0 : BitVec 32 := Scalar.remui arg15_r0 c2_i32_208_r0
  let c0_i32_212_r0 : BitVec 32 := 0#32
  let c0_i32_213_r0 : BitVec 32 := 0#32
  let c0_i32_214_r0 : BitVec 32 := 0#32
  ![v274_r0.toNat, 0, 0, 0]

def k0_chk2 (arg15_r0 : BitVec 32) : Prop :=
  (∀ a, (k0_off36 arg15_r0) a + S1x1x9x4096.size a ≤ S2x1x9x4096.size a)
theorem k0_off36_inb : ∀ (arg15_r0 : BitVec 32) (k0_hw2 : k0_chk2 arg15_r0), ∀ a, (k0_off36 arg15_r0) a + S1x1x9x4096.size a ≤ S2x1x9x4096.size a := fun arg15_r0 k0_hw2 => k0_hw2

def k0_off37 (arg12_r0 : BitVec 32) : Fin 3 → Nat :=
  let c3_i32_207_r0 : BitVec 32 := 3#32
  let v273_r0 : BitVec 32 := Scalar.remui arg12_r0 c3_i32_207_r0
  let v282_r0 : Index := Scalar.indexCast v273_r0
  let c0_217_r0 : Index := 0#32
  let c0_218_r0 : Index := 0#32
  ![v282_r0.toNat, 0, 0]

def k0_chk3 (arg12_r0 : BitVec 32) : Prop :=
  (∀ a, (k0_off37 arg12_r0) a + S1x256x4096.size a ≤ S3x256x4096.size a)
theorem k0_off37_inb : ∀ (arg12_r0 : BitVec 32) (k0_hw3 : k0_chk3 arg12_r0), ∀ a, (k0_off37 arg12_r0) a + S1x256x4096.size a ≤ S3x256x4096.size a := fun arg12_r0 k0_hw3 => k0_hw3

def k0_off38 (arg10_r0 : BitVec 32) : Fin 3 → Nat :=
  let c3_i32_206_r0 : BitVec 32 := 3#32
  let v272_r0 : BitVec 32 := Scalar.remui arg10_r0 c3_i32_206_r0
  let v286_r0 : Index := Scalar.indexCast v272_r0
  let c0_219_r0 : Index := 0#32
  let c0_220_r0 : Index := 0#32
  ![v286_r0.toNat, 0, 0]

def k0_chk4 (arg10_r0 : BitVec 32) : Prop :=
  (∀ a, (k0_off38 arg10_r0) a + S1x256x4096.size a ≤ S3x256x4096.size a)
theorem k0_off38_inb : ∀ (arg10_r0 : BitVec 32) (k0_hw4 : k0_chk4 arg10_r0), ∀ a, (k0_off38 arg10_r0) a + S1x256x4096.size a ≤ S3x256x4096.size a := fun arg10_r0 k0_hw4 => k0_hw4

def k0_off39 (arg19_r0 : BitVec 32) : Fin 3 → Nat :=
  let c2_i32_210_r0 : BitVec 32 := 2#32
  let v276_r0 : BitVec 32 := Scalar.remui arg19_r0 c2_i32_210_r0
  let v308_r0 : Index := Scalar.indexCast v276_r0
  let c0_225_r0 : Index := 0#32
  let c0_226_r0 : Index := 0#32
  ![v308_r0.toNat, 0, 0]

def k0_chk5 (arg19_r0 : BitVec 32) : Prop :=
  (∀ a, (k0_off39 arg19_r0) a + S1x256x4096.size a ≤ S2x256x4096.size a)
theorem k0_off39_inb : ∀ (arg19_r0 : BitVec 32) (k0_hw5 : k0_chk5 arg19_r0), ∀ a, (k0_off39 arg19_r0) a + S1x256x4096.size a ≤ S2x256x4096.size a := fun arg19_r0 k0_hw5 => k0_hw5

def k0_off40 (arg18_r0 : BitVec 32) : Fin 4 → Nat :=
  let c2_i32_209_r0 : BitVec 32 := 2#32
  let v275_r0 : BitVec 32 := Scalar.remui arg18_r0 c2_i32_209_r0
  let c0_i32_227_r0 : BitVec 32 := 0#32
  let c0_i32_228_r0 : BitVec 32 := 0#32
  let c0_i32_229_r0 : BitVec 32 := 0#32
  ![v275_r0.toNat, 0, 0, 0]

def k0_chk6 (arg18_r0 : BitVec 32) : Prop :=
  (∀ a, (k0_off40 arg18_r0) a + S1x1x9x4096.size a ≤ S2x1x9x4096.size a)
theorem k0_off40_inb : ∀ (arg18_r0 : BitVec 32) (k0_hw6 : k0_chk6 arg18_r0), ∀ a, (k0_off40 arg18_r0) a + S1x1x9x4096.size a ≤ S2x1x9x4096.size a := fun arg18_r0 k0_hw6 => k0_hw6

def k0_off41 (arg21_r0 : BitVec 32) : Fin 3 → Nat :=
  let c2_i32_211_r0 : BitVec 32 := 2#32
  let v277_r0 : BitVec 32 := Scalar.remui arg21_r0 c2_i32_211_r0
  let v338_r0 : Index := Scalar.indexCast v277_r0
  let c0_238_r0 : Index := 0#32
  let c0_239_r0 : Index := 0#32
  ![v338_r0.toNat, 0, 0]

def k0_chk7 (arg21_r0 : BitVec 32) : Prop :=
  (∀ a, (k0_off41 arg21_r0) a + S1x256x4096.size a ≤ S2x256x4096.size a) ∧
  (∀ (hinb : ∀ a, (k0_off41 arg21_r0) a + S1x256x4096.size a ≤ S2x256x4096.size a), (Rect.unit (s := S2x256x4096) (k0_off41 arg21_r0) S1x256x4096.size hinb).PackedRows (EltTy.packing .bf16))
theorem k0_off41_inb : ∀ (arg21_r0 : BitVec 32) (k0_hw7 : k0_chk7 arg21_r0), ∀ a, (k0_off41 arg21_r0) a + S1x256x4096.size a ≤ S2x256x4096.size a := fun arg21_r0 k0_hw7 => k0_hw7.1
theorem k0_off41_packedbf16 : ∀ (arg21_r0 : BitVec 32) (k0_hw7 : k0_chk7 arg21_r0), (Rect.unit (s := S2x256x4096) (k0_off41 arg21_r0) S1x256x4096.size (k0_off41_inb arg21_r0 k0_hw7)).PackedRows (EltTy.packing .bf16) := fun arg21_r0 k0_hw7 => k0_hw7.2 (k0_off41_inb arg21_r0 k0_hw7)

def k0_off42 (arg19_r0 : BitVec 32) : Fin 1 → Nat :=
  let c2_i32_285_r0 : BitVec 32 := 2#32
  let v442_r0 : BitVec 32 := Scalar.remui arg19_r0 c2_i32_285_r0
  ![v442_r0.toNat]
def k0_cond17 (k0_t1 : Fin k0_t1_loop.trips) (arg23_r0 : BitVec 32) : BitVec 1 :=
  let c0_i32_123_r0 : BitVec 32 := 0#32
  let v113_r0 : BitVec 32 := Scalar.addi arg23_r0 c0_i32_123_r0
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let v362_r0 : BitVec 1 := Scalar.cmpi .ne v113_r0 v123_r0
  let c0_i32_83_r0 : BitVec 32 := 0#32
  let c1_i32_85_r0 : BitVec 32 := 1#32
  let arg8_r0 : BitVec 32 := Scf.iv c0_i32_83_r0 c1_i32_85_r0 k0_t1
  let c67_i32_122_r0 : BitVec 32 := 67#32
  let v112_r0 : BitVec 1 := Scalar.cmpi .eq arg8_r0 c67_i32_122_r0
  let v363_r0 : BitVec 1 := Scalar.ori v362_r0 v112_r0
  let v364_r0 : BitVec 32 := Scalar.extui v363_r0
  let c0_i32_247_r0 : BitVec 32 := 0#32
  let v365_r0 : BitVec 1 := Scalar.cmpi .ne v364_r0 c0_i32_247_r0
  v365_r0

def k0_off43 (arg23_r0 : BitVec 32) : Fin 2 → Nat :=
  let c256_i32_286_r0 : BitVec 32 := 256#32
  let c0_i32_123_r0 : BitVec 32 := 0#32
  let v113_r0 : BitVec 32 := Scalar.addi arg23_r0 c0_i32_123_r0
  let v443_r0 : BitVec 32 := Scalar.muli c256_i32_286_r0 v113_r0
  let c0_i32_287_r0 : BitVec 32 := 0#32
  ![v443_r0.toNat, 0]
def k0_off44 (arg19_r0 : BitVec 32) : Fin 3 → Nat :=
  let c2_i32_285_r0 : BitVec 32 := 2#32
  let v442_r0 : BitVec 32 := Scalar.remui arg19_r0 c2_i32_285_r0
  let c0_i32_288_r0 : BitVec 32 := 0#32
  let c0_i32_289_r0 : BitVec 32 := 0#32
  ![v442_r0.toNat, 0, 0]
def k0_off45 (arg21_r0 : BitVec 32) : Fin 1 → Nat :=
  let c2_i32_285_r0 : BitVec 32 := 2#32
  let v442_r0 : BitVec 32 := Scalar.remui arg21_r0 c2_i32_285_r0
  ![v442_r0.toNat]
def k0_cond18 (k0_t1 : Fin k0_t1_loop.trips) (arg23_r0 : BitVec 32) : BitVec 1 :=
  let c0_i32_123_r0 : BitVec 32 := 0#32
  let v113_r0 : BitVec 32 := Scalar.addi arg23_r0 c0_i32_123_r0
  let true_130_r0 : BitVec 1 := 1#1
  let c1_i32_129_r0 : BitVec 32 := 1#32
  let v119_r0 : BitVec 32 := Scalar.addi arg23_r0 c1_i32_129_r0
  let v120_r0 : BitVec 32 := Scalar.select true_130_r0 v119_r0 arg23_r0
  let c68_i32_131_r0 : BitVec 32 := 68#32
  let v121_r0 : BitVec 1 := Scalar.cmpi .eq v120_r0 c68_i32_131_r0
  let c0_i32_132_r0 : BitVec 32 := 0#32
  let v122_r0 : BitVec 32 := Scalar.select v121_r0 c0_i32_132_r0 v120_r0
  let c0_i32_133_r0 : BitVec 32 := 0#32
  let v123_r0 : BitVec 32 := Scalar.addi v122_r0 c0_i32_133_r0
  let v369_r0 : BitVec 1 := Scalar.cmpi .ne v113_r0 v123_r0
  let c0_i32_83_r0 : BitVec 32 := 0#32
  let c1_i32_85_r0 : BitVec 32 := 1#32
  let arg8_r0 : BitVec 32 := Scf.iv c0_i32_83_r0 c1_i32_85_r0 k0_t1
  let c67_i32_122_r0 : BitVec 32 := 67#32
  let v112_r0 : BitVec 1 := Scalar.cmpi .eq arg8_r0 c67_i32_122_r0
  let v370_r0 : BitVec 1 := Scalar.ori v369_r0 v112_r0
  let v371_r0 : BitVec 32 := Scalar.extui v370_r0
  let c0_i32_250_r0 : BitVec 32 := 0#32
  let v372_r0 : BitVec 1 := Scalar.cmpi .ne v371_r0 c0_i32_250_r0
  v372_r0

def k0_off46 (arg23_r0 : BitVec 32) : Fin 2 → Nat :=
  let c256_i32_286_r0 : BitVec 32 := 256#32
  let c0_i32_123_r0 : BitVec 32 := 0#32
  let v113_r0 : BitVec 32 := Scalar.addi arg23_r0 c0_i32_123_r0
  let v443_r0 : BitVec 32 := Scalar.muli c256_i32_286_r0 v113_r0
  let c0_i32_287_r0 : BitVec 32 := 0#32
  ![v443_r0.toNat, 0]
def k0_off47 (arg21_r0 : BitVec 32) : Fin 3 → Nat :=
  let c2_i32_285_r0 : BitVec 32 := 2#32
  let v442_r0 : BitVec 32 := Scalar.remui arg21_r0 c2_i32_285_r0
  let c0_i32_288_r0 : BitVec 32 := 0#32
  let c0_i32_289_r0 : BitVec 32 := 0#32
  ![v442_r0.toNat, 0, 0]
def k0_off48 (arg20_r0 : BitVec 32) : Fin 1 → Nat :=
  let c2_i32_285_r0 : BitVec 32 := 2#32
  let v442_r0 : BitVec 32 := Scalar.remui arg20_r0 c2_i32_285_r0
  ![v442_r0.toNat]
def k0_cond23 (k0_t1 : Fin k0_t1_loop.trips) (arg23_r0 : BitVec 32) : BitVec 1 :=
  let c0_i32_123_r0 : BitVec 32 := 0#32
  let v113_r0 : BitVec 32 := Scalar.addi arg23_r0 c0_i32_123_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v400_r0 : BitVec 1 := Scalar.cmpi .ne v113_r0 v118_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let true_265_r0 : BitVec 1 := 1#1
  let v401_r0 : BitVec 1 := Scalar.xori v111_r0 true_265_r0
  let v402_r0 : BitVec 1 := Scalar.andi v400_r0 v401_r0
  let v403_r0 : BitVec 32 := Scalar.extui v402_r0
  let c0_i32_266_r0 : BitVec 32 := 0#32
  let v404_r0 : BitVec 1 := Scalar.cmpi .ne v403_r0 c0_i32_266_r0
  v404_r0

def k0_off49 (arg23_r0 : BitVec 32) : Fin 2 → Nat :=
  let c256_i32_286_r0 : BitVec 32 := 256#32
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v443_r0 : BitVec 32 := Scalar.muli c256_i32_286_r0 v118_r0
  let c0_i32_287_r0 : BitVec 32 := 0#32
  ![v443_r0.toNat, 0]
def k0_off50 (arg20_r0 : BitVec 32) : Fin 3 → Nat :=
  let c2_i32_285_r0 : BitVec 32 := 2#32
  let v442_r0 : BitVec 32 := Scalar.remui arg20_r0 c2_i32_285_r0
  let c0_i32_288_r0 : BitVec 32 := 0#32
  let c0_i32_289_r0 : BitVec 32 := 0#32
  ![v442_r0.toNat, 0, 0]
def k0_off51 (arg22_r0 : BitVec 32) : Fin 1 → Nat :=
  let c2_i32_285_r0 : BitVec 32 := 2#32
  let v442_r0 : BitVec 32 := Scalar.remui arg22_r0 c2_i32_285_r0
  ![v442_r0.toNat]
def k0_cond24 (k0_t1 : Fin k0_t1_loop.trips) (arg23_r0 : BitVec 32) : BitVec 1 :=
  let c0_i32_123_r0 : BitVec 32 := 0#32
  let v113_r0 : BitVec 32 := Scalar.addi arg23_r0 c0_i32_123_r0
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v408_r0 : BitVec 1 := Scalar.cmpi .ne v113_r0 v118_r0
  let c0_i32_83_r0 : BitVec 32 := 0#32
  let c1_i32_85_r0 : BitVec 32 := 1#32
  let arg8_r0 : BitVec 32 := Scf.iv c0_i32_83_r0 c1_i32_85_r0 k0_t1
  let c0_i32_121_r0 : BitVec 32 := 0#32
  let v111_r0 : BitVec 1 := Scalar.cmpi .eq arg8_r0 c0_i32_121_r0
  let true_269_r0 : BitVec 1 := 1#1
  let v409_r0 : BitVec 1 := Scalar.xori v111_r0 true_269_r0
  let v410_r0 : BitVec 1 := Scalar.andi v408_r0 v409_r0
  let v411_r0 : BitVec 32 := Scalar.extui v410_r0
  let c0_i32_270_r0 : BitVec 32 := 0#32
  let v412_r0 : BitVec 1 := Scalar.cmpi .ne v411_r0 c0_i32_270_r0
  v412_r0

def k0_off52 (arg23_r0 : BitVec 32) : Fin 2 → Nat :=
  let c256_i32_286_r0 : BitVec 32 := 256#32
  let true_125_r0 : BitVec 1 := 1#1
  let c1_i32_124_r0 : BitVec 32 := 1#32
  let v114_r0 : BitVec 32 := Scalar.subi arg23_r0 c1_i32_124_r0
  let v115_r0 : BitVec 32 := Scalar.select true_125_r0 v114_r0 arg23_r0
  let c_m1_i32_126_r0 : BitVec 32 := 4294967295#32
  let v116_r0 : BitVec 1 := Scalar.cmpi .eq v115_r0 c_m1_i32_126_r0
  let c67_i32_127_r0 : BitVec 32 := 67#32
  let v117_r0 : BitVec 32 := Scalar.select v116_r0 c67_i32_127_r0 v115_r0
  let c0_i32_128_r0 : BitVec 32 := 0#32
  let v118_r0 : BitVec 32 := Scalar.addi v117_r0 c0_i32_128_r0
  let v443_r0 : BitVec 32 := Scalar.muli c256_i32_286_r0 v118_r0
  let c0_i32_287_r0 : BitVec 32 := 0#32
  ![v443_r0.toNat, 0]
def k0_off53 (arg22_r0 : BitVec 32) : Fin 3 → Nat :=
  let c2_i32_285_r0 : BitVec 32 := 2#32
  let v442_r0 : BitVec 32 := Scalar.remui arg22_r0 c2_i32_285_r0
  let c0_i32_288_r0 : BitVec 32 := 0#32
  let c0_i32_289_r0 : BitVec 32 := 0#32
  ![v442_r0.toNat, 0, 0]

def k0_chk1_0 (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h3 : k0_cond3 k0_t1 arg23_r0 = 1#1), ∀ a, (k0_off12 arg9_r0) a + S1.size a ≤ S3.size a) ∧
  (∀ (k0_h3 : k0_cond3 k0_t1 arg23_r0 = 1#1), ∀ a, (k0_off13 arg9_r0) a + S1x256x4096.size a ≤ S3x256x4096.size a) ∧
  (∀ (k0_h3 : k0_cond3 k0_t1 arg23_r0 = 1#1), ∀ a, (k0_off14 arg23_r0) a + S256x4096.size a ≤ S17408x4096.size a) ∧
  (∀ (k0_h3 : k0_cond3 k0_t1 arg23_r0 = 1#1), ∀ (hinb : ∀ a, (k0_off14 arg23_r0) a + S256x4096.size a ≤ S17408x4096.size a), (Rect.unit (s := S17408x4096) (k0_off14 arg23_r0) S256x4096.size hinb).WholeWords (EltTy.packing .bf16)) ∧
  (∀ (k0_h3 : k0_cond3 k0_t1 arg23_r0 = 1#1), ∀ (hinb : ∀ a, (k0_off13 arg9_r0) a + S1x256x4096.size a ≤ S3x256x4096.size a), (Rect.unit (s := S3x256x4096) (k0_off13 arg9_r0) S1x256x4096.size hinb).WholeWords (EltTy.packing .bf16)) ∧
  (∀ (k0_h4 : k0_cond4 k0_t1 arg23_r0 = 1#1), ∀ a, (k0_off15 arg11_r0) a + S1.size a ≤ S3.size a) ∧
  (∀ (k0_h4 : k0_cond4 k0_t1 arg23_r0 = 1#1), ∀ a, (k0_off16 arg11_r0) a + S1x256x4096.size a ≤ S3x256x4096.size a) ∧
  (∀ (k0_h4 : k0_cond4 k0_t1 arg23_r0 = 1#1), ∀ a, (k0_off17 arg23_r0) a + S256x4096.size a ≤ S17408x4096.size a) ∧
  (∀ (k0_h5 : k0_cond5 k0_t1 arg23_r0 = 1#1), ∀ a, (k0_off18 arg14_r0) a + S1.size a ≤ S2.size a) ∧
  (∀ (k0_h5 : k0_cond5 k0_t1 arg23_r0 = 1#1), ∀ a, (k0_off19 arg14_r0) a + S1x1x9x4096.size a ≤ S2x1x9x4096.size a) ∧
  (∀ (k0_h5 : k0_cond5 k0_t1 arg23_r0 = 1#1), ∀ a, (k0_off20 arg23_r0) a + S1x9x4096.size a ≤ S8x9x4096.size a) ∧
  (∀ (k0_h6 : k0_cond6 k0_t1 arg23_r0 = 1#1), ∀ a, (k0_off21 arg17_r0) a + S1.size a ≤ S2.size a) ∧
  (∀ (k0_h6 : k0_cond6 k0_t1 arg23_r0 = 1#1), ∀ a, (k0_off22 arg17_r0) a + S1x1x9x4096.size a ≤ S2x1x9x4096.size a) ∧
  (∀ (k0_h6 : k0_cond6 k0_t1 arg23_r0 = 1#1), ∀ a, (k0_off23 arg23_r0) a + S1x9x4096.size a ≤ S8x9x4096.size a) ∧
  (∀ (k0_h7 : k0_cond7 k0_t1 arg23_r0 = 1#1), ∀ a, (k0_off24 arg10_r0) a + S1.size a ≤ S3.size a) ∧
  (∀ (k0_h7 : k0_cond7 k0_t1 arg23_r0 = 1#1), ∀ a, (k0_off25 arg10_r0) a + S1x256x4096.size a ≤ S3x256x4096.size a) ∧
  (∀ (k0_h7 : k0_cond7 k0_t1 arg23_r0 = 1#1), ∀ a, (k0_off26 arg23_r0) a + S256x4096.size a ≤ S17408x4096.size a) ∧
  (∀ (k0_h7 : k0_cond7 k0_t1 arg23_r0 = 1#1), ∀ (hinb : ∀ a, (k0_off26 arg23_r0) a + S256x4096.size a ≤ S17408x4096.size a), (Rect.unit (s := S17408x4096) (k0_off26 arg23_r0) S256x4096.size hinb).WholeWords (EltTy.packing .bf16)) ∧
  (∀ (k0_h7 : k0_cond7 k0_t1 arg23_r0 = 1#1), ∀ (hinb : ∀ a, (k0_off25 arg10_r0) a + S1x256x4096.size a ≤ S3x256x4096.size a), (Rect.unit (s := S3x256x4096) (k0_off25 arg10_r0) S1x256x4096.size hinb).WholeWords (EltTy.packing .bf16)) ∧
  (∀ (k0_h8 : k0_cond8 k0_t1 arg23_r0 = 1#1), ∀ a, (k0_off27 arg12_r0) a + S1.size a ≤ S3.size a) ∧
  (∀ (k0_h8 : k0_cond8 k0_t1 arg23_r0 = 1#1), ∀ a, (k0_off28 arg12_r0) a + S1x256x4096.size a ≤ S3x256x4096.size a) ∧
  (∀ (k0_h8 : k0_cond8 k0_t1 arg23_r0 = 1#1), ∀ a, (k0_off29 arg23_r0) a + S256x4096.size a ≤ S17408x4096.size a) ∧
  (∀ (k0_h9 : k0_cond9 k0_t1 arg23_r0 = 1#1), ∀ a, (k0_off30 arg15_r0) a + S1.size a ≤ S2.size a) ∧
  (∀ (k0_h9 : k0_cond9 k0_t1 arg23_r0 = 1#1), ∀ a, (k0_off31 arg15_r0) a + S1x1x9x4096.size a ≤ S2x1x9x4096.size a) ∧
  (∀ (k0_h9 : k0_cond9 k0_t1 arg23_r0 = 1#1), ∀ a, (k0_off32 arg23_r0) a + S1x9x4096.size a ≤ S8x9x4096.size a) ∧
  (∀ (k0_h10 : k0_cond10 k0_t1 arg23_r0 = 1#1), ∀ a, (k0_off33 arg18_r0) a + S1.size a ≤ S2.size a) ∧
  (∀ (k0_h10 : k0_cond10 k0_t1 arg23_r0 = 1#1), ∀ a, (k0_off34 arg18_r0) a + S1x1x9x4096.size a ≤ S2x1x9x4096.size a) ∧
  (∀ (k0_h10 : k0_cond10 k0_t1 arg23_r0 = 1#1), ∀ a, (k0_off35 arg23_r0) a + S1x9x4096.size a ≤ S8x9x4096.size a) ∧
  (∀ (k0_h17 : k0_cond17 k0_t1 arg23_r0 = 1#1), ∀ a, (k0_off42 arg19_r0) a + S1.size a ≤ S2.size a) ∧
  (∀ (k0_h17 : k0_cond17 k0_t1 arg23_r0 = 1#1), ∀ a, (k0_off43 arg23_r0) a + S256x4096.size a ≤ S17408x4096.size a) ∧
  (∀ (k0_h17 : k0_cond17 k0_t1 arg23_r0 = 1#1), ∀ a, (k0_off44 arg19_r0) a + S1x256x4096.size a ≤ S2x256x4096.size a) ∧
  (∀ (k0_h18 : k0_cond18 k0_t1 arg23_r0 = 1#1), ∀ a, (k0_off45 arg21_r0) a + S1.size a ≤ S2.size a)
def k0_chk1_1 (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h18 : k0_cond18 k0_t1 arg23_r0 = 1#1), ∀ a, (k0_off46 arg23_r0) a + S256x4096.size a ≤ S17408x4096.size a) ∧
  (∀ (k0_h18 : k0_cond18 k0_t1 arg23_r0 = 1#1), ∀ a, (k0_off47 arg21_r0) a + S1x256x4096.size a ≤ S2x256x4096.size a) ∧
  (∀ (k0_h18 : k0_cond18 k0_t1 arg23_r0 = 1#1), ∀ (hinb : ∀ a, (k0_off47 arg21_r0) a + S1x256x4096.size a ≤ S2x256x4096.size a), (Rect.unit (s := S2x256x4096) (k0_off47 arg21_r0) S1x256x4096.size hinb).WholeWords (EltTy.packing .bf16)) ∧
  (∀ (k0_h18 : k0_cond18 k0_t1 arg23_r0 = 1#1), ∀ (hinb : ∀ a, (k0_off46 arg23_r0) a + S256x4096.size a ≤ S17408x4096.size a), (Rect.unit (s := S17408x4096) (k0_off46 arg23_r0) S256x4096.size hinb).WholeWords (EltTy.packing .bf16)) ∧
  (∀ (k0_h23 : k0_cond23 k0_t1 arg23_r0 = 1#1), ∀ a, (k0_off48 arg20_r0) a + S1.size a ≤ S2.size a) ∧
  (∀ (k0_h23 : k0_cond23 k0_t1 arg23_r0 = 1#1), ∀ a, (k0_off49 arg23_r0) a + S256x4096.size a ≤ S17408x4096.size a) ∧
  (∀ (k0_h23 : k0_cond23 k0_t1 arg23_r0 = 1#1), ∀ a, (k0_off50 arg20_r0) a + S1x256x4096.size a ≤ S2x256x4096.size a) ∧
  (∀ (k0_h24 : k0_cond24 k0_t1 arg23_r0 = 1#1), ∀ a, (k0_off51 arg22_r0) a + S1.size a ≤ S2.size a) ∧
  (∀ (k0_h24 : k0_cond24 k0_t1 arg23_r0 = 1#1), ∀ a, (k0_off52 arg23_r0) a + S256x4096.size a ≤ S17408x4096.size a) ∧
  (∀ (k0_h24 : k0_cond24 k0_t1 arg23_r0 = 1#1), ∀ a, (k0_off53 arg22_r0) a + S1x256x4096.size a ≤ S2x256x4096.size a) ∧
  (∀ (k0_h24 : k0_cond24 k0_t1 arg23_r0 = 1#1), ∀ (hinb : ∀ a, (k0_off53 arg22_r0) a + S1x256x4096.size a ≤ S2x256x4096.size a), (Rect.unit (s := S2x256x4096) (k0_off53 arg22_r0) S1x256x4096.size hinb).WholeWords (EltTy.packing .bf16)) ∧
  (∀ (k0_h24 : k0_cond24 k0_t1 arg23_r0 = 1#1), ∀ (hinb : ∀ a, (k0_off52 arg23_r0) a + S256x4096.size a ≤ S17408x4096.size a), (Rect.unit (s := S17408x4096) (k0_off52 arg23_r0) S256x4096.size hinb).WholeWords (EltTy.packing .bf16))
def k0_chk1 (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  k0_chk1_0 k0_t1 arg9_r0 arg10_r0 arg11_r0 arg12_r0 arg14_r0 arg15_r0 arg17_r0 arg18_r0 arg19_r0 arg20_r0 arg21_r0 arg22_r0 arg23_r0 ∧
  k0_chk1_1 k0_t1 arg9_r0 arg10_r0 arg11_r0 arg12_r0 arg14_r0 arg15_r0 arg17_r0 arg18_r0 arg19_r0 arg20_r0 arg21_r0 arg22_r0 arg23_r0
theorem k0_off12_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h3 : k0_cond3 k0_t1 arg23_r0 = 1#1), ∀ a, (k0_off12 arg9_r0) a + S1.size a ≤ S3.size a := fun k0_t1 arg9_r0 arg10_r0 arg11_r0 arg12_r0 arg14_r0 arg15_r0 arg17_r0 arg18_r0 arg19_r0 arg20_r0 arg21_r0 arg22_r0 arg23_r0 k0_hw1 k0_h3 => k0_hw1.1.1 k0_h3
theorem k0_off13_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h3 : k0_cond3 k0_t1 arg23_r0 = 1#1), ∀ a, (k0_off13 arg9_r0) a + S1x256x4096.size a ≤ S3x256x4096.size a := fun k0_t1 arg9_r0 arg10_r0 arg11_r0 arg12_r0 arg14_r0 arg15_r0 arg17_r0 arg18_r0 arg19_r0 arg20_r0 arg21_r0 arg22_r0 arg23_r0 k0_hw1 k0_h3 => k0_hw1.1.2.1 k0_h3
theorem k0_off14_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h3 : k0_cond3 k0_t1 arg23_r0 = 1#1), ∀ a, (k0_off14 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h3 => k0_hw1.1.2.2.1 k0_h3
theorem k0_off14_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h3 : k0_cond3 k0_t1 arg23_r0 = 1#1), (Rect.unit (s := S17408x4096) (k0_off14 arg23_r0) S256x4096.size (k0_off14_inb k0_t1 arg9_r0 arg10_r0 arg11_r0 arg12_r0 arg14_r0 arg15_r0 arg17_r0 arg18_r0 arg19_r0 arg20_r0 arg21_r0 arg22_r0 arg23_r0 k0_hw1 k0_h3)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h3 => k0_hw1.1.2.2.2.1 k0_h3 (k0_off14_inb k0_t1 arg9_r0 arg10_r0 arg11_r0 arg12_r0 arg14_r0 arg15_r0 arg17_r0 arg18_r0 arg19_r0 arg20_r0 arg21_r0 arg22_r0 arg23_r0 k0_hw1 k0_h3)
theorem k0_off13_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h3 : k0_cond3 k0_t1 arg23_r0 = 1#1), (Rect.unit (s := S3x256x4096) (k0_off13 arg9_r0) S1x256x4096.size (k0_off13_inb k0_t1 arg9_r0 arg10_r0 arg11_r0 arg12_r0 arg14_r0 arg15_r0 arg17_r0 arg18_r0 arg19_r0 arg20_r0 arg21_r0 arg22_r0 arg23_r0 k0_hw1 k0_h3)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h3 => k0_hw1.1.2.2.2.2.1 k0_h3 (k0_off13_inb k0_t1 arg9_r0 arg10_r0 arg11_r0 arg12_r0 arg14_r0 arg15_r0 arg17_r0 arg18_r0 arg19_r0 arg20_r0 arg21_r0 arg22_r0 arg23_r0 k0_hw1 k0_h3)
theorem k0_off15_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h4 : k0_cond4 k0_t1 arg23_r0 = 1#1), ∀ a, (k0_off15 arg11_r0) a + S1.size a ≤ S3.size a := fun k0_t1 arg9_r0 arg10_r0 arg11_r0 arg12_r0 arg14_r0 arg15_r0 arg17_r0 arg18_r0 arg19_r0 arg20_r0 arg21_r0 arg22_r0 arg23_r0 k0_hw1 k0_h4 => k0_hw1.1.2.2.2.2.2.1 k0_h4
theorem k0_off16_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h4 : k0_cond4 k0_t1 arg23_r0 = 1#1), ∀ a, (k0_off16 arg11_r0) a + S1x256x4096.size a ≤ S3x256x4096.size a := fun k0_t1 arg9_r0 arg10_r0 arg11_r0 arg12_r0 arg14_r0 arg15_r0 arg17_r0 arg18_r0 arg19_r0 arg20_r0 arg21_r0 arg22_r0 arg23_r0 k0_hw1 k0_h4 => k0_hw1.1.2.2.2.2.2.2.1 k0_h4
theorem k0_off17_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h4 : k0_cond4 k0_t1 arg23_r0 = 1#1), ∀ a, (k0_off17 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h4 => k0_hw1.1.2.2.2.2.2.2.2.1 k0_h4
theorem k0_off18_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h5 : k0_cond5 k0_t1 arg23_r0 = 1#1), ∀ a, (k0_off18 arg14_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h5 => k0_hw1.1.2.2.2.2.2.2.2.2.1 k0_h5
theorem k0_off19_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h5 : k0_cond5 k0_t1 arg23_r0 = 1#1), ∀ a, (k0_off19 arg14_r0) a + S1x1x9x4096.size a ≤ S2x1x9x4096.size a := fun k0_t1 arg9_r0 arg10_r0 arg11_r0 arg12_r0 arg14_r0 arg15_r0 arg17_r0 arg18_r0 arg19_r0 arg20_r0 arg21_r0 arg22_r0 arg23_r0 k0_hw1 k0_h5 => k0_hw1.1.2.2.2.2.2.2.2.2.2.1 k0_h5
theorem k0_off20_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h5 : k0_cond5 k0_t1 arg23_r0 = 1#1), ∀ a, (k0_off20 arg23_r0) a + S1x9x4096.size a ≤ S8x9x4096.size a := fun k0_t1 arg9_r0 arg10_r0 arg11_r0 arg12_r0 arg14_r0 arg15_r0 arg17_r0 arg18_r0 arg19_r0 arg20_r0 arg21_r0 arg22_r0 arg23_r0 k0_hw1 k0_h5 => k0_hw1.1.2.2.2.2.2.2.2.2.2.2.1 k0_h5
theorem k0_off21_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h6 : k0_cond6 k0_t1 arg23_r0 = 1#1), ∀ a, (k0_off21 arg17_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h6 => k0_hw1.1.2.2.2.2.2.2.2.2.2.2.2.1 k0_h6
theorem k0_off22_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h6 : k0_cond6 k0_t1 arg23_r0 = 1#1), ∀ a, (k0_off22 arg17_r0) a + S1x1x9x4096.size a ≤ S2x1x9x4096.size a := fun k0_t1 arg9_r0 arg10_r0 arg11_r0 arg12_r0 arg14_r0 arg15_r0 arg17_r0 arg18_r0 arg19_r0 arg20_r0 arg21_r0 arg22_r0 arg23_r0 k0_hw1 k0_h6 => k0_hw1.1.2.2.2.2.2.2.2.2.2.2.2.2.1 k0_h6
theorem k0_off23_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h6 : k0_cond6 k0_t1 arg23_r0 = 1#1), ∀ a, (k0_off23 arg23_r0) a + S1x9x4096.size a ≤ S8x9x4096.size a := fun k0_t1 arg9_r0 arg10_r0 arg11_r0 arg12_r0 arg14_r0 arg15_r0 arg17_r0 arg18_r0 arg19_r0 arg20_r0 arg21_r0 arg22_r0 arg23_r0 k0_hw1 k0_h6 => k0_hw1.1.2.2.2.2.2.2.2.2.2.2.2.2.2.1 k0_h6
theorem k0_off24_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h7 : k0_cond7 k0_t1 arg23_r0 = 1#1), ∀ a, (k0_off24 arg10_r0) a + S1.size a ≤ S3.size a := fun k0_t1 arg9_r0 arg10_r0 arg11_r0 arg12_r0 arg14_r0 arg15_r0 arg17_r0 arg18_r0 arg19_r0 arg20_r0 arg21_r0 arg22_r0 arg23_r0 k0_hw1 k0_h7 => k0_hw1.1.2.2.2.2.2.2.2.2.2.2.2.2.2.2.1 k0_h7
theorem k0_off25_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h7 : k0_cond7 k0_t1 arg23_r0 = 1#1), ∀ a, (k0_off25 arg10_r0) a + S1x256x4096.size a ≤ S3x256x4096.size a := fun k0_t1 arg9_r0 arg10_r0 arg11_r0 arg12_r0 arg14_r0 arg15_r0 arg17_r0 arg18_r0 arg19_r0 arg20_r0 arg21_r0 arg22_r0 arg23_r0 k0_hw1 k0_h7 => k0_hw1.1.2.2.2.2.2.2.2.2.2.2.2.2.2.2.2.1 k0_h7
theorem k0_off26_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h7 : k0_cond7 k0_t1 arg23_r0 = 1#1), ∀ a, (k0_off26 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h7 => k0_hw1.1.2.2.2.2.2.2.2.2.2.2.2.2.2.2.2.2.1 k0_h7
theorem k0_off26_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h7 : k0_cond7 k0_t1 arg23_r0 = 1#1), (Rect.unit (s := S17408x4096) (k0_off26 arg23_r0) S256x4096.size (k0_off26_inb k0_t1 arg9_r0 arg10_r0 arg11_r0 arg12_r0 arg14_r0 arg15_r0 arg17_r0 arg18_r0 arg19_r0 arg20_r0 arg21_r0 arg22_r0 arg23_r0 k0_hw1 k0_h7)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h7 => k0_hw1.1.2.2.2.2.2.2.2.2.2.2.2.2.2.2.2.2.2.1 k0_h7 (k0_off26_inb k0_t1 arg9_r0 arg10_r0 arg11_r0 arg12_r0 arg14_r0 arg15_r0 arg17_r0 arg18_r0 arg19_r0 arg20_r0 arg21_r0 arg22_r0 arg23_r0 k0_hw1 k0_h7)
theorem k0_off25_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h7 : k0_cond7 k0_t1 arg23_r0 = 1#1), (Rect.unit (s := S3x256x4096) (k0_off25 arg10_r0) S1x256x4096.size (k0_off25_inb k0_t1 arg9_r0 arg10_r0 arg11_r0 arg12_r0 arg14_r0 arg15_r0 arg17_r0 arg18_r0 arg19_r0 arg20_r0 arg21_r0 arg22_r0 arg23_r0 k0_hw1 k0_h7)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h7 => k0_hw1.1.2.2.2.2.2.2.2.2.2.2.2.2.2.2.2.2.2.2.1 k0_h7 (k0_off25_inb k0_t1 arg9_r0 arg10_r0 arg11_r0 arg12_r0 arg14_r0 arg15_r0 arg17_r0 arg18_r0 arg19_r0 arg20_r0 arg21_r0 arg22_r0 arg23_r0 k0_hw1 k0_h7)
theorem k0_off27_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h8 : k0_cond8 k0_t1 arg23_r0 = 1#1), ∀ a, (k0_off27 arg12_r0) a + S1.size a ≤ S3.size a := fun k0_t1 arg9_r0 arg10_r0 arg11_r0 arg12_r0 arg14_r0 arg15_r0 arg17_r0 arg18_r0 arg19_r0 arg20_r0 arg21_r0 arg22_r0 arg23_r0 k0_hw1 k0_h8 => k0_hw1.1.2.2.2.2.2.2.2.2.2.2.2.2.2.2.2.2.2.2.2.1 k0_h8
theorem k0_off28_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h8 : k0_cond8 k0_t1 arg23_r0 = 1#1), ∀ a, (k0_off28 arg12_r0) a + S1x256x4096.size a ≤ S3x256x4096.size a := fun k0_t1 arg9_r0 arg10_r0 arg11_r0 arg12_r0 arg14_r0 arg15_r0 arg17_r0 arg18_r0 arg19_r0 arg20_r0 arg21_r0 arg22_r0 arg23_r0 k0_hw1 k0_h8 => k0_hw1.1.2.2.2.2.2.2.2.2.2.2.2.2.2.2.2.2.2.2.2.2.1 k0_h8
theorem k0_off29_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h8 : k0_cond8 k0_t1 arg23_r0 = 1#1), ∀ a, (k0_off29 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h8 => k0_hw1.1.2.2.2.2.2.2.2.2.2.2.2.2.2.2.2.2.2.2.2.2.2.1 k0_h8
theorem k0_off30_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h9 : k0_cond9 k0_t1 arg23_r0 = 1#1), ∀ a, (k0_off30 arg15_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h9 => k0_hw1.1.2.2.2.2.2.2.2.2.2.2.2.2.2.2.2.2.2.2.2.2.2.2.1 k0_h9
theorem k0_off31_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h9 : k0_cond9 k0_t1 arg23_r0 = 1#1), ∀ a, (k0_off31 arg15_r0) a + S1x1x9x4096.size a ≤ S2x1x9x4096.size a := fun k0_t1 arg9_r0 arg10_r0 arg11_r0 arg12_r0 arg14_r0 arg15_r0 arg17_r0 arg18_r0 arg19_r0 arg20_r0 arg21_r0 arg22_r0 arg23_r0 k0_hw1 k0_h9 => k0_hw1.1.2.2.2.2.2.2.2.2.2.2.2.2.2.2.2.2.2.2.2.2.2.2.2.1 k0_h9
theorem k0_off32_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h9 : k0_cond9 k0_t1 arg23_r0 = 1#1), ∀ a, (k0_off32 arg23_r0) a + S1x9x4096.size a ≤ S8x9x4096.size a := fun k0_t1 arg9_r0 arg10_r0 arg11_r0 arg12_r0 arg14_r0 arg15_r0 arg17_r0 arg18_r0 arg19_r0 arg20_r0 arg21_r0 arg22_r0 arg23_r0 k0_hw1 k0_h9 => k0_hw1.1.2.2.2.2.2.2.2.2.2.2.2.2.2.2.2.2.2.2.2.2.2.2.2.2.1 k0_h9
theorem k0_off33_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h10 : k0_cond10 k0_t1 arg23_r0 = 1#1), ∀ a, (k0_off33 arg18_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.1 k0_h10
theorem k0_off34_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h10 : k0_cond10 k0_t1 arg23_r0 = 1#1), ∀ a, (k0_off34 arg18_r0) a + S1x1x9x4096.size a ≤ S2x1x9x4096.size a := fun k0_t1 arg9_r0 arg10_r0 arg11_r0 arg12_r0 arg14_r0 arg15_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.1 k0_h10
theorem k0_off35_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h10 : k0_cond10 k0_t1 arg23_r0 = 1#1), ∀ a, (k0_off35 arg23_r0) a + S1x9x4096.size a ≤ S8x9x4096.size a := fun k0_t1 arg9_r0 arg10_r0 arg11_r0 arg12_r0 arg14_r0 arg15_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.2.1 k0_h10
theorem k0_off42_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h17 : k0_cond17 k0_t1 arg23_r0 = 1#1), ∀ a, (k0_off42 arg19_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h17 => k0_hw1.1.2.2.2.2.2.2.2.2.2.2.2.2.2.2.2.2.2.2.2.2.2.2.2.2.2.2.2.2.1 k0_h17
theorem k0_off43_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h17 : k0_cond17 k0_t1 arg23_r0 = 1#1), ∀ a, (k0_off43 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h17 => k0_hw1.1.2.2.2.2.2.2.2.2.2.2.2.2.2.2.2.2.2.2.2.2.2.2.2.2.2.2.2.2.2.1 k0_h17
theorem k0_off44_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h17 : k0_cond17 k0_t1 arg23_r0 = 1#1), ∀ a, (k0_off44 arg19_r0) a + S1x256x4096.size a ≤ S2x256x4096.size a := fun k0_t1 arg9_r0 arg10_r0 arg11_r0 arg12_r0 arg14_r0 arg15_r0 arg17_r0 arg18_r0 arg19_r0 arg20_r0 arg21_r0 arg22_r0 arg23_r0 k0_hw1 k0_h17 => k0_hw1.1.2.2.2.2.2.2.2.2.2.2.2.2.2.2.2.2.2.2.2.2.2.2.2.2.2.2.2.2.2.2.1 k0_h17
theorem k0_off45_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h18 : k0_cond18 k0_t1 arg23_r0 = 1#1), ∀ a, (k0_off45 arg21_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h18 => k0_hw1.1.2.2.2.2.2.2.2.2.2.2.2.2.2.2.2.2.2.2.2.2.2.2.2.2.2.2.2.2.2.2.2 k0_h18
theorem k0_off46_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h18 : k0_cond18 k0_t1 arg23_r0 = 1#1), ∀ a, (k0_off46 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h18 => k0_hw1.2.1 k0_h18
theorem k0_off47_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h18 : k0_cond18 k0_t1 arg23_r0 = 1#1), ∀ a, (k0_off47 arg21_r0) a + S1x256x4096.size a ≤ S2x256x4096.size a := fun k0_t1 arg9_r0 arg10_r0 arg11_r0 arg12_r0 arg14_r0 arg15_r0 arg17_r0 arg18_r0 arg19_r0 arg20_r0 arg21_r0 arg22_r0 arg23_r0 k0_hw1 k0_h18 => k0_hw1.2.2.1 k0_h18
theorem k0_off47_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h18 : k0_cond18 k0_t1 arg23_r0 = 1#1), (Rect.unit (s := S2x256x4096) (k0_off47 arg21_r0) S1x256x4096.size (k0_off47_inb k0_t1 arg9_r0 arg10_r0 arg11_r0 arg12_r0 arg14_r0 arg15_r0 arg17_r0 arg18_r0 arg19_r0 arg20_r0 arg21_r0 arg22_r0 arg23_r0 k0_hw1 k0_h18)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h18 => k0_hw1.2.2.2.1 k0_h18 (k0_off47_inb k0_t1 arg9_r0 arg10_r0 arg11_r0 arg12_r0 arg14_r0 arg15_r0 arg17_r0 arg18_r0 arg19_r0 arg20_r0 arg21_r0 arg22_r0 arg23_r0 k0_hw1 k0_h18)
theorem k0_off46_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h18 : k0_cond18 k0_t1 arg23_r0 = 1#1), (Rect.unit (s := S17408x4096) (k0_off46 arg23_r0) S256x4096.size (k0_off46_inb k0_t1 arg9_r0 arg10_r0 arg11_r0 arg12_r0 arg14_r0 arg15_r0 arg17_r0 arg18_r0 arg19_r0 arg20_r0 arg21_r0 arg22_r0 arg23_r0 k0_hw1 k0_h18)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h18 => k0_hw1.2.2.2.2.1 k0_h18 (k0_off46_inb k0_t1 arg9_r0 arg10_r0 arg11_r0 arg12_r0 arg14_r0 arg15_r0 arg17_r0 arg18_r0 arg19_r0 arg20_r0 arg21_r0 arg22_r0 arg23_r0 k0_hw1 k0_h18)
theorem k0_off48_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h23 : k0_cond23 k0_t1 arg23_r0 = 1#1), ∀ a, (k0_off48 arg20_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h23 => k0_hw1.2.2.2.2.2.1 k0_h23
theorem k0_off49_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h23 : k0_cond23 k0_t1 arg23_r0 = 1#1), ∀ a, (k0_off49 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h23 => k0_hw1.2.2.2.2.2.2.1 k0_h23
theorem k0_off50_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h23 : k0_cond23 k0_t1 arg23_r0 = 1#1), ∀ a, (k0_off50 arg20_r0) a + S1x256x4096.size a ≤ S2x256x4096.size a := fun k0_t1 arg9_r0 arg10_r0 arg11_r0 arg12_r0 arg14_r0 arg15_r0 arg17_r0 arg18_r0 arg19_r0 arg20_r0 arg21_r0 arg22_r0 arg23_r0 k0_hw1 k0_h23 => k0_hw1.2.2.2.2.2.2.2.1 k0_h23
theorem k0_off51_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h24 : k0_cond24 k0_t1 arg23_r0 = 1#1), ∀ a, (k0_off51 arg22_r0) a + S1.size a ≤ S2.size a := fun k0_t1 arg9_r0 arg10_r0 arg11_r0 arg12_r0 arg14_r0 arg15_r0 arg17_r0 arg18_r0 arg19_r0 arg20_r0 arg21_r0 arg22_r0 arg23_r0 k0_hw1 k0_h24 => k0_hw1.2.2.2.2.2.2.2.2.1 k0_h24
theorem k0_off52_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h24 : k0_cond24 k0_t1 arg23_r0 = 1#1), ∀ a, (k0_off52 arg23_r0) a + S256x4096.size a ≤ S17408x4096.size a := fun k0_t1 arg9_r0 arg10_r0 arg11_r0 arg12_r0 arg14_r0 arg15_r0 arg17_r0 arg18_r0 arg19_r0 arg20_r0 arg21_r0 arg22_r0 arg23_r0 k0_hw1 k0_h24 => k0_hw1.2.2.2.2.2.2.2.2.2.1 k0_h24
theorem k0_off53_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h24 : k0_cond24 k0_t1 arg23_r0 = 1#1), ∀ a, (k0_off53 arg22_r0) a + S1x256x4096.size a ≤ S2x256x4096.size a := fun k0_t1 arg9_r0 arg10_r0 arg11_r0 arg12_r0 arg14_r0 arg15_r0 arg17_r0 arg18_r0 arg19_r0 arg20_r0 arg21_r0 arg22_r0 arg23_r0 k0_hw1 k0_h24 => k0_hw1.2.2.2.2.2.2.2.2.2.2.1 k0_h24
theorem k0_off53_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h24 : k0_cond24 k0_t1 arg23_r0 = 1#1), (Rect.unit (s := S2x256x4096) (k0_off53 arg22_r0) S1x256x4096.size (k0_off53_inb k0_t1 arg9_r0 arg10_r0 arg11_r0 arg12_r0 arg14_r0 arg15_r0 arg17_r0 arg18_r0 arg19_r0 arg20_r0 arg21_r0 arg22_r0 arg23_r0 k0_hw1 k0_h24)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h24 => k0_hw1.2.2.2.2.2.2.2.2.2.2.2.1 k0_h24 (k0_off53_inb k0_t1 arg9_r0 arg10_r0 arg11_r0 arg12_r0 arg14_r0 arg15_r0 arg17_r0 arg18_r0 arg19_r0 arg20_r0 arg21_r0 arg22_r0 arg23_r0 k0_hw1 k0_h24)
theorem k0_off52_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg9_r0 arg10_r0 arg11_r0 arg12_r0 arg14_r0 arg15_r0 arg17_r0 arg18_r0 arg19_r0 arg20_r0 arg21_r0 arg22_r0 arg23_r0), ∀ (k0_h24 : k0_cond24 k0_t1 arg23_r0 = 1#1), (Rect.unit (s := S17408x4096) (k0_off52 arg23_r0) S256x4096.size (k0_off52_inb k0_t1 arg9_r0 arg10_r0 arg11_r0 arg12_r0 arg14_r0 arg15_r0 arg17_r0 arg18_r0 arg19_r0 arg20_r0 arg21_r0 arg22_r0 arg23_r0 k0_hw1 k0_h24)).WholeWords (EltTy.packing .bf16) := fun k0_t1 arg9_r0 arg10_r0 arg11_r0 arg12_r0 arg14_r0 arg15_r0 arg17_r0 arg18_r0 arg19_r0 arg20_r0 arg21_r0 arg22_r0 arg23_r0 k0_hw1 k0_h24 => k0_hw1.2.2.2.2.2.2.2.2.2.2.2.2 k0_h24 (k0_off52_inb k0_t1 arg9_r0 arg10_r0 arg11_r0 arg12_r0 arg14_r0 arg15_r0 arg17_r0 arg18_r0 arg19_r0 arg20_r0 arg21_r0 arg22_r0 arg23_r0 k0_hw1 k0_h24)

def k0_off54 (v71_11_r0 : BitVec 32) : Fin 1 → Nat :=
  let c2_i32_112_r0 : BitVec 32 := 2#32
  let v97_r0 : BitVec 32 := Scalar.remui v71_11_r0 c2_i32_112_r0
  ![v97_r0.toNat]

def k0_off55 (v71_14_r0 : BitVec 32) : Fin 2 → Nat :=
  let c256_i32_r0 : BitVec 32 := 256#32
  let true_88_r0 : BitVec 1 := 1#1
  let c1_i32_87_r0 : BitVec 32 := 1#32
  let v72_r0 : BitVec 32 := Scalar.subi v71_14_r0 c1_i32_87_r0
  let v73_r0 : BitVec 32 := Scalar.select true_88_r0 v72_r0 v71_14_r0
  let c_m1_i32_89_r0 : BitVec 32 := 4294967295#32
  let v74_r0 : BitVec 1 := Scalar.cmpi .eq v73_r0 c_m1_i32_89_r0
  let c67_i32_90_r0 : BitVec 32 := 67#32
  let v75_r0 : BitVec 32 := Scalar.select v74_r0 c67_i32_90_r0 v73_r0
  let c0_i32_91_r0 : BitVec 32 := 0#32
  let v76_r0 : BitVec 32 := Scalar.addi v75_r0 c0_i32_91_r0
  let v98_r0 : BitVec 32 := Scalar.muli c256_i32_r0 v76_r0
  let c0_i32_113_r0 : BitVec 32 := 0#32
  ![v98_r0.toNat, 0]

def k0_off56 (v71_11_r0 : BitVec 32) : Fin 3 → Nat :=
  let c2_i32_112_r0 : BitVec 32 := 2#32
  let v97_r0 : BitVec 32 := Scalar.remui v71_11_r0 c2_i32_112_r0
  let c0_i32_114_r0 : BitVec 32 := 0#32
  let c0_i32_115_r0 : BitVec 32 := 0#32
  ![v97_r0.toNat, 0, 0]

def k0_chk8 (v71_11_r0 : BitVec 32) : Prop :=
  (∀ a, (k0_off54 v71_11_r0) a + S1.size a ≤ S2.size a) ∧
  (∀ a, (k0_off56 v71_11_r0) a + S1x256x4096.size a ≤ S2x256x4096.size a)
theorem k0_off54_inb : ∀ (v71_11_r0 : BitVec 32) (k0_hw8 : k0_chk8 v71_11_r0), ∀ a, (k0_off54 v71_11_r0) a + S1.size a ≤ S2.size a := fun v71_11_r0 k0_hw8 => k0_hw8.1
theorem k0_off56_inb : ∀ (v71_11_r0 : BitVec 32) (k0_hw8 : k0_chk8 v71_11_r0), ∀ a, (k0_off56 v71_11_r0) a + S1x256x4096.size a ≤ S2x256x4096.size a := fun v71_11_r0 k0_hw8 => k0_hw8.2

def k0_off57 (v71_13_r0 : BitVec 32) : Fin 1 → Nat :=
  let c2_i32_116_r0 : BitVec 32 := 2#32
  let v104_r0 : BitVec 32 := Scalar.remui v71_13_r0 c2_i32_116_r0
  ![v104_r0.toNat]

def k0_off58 (v71_14_r0 : BitVec 32) : Fin 2 → Nat :=
  let c256_i32_117_r0 : BitVec 32 := 256#32
  let true_88_r0 : BitVec 1 := 1#1
  let c1_i32_87_r0 : BitVec 32 := 1#32
  let v72_r0 : BitVec 32 := Scalar.subi v71_14_r0 c1_i32_87_r0
  let v73_r0 : BitVec 32 := Scalar.select true_88_r0 v72_r0 v71_14_r0
  let c_m1_i32_89_r0 : BitVec 32 := 4294967295#32
  let v74_r0 : BitVec 1 := Scalar.cmpi .eq v73_r0 c_m1_i32_89_r0
  let c67_i32_90_r0 : BitVec 32 := 67#32
  let v75_r0 : BitVec 32 := Scalar.select v74_r0 c67_i32_90_r0 v73_r0
  let c0_i32_91_r0 : BitVec 32 := 0#32
  let v76_r0 : BitVec 32 := Scalar.addi v75_r0 c0_i32_91_r0
  let v105_r0 : BitVec 32 := Scalar.muli c256_i32_117_r0 v76_r0
  let c0_i32_118_r0 : BitVec 32 := 0#32
  ![v105_r0.toNat, 0]
def k0_off59 (v71_13_r0 : BitVec 32) : Fin 3 → Nat :=
  let c2_i32_116_r0 : BitVec 32 := 2#32
  let v104_r0 : BitVec 32 := Scalar.remui v71_13_r0 c2_i32_116_r0
  let c0_i32_119_r0 : BitVec 32 := 0#32
  let c0_i32_120_r0 : BitVec 32 := 0#32
  ![v104_r0.toNat, 0, 0]

def k0_chk10 (v71_13_r0 : BitVec 32) : Prop :=
  (∀ a, (k0_off57 v71_13_r0) a + S1.size a ≤ S2.size a) ∧
  (∀ a, (k0_off59 v71_13_r0) a + S1x256x4096.size a ≤ S2x256x4096.size a) ∧
  (∀ (hinb : ∀ a, (k0_off59 v71_13_r0) a + S1x256x4096.size a ≤ S2x256x4096.size a), (Rect.unit (s := S2x256x4096) (k0_off59 v71_13_r0) S1x256x4096.size hinb).WholeWords (EltTy.packing .bf16))
theorem k0_off57_inb : ∀ (v71_13_r0 : BitVec 32) (k0_hw10 : k0_chk10 v71_13_r0), ∀ a, (k0_off57 v71_13_r0) a + S1.size a ≤ S2.size a := fun v71_13_r0 k0_hw10 => k0_hw10.1
theorem k0_off59_inb : ∀ (v71_13_r0 : BitVec 32) (k0_hw10 : k0_chk10 v71_13_r0), ∀ a, (k0_off59 v71_13_r0) a + S1x256x4096.size a ≤ S2x256x4096.size a := fun v71_13_r0 k0_hw10 => k0_hw10.2.1
theorem k0_off59_wordsbf16 : ∀ (v71_13_r0 : BitVec 32) (k0_hw10 : k0_chk10 v71_13_r0), (Rect.unit (s := S2x256x4096) (k0_off59 v71_13_r0) S1x256x4096.size (k0_off59_inb v71_13_r0 k0_hw10)).WholeWords (EltTy.packing .bf16) := fun v71_13_r0 k0_hw10 => k0_hw10.2.2 (k0_off59_inb v71_13_r0 k0_hw10)

def k0_chk9 (v71_14_r0 : BitVec 32) : Prop :=
  (∀ a, (k0_off55 v71_14_r0) a + S256x4096.size a ≤ S17408x4096.size a) ∧
  (∀ a, (k0_off58 v71_14_r0) a + S256x4096.size a ≤ S17408x4096.size a) ∧
  (∀ (hinb : ∀ a, (k0_off58 v71_14_r0) a + S256x4096.size a ≤ S17408x4096.size a), (Rect.unit (s := S17408x4096) (k0_off58 v71_14_r0) S256x4096.size hinb).WholeWords (EltTy.packing .bf16))
theorem k0_off55_inb : ∀ (v71_14_r0 : BitVec 32) (k0_hw9 : k0_chk9 v71_14_r0), ∀ a, (k0_off55 v71_14_r0) a + S256x4096.size a ≤ S17408x4096.size a := fun v71_14_r0 k0_hw9 => k0_hw9.1
theorem k0_off58_inb : ∀ (v71_14_r0 : BitVec 32) (k0_hw9 : k0_chk9 v71_14_r0), ∀ a, (k0_off58 v71_14_r0) a + S256x4096.size a ≤ S17408x4096.size a := fun v71_14_r0 k0_hw9 => k0_hw9.2.1
theorem k0_off58_wordsbf16 : ∀ (v71_14_r0 : BitVec 32) (k0_hw9 : k0_chk9 v71_14_r0), (Rect.unit (s := S17408x4096) (k0_off58 v71_14_r0) S256x4096.size (k0_off58_inb v71_14_r0 k0_hw9)).WholeWords (EltTy.packing .bf16) := fun v71_14_r0 k0_hw9 => k0_hw9.2.2 (k0_off58_inb v71_14_r0 k0_hw9)
-- ==== ReferenceIdeal.lean ====
abbrev S17408x4096 : Shape := ⟨2, ![17408, 4096]⟩
abbrev S6x4096 : Shape := ⟨2, ![6, 4096]⟩
abbrev S8x9x4096 : Shape := ⟨3, ![8, 9, 4096]⟩
abbrev S16384x4096 : Shape := ⟨2, ![16384, 4096]⟩
abbrev S4x4096x4096 : Shape := ⟨3, ![4, 4096, 4096]⟩
abbrev S1024x4096 : Shape := ⟨2, ![1024, 4096]⟩
abbrev S4x256x4096 : Shape := ⟨3, ![4, 256, 4096]⟩
abbrev S4x9x4096 : Shape := ⟨3, ![4, 9, 4096]⟩
abbrev S1x9x4096 : Shape := ⟨3, ![1, 9, 4096]⟩
abbrev S4x1x4096 : Shape := ⟨3, ![4, 1, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S4x256 : Shape := ⟨2, ![4, 256]⟩
abbrev S4x256x1 : Shape := ⟨3, ![4, 256, 1]⟩

abbrev nBuf : Space → Nat
  | .hbm => 138
  | .vmem => 0
  | .smem => 0
  | _ => 0

abbrev hbmTy0_0 (i : Nat) : BufTy := match i % 128 with
  | 0 => ⟨S17408x4096, .bf16⟩
  | 1 => ⟨S17408x4096, .f32⟩
  | 2 => ⟨S6x4096, .f32⟩
  | 3 => ⟨S8x9x4096, .f32⟩
  | 4 => ⟨S17408x4096, .f32⟩
  | 5 => ⟨S16384x4096, .f32⟩
  | 6 => ⟨S4x4096x4096, .f32⟩
  | 7 => ⟨S1024x4096, .f32⟩
  | 8 => ⟨S4x256x4096, .f32⟩
  | 9 => ⟨S16384x4096, .f32⟩
  | 10 => ⟨S4x4096x4096, .f32⟩
  | 11 => ⟨S1024x4096, .f32⟩
  | 12 => ⟨S4x256x4096, .f32⟩
  | 13 => ⟨S4x9x4096, .f32⟩
  | 14 => ⟨S1x9x4096, .f32⟩
  | 15 => ⟨S4x1x4096, .f32⟩
  | 16 => ⟨S4x4096, .f32⟩
  | 17 => ⟨S4x1x4096, .f32⟩
  | 18 => ⟨S1x4096, .f32⟩
  | 19 => ⟨S4096, .f32⟩
  | 20 => ⟨S4x4096x4096, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x4096, .f32⟩
  | 32 => ⟨S4x4096x4096, .f32⟩
  | 33 => ⟨S1x1x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x4096, .f32⟩
  | 42 => ⟨S1x1x4096, .f32⟩
  | 43 => ⟨S1x4096, .f32⟩
  | 44 => ⟨S1x1x4096, .f32⟩
  | 45 => ⟨S1x4096, .f32⟩
  | 46 => ⟨S4096, .f32⟩
  | 47 => ⟨S4x256x4096, .f32⟩
  | 48 => ⟨S_, .f32⟩
  | 49 => ⟨S4x256, .f32⟩
  | 50 => ⟨S4x256x1, .f32⟩
  | 51 => ⟨S_, .f32⟩
  | 52 => ⟨S4x256x1, .f32⟩
  | 53 => ⟨S4x256x1, .f32⟩
  | 54 => ⟨S_, .f32⟩
  | 55 => ⟨S4x256x1, .f32⟩
  | 56 => ⟨S4x256x1, .f32⟩
  | 57 => ⟨S4x256x1, .f32⟩
  | 58 => ⟨S4x256x4096, .f32⟩
  | 59 => ⟨S4x256x4096, .f32⟩
  | 60 => ⟨S1x1x4096, .f32⟩
  | 61 => ⟨S4x256x4096, .f32⟩
  | 62 => ⟨S4x256x4096, .f32⟩
  | 63 => ⟨S4x256x4096, .f32⟩
  | 64 => ⟨S4x256x4096, .f32⟩
  | 65 => ⟨S_, .f32⟩
  | 66 => ⟨S4x256x4096, .f32⟩
  | 67 => ⟨S4x256x4096, .f32⟩
  | 68 => ⟨S4x256x4096, .f32⟩
  | 69 => ⟨S1x4096, .f32⟩
  | 70 => ⟨S4096, .f32⟩
  | 71 => ⟨S4x1x4096, .f32⟩
  | 72 => ⟨S4x4096, .f32⟩
  | 73 => ⟨S4x1x4096, .f32⟩
  | 74 => ⟨S4x4096, .f32⟩
  | 75 => ⟨S4x4096x4096, .f32⟩
  | 76 => ⟨S_, .f32⟩
  | 77 => ⟨S4x4096, .f32⟩
  | 78 => ⟨S4x4096x1, .f32⟩
  | 79 => ⟨S_, .f32⟩
  | 80 => ⟨S4x4096x1, .f32⟩
  | 81 => ⟨S4x4096x1, .f32⟩
  | 82 => ⟨S_, .f32⟩
  | 83 => ⟨S4x4096x1, .f32⟩
  | 84 => ⟨S4x4096x1, .f32⟩
  | 85 => ⟨S4x4096x1, .f32⟩
  | 86 => ⟨S4x4096x4096, .f32⟩
  | 87 => ⟨S4x4096x4096, .f32⟩
  | 88 => ⟨S1x1x4096, .f32⟩
  | 89 => ⟨S4x4096x4096, .f32⟩
  | 90 => ⟨S4x4096x4096, .f32⟩
  | 91 => ⟨S4x1x4096, .f32⟩
  | 92 => ⟨S_, .f32⟩
  | 93 => ⟨S4x1x4096, .f32⟩
  | 94 => ⟨S4x1x4096, .f32⟩
  | 95 => ⟨S4x4096x4096, .f32⟩
  | 96 => ⟨S4x4096x4096, .f32⟩
  | 97 => ⟨S4x1x4096, .f32⟩
  | 98 => ⟨S4x4096x4096, .f32⟩
  | 99 => ⟨S4x4096x4096, .f32⟩
  | 100 => ⟨S1x4096, .f32⟩
  | 101 => ⟨S4096, .f32⟩
  | 102 => ⟨S1x1x4096, .f32⟩
  | 103 => ⟨S1x4096, .f32⟩
  | 104 => ⟨S1x1x4096, .f32⟩
  | 105 => ⟨S1x4096, .f32⟩
  | 106 => ⟨S4x256x4096, .f32⟩
  | 107 => ⟨S_, .f32⟩
  | 108 => ⟨S4x256, .f32⟩
  | 109 => ⟨S4x256x1, .f32⟩
  | 110 => ⟨S_, .f32⟩
  | 111 => ⟨S4x256x1, .f32⟩
  | 112 => ⟨S4x256x1, .f32⟩
  | 113 => ⟨S_, .f32⟩
  | 114 => ⟨S4x256x1, .f32⟩
  | 115 => ⟨S4x256x1, .f32⟩
  | 116 => ⟨S4x256x1, .f32⟩
  | 117 => ⟨S4x256x4096, .f32⟩
  | 118 => ⟨S4x256x4096, .f32⟩
  | 119 => ⟨S1x1x4096, .f32⟩
  | 120 => ⟨S4x256x4096, .f32⟩
  | 121 => ⟨S4x256x4096, .f32⟩
  | 122 => ⟨S1x1x4096, .f32⟩
  | 123 => ⟨S_, .f32⟩
  | 124 => ⟨S1x1x4096, .f32⟩
  | 125 => ⟨S1x1x4096, .f32⟩
  | 126 => ⟨S4x256x4096, .f32⟩
  | 127 => ⟨S4x256x4096, .f32⟩
  | _ => ⟨S17408x4096, .bf16⟩

abbrev hbmTy0_1 (i : Nat) : BufTy := match i % 128 with
  | 0 => ⟨S1x1x4096, .f32⟩
  | 1 => ⟨S4x256x4096, .f32⟩
  | 2 => ⟨S4x256x4096, .f32⟩
  | 3 => ⟨S16384x4096, .f32⟩
  | 4 => ⟨S1024x4096, .f32⟩
  | 5 => ⟨S17408x4096, .f32⟩
  | 6 => ⟨S16384x4096, .f32⟩
  | 7 => ⟨S1024x4096, .f32⟩
  | 8 => ⟨S17408x4096, .f32⟩
  | 9 => ⟨S17408x4096, .bf16⟩
  | _ => ⟨S17408x4096, .bf16⟩

abbrev hbmTy (i : Nat) : BufTy := match i / 128 with
  | 0 => hbmTy0_0 i
  | 1 => hbmTy0_1 i
  | _ => ⟨S17408x4096, .bf16⟩

abbrev bufTy : (tb : Table) → Fin (tcTables nBuf tb) → BufTy
  | .hbm, ⟨i, _⟩ => hbmTy i
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_10 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_11 : Ref sig .tc := ⟨.hbm, 107, rfl⟩
abbrev main_v91 : Ref sig .tc := ⟨.hbm, 108, rfl⟩
abbrev main_v92 : Ref sig .tc := ⟨.hbm, 109, rfl⟩
abbrev main_cst_12 : Ref sig .tc := ⟨.hbm, 110, rfl⟩
abbrev main_v93 : Ref sig .tc := ⟨.hbm, 111, rfl⟩
abbrev main_v94 : Ref sig .tc := ⟨.hbm, 112, rfl⟩
abbrev main_cst_13 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_14 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩

abbrev nD : Nat := 1
abbrev τ : Topo := Topo.v7x

variable {F : FTy → Type} [FloatOps F]
-- ==== FfnIn.lean ====
abbrev S17408x4096 : Shape := ⟨2, ![17408, 4096]⟩
abbrev S4096x11264 : Shape := ⟨2, ![4096, 11264]⟩
abbrev S4x2x5632x4096 : Shape := ⟨4, ![4, 2, 5632, 4096]⟩
abbrev S17408x5632 : Shape := ⟨2, ![17408, 5632]⟩
abbrev S5632x4096 : Shape := ⟨2, ![5632, 4096]⟩
abbrev S1024x4096 : Shape := ⟨2, ![1024, 4096]⟩
abbrev S4096x512 : Shape := ⟨2, ![4096, 512]⟩
abbrev S1x1x32x4096 : Shape := ⟨4, ![1, 1, 32, 4096]⟩
abbrev S1024x512 : Shape := ⟨2, ![1024, 512]⟩
abbrev S32x4096 : Shape := ⟨2, ![32, 4096]⟩

abbrev nBuf : Space → Nat
  | .hbm => 5
  | .vmem => 12
  | .smem => 0
  | _ => 0

abbrev bufTy : (tb : Table) → Fin (tcTables nBuf tb) → BufTy
  | .hbm, ⟨0, _⟩ => ⟨S17408x4096, .bf16⟩
  | .hbm, ⟨1, _⟩ => ⟨S4096x11264, .bf16⟩
  | .hbm, ⟨2, _⟩ => ⟨S4x2x5632x4096, .f32⟩
  | .hbm, ⟨3, _⟩ => ⟨S17408x5632, .bf16⟩
  | .hbm, ⟨4, _⟩ => ⟨S5632x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x1x32x4096, .f32⟩
  | .local _ .vmem, ⟨7, _⟩ => ⟨S1x1x32x4096, .f32⟩
  | .local _ .vmem, ⟨8, _⟩ => ⟨S1024x512, .bf16⟩
  | .local _ .vmem, ⟨9, _⟩ => ⟨S1024x512, .bf16⟩
  | .local _ .vmem, ⟨10, _⟩ => ⟨S32x4096, .bf16⟩
  | .local _ .vmem, ⟨11, _⟩ => ⟨S32x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S17408x4096 : Shape := ⟨2, ![17408, 4096]⟩
abbrev S4096x11264 : Shape := ⟨2, ![4096, 11264]⟩
abbrev S4x2x5632x4096 : Shape := ⟨4, ![4, 2, 5632, 4096]⟩
abbrev S17408x11264 : Shape := ⟨2, ![17408, 11264]⟩
abbrev S17408x5632 : Shape := ⟨2, ![17408, 5632]⟩
abbrev S_ : Shape := ⟨0, ![]⟩
abbrev S1x1x5632x4096 : Shape := ⟨4, ![1, 1, 5632, 4096]⟩
abbrev S5632x4096 : Shape := ⟨2, ![5632, 4096]⟩

abbrev nBuf : Space → Nat
  | .hbm => 22
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x11264, .bf16⟩
  | .hbm, ⟨2, _⟩ => ⟨S4x2x5632x4096, .f32⟩
  | .hbm, ⟨3, _⟩ => ⟨S17408x4096, .f32⟩
  | .hbm, ⟨4, _⟩ => ⟨S4096x11264, .f32⟩
  | .hbm, ⟨5, _⟩ => ⟨S17408x11264, .f32⟩
  | .hbm, ⟨6, _⟩ => ⟨S17408x5632, .f32⟩
  | .hbm, ⟨7, _⟩ => ⟨S17408x5632, .f32⟩
  | .hbm, ⟨8, _⟩ => ⟨S17408x5632, .f32⟩
  | .hbm, ⟨9, _⟩ => ⟨S17408x5632, .f32⟩
  | .hbm, ⟨10, _⟩ => ⟨S_, .f32⟩
  | .hbm, ⟨11, _⟩ => ⟨S17408x5632, .f32⟩
  | .hbm, ⟨12, _⟩ => ⟨S17408x5632, .f32⟩
  | .hbm, ⟨13, _⟩ => ⟨S_, .f32⟩
  | .hbm, ⟨14, _⟩ => ⟨S17408x5632, .f32⟩
  | .hbm, ⟨15, _⟩ => ⟨S17408x5632, .f32⟩
  | .hbm, ⟨16, _⟩ => ⟨S17408x5632, .f32⟩
  | .hbm, ⟨17, _⟩ => ⟨S17408x5632, .f32⟩
  | .hbm, ⟨18, _⟩ => ⟨S17408x5632, .bf16⟩
  | .hbm, ⟨19, _⟩ => ⟨S1x1x5632x4096, .f32⟩
  | .hbm, ⟨20, _⟩ => ⟨S5632x4096, .f32⟩
  | .hbm, ⟨21, _⟩ => ⟨S5632x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== FfnOut.lean ====
abbrev S17408x5632 : Shape := ⟨2, ![17408, 5632]⟩
abbrev S5632x4096 : Shape := ⟨2, ![5632, 4096]⟩
abbrev S2x4096x12288 : Shape := ⟨3, ![2, 4096, 12288]⟩
abbrev S17408x4096 : Shape := ⟨2, ![17408, 4096]⟩
abbrev S4096x12288 : Shape := ⟨2, ![4096, 12288]⟩
abbrev S1024x5632 : Shape := ⟨2, ![1024, 5632]⟩
abbrev S5632x512 : Shape := ⟨2, ![5632, 512]⟩
abbrev S1x32x12288 : Shape := ⟨3, ![1, 32, 12288]⟩
abbrev S1024x512 : Shape := ⟨2, ![1024, 512]⟩
abbrev S32x12288 : Shape := ⟨2, ![32, 12288]⟩

abbrev nBuf : Space → Nat
  | .hbm => 5
  | .vmem => 10
  | .smem => 0
  | _ => 0

abbrev bufTy : (tb : Table) → Fin (tcTables nBuf tb) → BufTy
  | .hbm, ⟨0, _⟩ => ⟨S17408x5632, .bf16⟩
  | .hbm, ⟨1, _⟩ => ⟨S5632x4096, .bf16⟩
  | .hbm, ⟨2, _⟩ => ⟨S2x4096x12288, .f32⟩
  | .hbm, ⟨3, _⟩ => ⟨S17408x4096, .bf16⟩
  | .hbm, ⟨4, _⟩ => ⟨S4096x12288, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1x32x12288, .f32⟩
  | .local _ .vmem, ⟨5, _⟩ => ⟨S1x32x12288, .f32⟩
  | .local _ .vmem, ⟨6, _⟩ => ⟨S1024x512, .bf16⟩
  | .local _ .vmem, ⟨7, _⟩ => ⟨S1024x512, .bf16⟩
  | .local _ .vmem, ⟨8, _⟩ => ⟨S32x12288, .bf16⟩
  | .local _ .vmem, ⟨9, _⟩ => ⟨S32x12288, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutRefIdeal.lean ====
abbrev S17408x5632 : Shape := ⟨2, ![17408, 5632]⟩
abbrev S5632x4096 : Shape := ⟨2, ![5632, 4096]⟩
abbrev S2x4096x12288 : Shape := ⟨3, ![2, 4096, 12288]⟩
abbrev S17408x4096 : Shape := ⟨2, ![17408, 4096]⟩
abbrev S1x4096x12288 : Shape := ⟨3, ![1, 4096, 12288]⟩
abbrev S4096x12288 : Shape := ⟨2, ![4096, 12288]⟩

abbrev nBuf : Space → Nat
  | .hbm => 10
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x4096, .bf16⟩
  | .hbm, ⟨2, _⟩ => ⟨S2x4096x12288, .f32⟩
  | .hbm, ⟨3, _⟩ => ⟨S17408x5632, .f32⟩
  | .hbm, ⟨4, _⟩ => ⟨S5632x4096, .f32⟩
  | .hbm, ⟨5, _⟩ => ⟨S17408x4096, .f32⟩
  | .hbm, ⟨6, _⟩ => ⟨S17408x4096, .bf16⟩
  | .hbm, ⟨7, _⟩ => ⟨S1x4096x12288, .f32⟩
  | .hbm, ⟨8, _⟩ => ⟨S4096x12288, .f32⟩
  | .hbm, ⟨9, _⟩ => ⟨S4096x12288, .bf16⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S17408x4096 : Shape := ⟨2, ![17408, 4096]⟩
abbrev S4096x12288 : Shape := ⟨2, ![4096, 12288]⟩
abbrev S2x4096x4096 : Shape := ⟨3, ![2, 4096, 4096]⟩
abbrev S17408x12288 : Shape := ⟨2, ![17408, 12288]⟩
abbrev S4096x4096 : Shape := ⟨2, ![4096, 4096]⟩
abbrev S1024x4096 : Shape := ⟨2, ![1024, 4096]⟩
abbrev S4096x1024 : Shape := ⟨2, ![4096, 1024]⟩
abbrev S1x32x4096 : Shape := ⟨3, ![1, 32, 4096]⟩
abbrev S1024x1024 : Shape := ⟨2, ![1024, 1024]⟩
abbrev S32x4096 : Shape := ⟨2, ![32, 4096]⟩

abbrev nBuf : Space → Nat
  | .hbm => 5
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S4096x12288, .bf16⟩
  | .hbm, ⟨2, _⟩ => ⟨S2x4096x4096, .f32⟩
  | .hbm, ⟨3, _⟩ => ⟨S17408x12288, .bf16⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x32x4096, .f32⟩
  | .local _ .vmem, ⟨5, _⟩ => ⟨S1x32x4096, .f32⟩
  | .local _ .vmem, ⟨6, _⟩ => ⟨S1024x1024, .bf16⟩
  | .local _ .vmem, ⟨7, _⟩ => ⟨S1024x1024, .bf16⟩
  | .local _ .vmem, ⟨8, _⟩ => ⟨S32x4096, .bf16⟩
  | .local _ .vmem, ⟨9, _⟩ => ⟨S32x4096, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixInRefIdeal.lean ====
abbrev S17408x4096 : Shape := ⟨2, ![17408, 4096]⟩
abbrev S4096x12288 : Shape := ⟨2, ![4096, 12288]⟩
abbrev S2x4096x4096 : Shape := ⟨3, ![2, 4096, 4096]⟩
abbrev S17408x12288 : Shape := ⟨2, ![17408, 12288]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x12288, .bf16⟩
  | .hbm, ⟨2, _⟩ => ⟨S2x4096x4096, .f32⟩
  | .hbm, ⟨3, _⟩ => ⟨S17408x4096, .f32⟩
  | .hbm, ⟨4, _⟩ => ⟨S4096x12288, .f32⟩
  | .hbm, ⟨5, _⟩ => ⟨S17408x12288, .f32⟩
  | .hbm, ⟨6, _⟩ => ⟨S17408x12288, .bf16⟩
  | .hbm, ⟨7, _⟩ => ⟨S1x4096x4096, .f32⟩
  | .hbm, ⟨8, _⟩ => ⟨S4096x4096, .f32⟩
  | .hbm, ⟨9, _⟩ => ⟨S4096x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S17408x4096 : Shape := ⟨2, ![17408, 4096]⟩
abbrev S4096x4096 : Shape := ⟨2, ![4096, 4096]⟩
abbrev S4x2x4096x11264 : Shape := ⟨4, ![4, 2, 4096, 11264]⟩
abbrev S4096x11264 : Shape := ⟨2, ![4096, 11264]⟩
abbrev S1024x4096 : Shape := ⟨2, ![1024, 4096]⟩
abbrev S4096x1024 : Shape := ⟨2, ![4096, 1024]⟩
abbrev S1x1x64x11264 : Shape := ⟨4, ![1, 1, 64, 11264]⟩
abbrev S1024x1024 : Shape := ⟨2, ![1024, 1024]⟩
abbrev S64x11264 : Shape := ⟨2, ![64, 11264]⟩

abbrev nBuf : Space → Nat
  | .hbm => 5
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S4x2x4096x11264, .f32⟩
  | .hbm, ⟨3, _⟩ => ⟨S17408x4096, .bf16⟩
  | .hbm, ⟨4, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x64x11264, .f32⟩
  | .local _ .vmem, ⟨5, _⟩ => ⟨S1x1x64x11264, .f32⟩
  | .local _ .vmem, ⟨6, _⟩ => ⟨S1024x1024, .bf16⟩
  | .local _ .vmem, ⟨7, _⟩ => ⟨S1024x1024, .bf16⟩
  | .local _ .vmem, ⟨8, _⟩ => ⟨S64x11264, .bf16⟩
  | .local _ .vmem, ⟨9, _⟩ => ⟨S64x11264, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64x11264 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x11264 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixOutRefIdeal.lean ====
abbrev S17408x4096 : Shape := ⟨2, ![17408, 4096]⟩
abbrev S4096x4096 : Shape := ⟨2, ![4096, 4096]⟩
abbrev S4x2x4096x11264 : Shape := ⟨4, ![4, 2, 4096, 11264]⟩
abbrev S1x1x4096x11264 : Shape := ⟨4, ![1, 1, 4096, 11264]⟩
abbrev S4096x11264 : Shape := ⟨2, ![4096, 11264]⟩

abbrev nBuf : Space → Nat
  | .hbm => 10
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S4x2x4096x11264, .f32⟩
  | .hbm, ⟨3, _⟩ => ⟨S17408x4096, .f32⟩
  | .hbm, ⟨4, _⟩ => ⟨S4096x4096, .f32⟩
  | .hbm, ⟨5, _⟩ => ⟨S17408x4096, .f32⟩
  | .hbm, ⟨6, _⟩ => ⟨S17408x4096, .bf16⟩
  | .hbm, ⟨7, _⟩ => ⟨S1x1x4096x11264, .f32⟩
  | .hbm, ⟨8, _⟩ => ⟨S4096x11264, .f32⟩
  | .hbm, ⟨9, _⟩ => ⟨S4096x11264, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Post.lean ====
abbrev S16384x4096 : Shape := ⟨2, ![16384, 4096]⟩
abbrev S17408x4096 : Shape := ⟨2, ![17408, 4096]⟩
abbrev S6x4096 : Shape := ⟨2, ![6, 4096]⟩
abbrev S8x9x4096 : Shape := ⟨3, ![8, 9, 4096]⟩
abbrev S256x4096 : Shape := ⟨2, ![256, 4096]⟩
abbrev S1x9x4096 : Shape := ⟨3, ![1, 9, 4096]⟩
abbrev S9x4096 : Shape := ⟨2, ![9, 4096]⟩
abbrev S1x4096 : Shape := ⟨2, ![1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S17408x4096, .f32⟩
  | .hbm, ⟨2, _⟩ => ⟨S6x4096, .f32⟩
  | .hbm, ⟨3, _⟩ => ⟨S8x9x4096, .f32⟩
  | .hbm, ⟨4, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S6x4096, .f32⟩
  | .local _ .vmem, ⟨5, _⟩ => ⟨S1x9x4096, .f32⟩
  | .local _ .vmem, ⟨6, _⟩ => ⟨S1x9x4096, .f32⟩
  | .local _ .vmem, ⟨7, _⟩ => ⟨S256x4096, .f32⟩
  | .local _ .vmem, ⟨8, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S16384x4096 : Shape := ⟨2, ![16384, 4096]⟩
abbrev S17408x4096 : Shape := ⟨2, ![17408, 4096]⟩
abbrev S6x4096 : Shape := ⟨2, ![6, 4096]⟩
abbrev S8x9x4096 : Shape := ⟨3, ![8, 9, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S17408x4096, .f32⟩
  | .hbm, ⟨2, _⟩ => ⟨S6x4096, .f32⟩
  | .hbm, ⟨3, _⟩ => ⟨S8x9x4096, .f32⟩
  | .hbm, ⟨4, _⟩ => ⟨S16384x4096, .f32⟩
  | .hbm, ⟨5, _⟩ => ⟨S4x4096x4096, .f32⟩
  | .hbm, ⟨6, _⟩ => ⟨S16384x4096, .f32⟩
  | .hbm, ⟨7, _⟩ => ⟨S4x4096x4096, .f32⟩
  | .hbm, ⟨8, _⟩ => ⟨S4x1x4096, .f32⟩
  | .hbm, ⟨9, _⟩ => ⟨S4x4096, .f32⟩
  | .hbm, ⟨10, _⟩ => ⟨S4x1x4096, .f32⟩
  | .hbm, ⟨11, _⟩ => ⟨S1x4096, .f32⟩
  | .hbm, ⟨12, _⟩ => ⟨S4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S1x1x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Ada.lean ====
abbrev S4x4096 : Shape := ⟨2, ![4, 4096]⟩
abbrev S4096 : Shape := ⟨1, ![4096]⟩
abbrev S4x4096x256 : Shape := ⟨3, ![4, 4096, 256]⟩
abbrev S4x256x36864 : Shape := ⟨3, ![4, 256, 36864]⟩
abbrev S4x36864 : Shape := ⟨2, ![4, 36864]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S4x1x36864 : Shape := ⟨3, ![4, 1, 36864]⟩
abbrev S4x8x36864 : Shape := ⟨3, ![4, 8, 36864]⟩
abbrev S1x4096x256 : Shape := ⟨3, ![1, 4096, 256]⟩
abbrev S1x256x4096 : Shape := ⟨3, ![1, 256, 4096]⟩
abbrev S1x1x4096 : Shape := ⟨3, ![1, 1, 4096]⟩
abbrev S1x8x4096 : Shape := ⟨3, ![1, 8, 4096]⟩
abbrev S8x256 : Shape := ⟨2, ![8, 256]⟩
abbrev S4096x256 : Shape := ⟨2, ![4096, 256]⟩
abbrev S256x4096 : Shape := ⟨2, ![256, 4096]⟩

abbrev nBuf : Space → Nat
  | .hbm => 11
  | .vmem => 10
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x256, .f32⟩
  | .hbm, ⟨3, _⟩ => ⟨S4x256x36864, .f32⟩
  | .hbm, ⟨4, _⟩ => ⟨S4x36864, .f32⟩
  | .hbm, ⟨5, _⟩ => ⟨S1x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S4x1x36864, .f32⟩
  | .hbm, ⟨10, _⟩ => ⟨S4x8x36864, .f32⟩
  | .local _ .vmem, ⟨0, _⟩ => ⟨S8x4096, .f32⟩
  | .local _ .vmem, ⟨1, _⟩ => ⟨S1x4096x256, .f32⟩
  | .local _ .vmem, ⟨2, _⟩ => ⟨S1x4096x256, .f32⟩
  | .local _ .vmem, ⟨3, _⟩ => ⟨S1x256x4096, .f32⟩
  | .local _ .vmem, ⟨4, _⟩ => ⟨S1x256x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x8x4096, .f32⟩
  | .local _ .vmem, ⟨8, _⟩ => ⟨S1x8x4096, .f32⟩
  | .local _ .vmem, ⟨9, _⟩ => ⟨S8x256, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AdaRefIdeal.lean ====
abbrev S4x4096 : Shape := ⟨2, ![4, 4096]⟩
abbrev S4096 : Shape := ⟨1, ![4096]⟩
abbrev S4x4096x256 : Shape := ⟨3, ![4, 4096, 256]⟩
abbrev S4x256x36864 : Shape := ⟨3, ![4, 256, 36864]⟩
abbrev S4x36864 : Shape := ⟨2, ![4, 36864]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S8x4x256 : Shape := ⟨3, ![8, 4, 256]⟩
abbrev S4x8x256 : Shape := ⟨3, ![4, 8, 256]⟩
abbrev S4x8x36864 : Shape := ⟨3, ![4, 8, 36864]⟩
abbrev S4x1x36864 : Shape := ⟨3, ![4, 1, 36864]⟩

abbrev nBuf : Space → Nat
  | .hbm => 24
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x256, .f32⟩
  | .hbm, ⟨3, _⟩ => ⟨S4x256x36864, .f32⟩
  | .hbm, ⟨4, _⟩ => ⟨S4x36864, .f32⟩
  | .hbm, ⟨5, _⟩ => ⟨S1x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S8x4x256, .f32⟩
  | .hbm, ⟨19, _⟩ => ⟨S4x8x256, .f32⟩
  | .hbm, ⟨20, _⟩ => ⟨S4x8x36864, .f32⟩
  | .hbm, ⟨21, _⟩ => ⟨S4x1x36864, .f32⟩
  | .hbm, ⟨22, _⟩ => ⟨S4x8x36864, .f32⟩
  | .hbm, ⟨23, _⟩ => ⟨S4x8x36864, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== First.lean ====
abbrev S4x4096x4096 : Shape := ⟨3, ![4, 4096, 4096]⟩
abbrev S4x256x4096 : Shape := ⟨3, ![4, 256, 4096]⟩
abbrev S6x4096 : Shape := ⟨2, ![6, 4096]⟩
abbrev S8x9x4096 : Shape := ⟨3, ![8, 9, 4096]⟩
abbrev S16384x4096 : Shape := ⟨2, ![16384, 4096]⟩
abbrev S1024x4096 : Shape := ⟨2, ![1024, 4096]⟩
abbrev S17408x4096 : Shape := ⟨2, ![17408, 4096]⟩
abbrev S256x4096 : Shape := ⟨2, ![256, 4096]⟩
abbrev S1x9x4096 : Shape := ⟨3, ![1, 9, 4096]⟩
abbrev S9x4096 : Shape := ⟨2, ![9, 4096]⟩
abbrev S1x4096 : Shape := ⟨2, ![1, 4096]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S6x4096, .f32⟩
  | .hbm, ⟨3, _⟩ => ⟨S8x9x4096, .f32⟩
  | .hbm, ⟨4, _⟩ => ⟨S16384x4096, .f32⟩
  | .hbm, ⟨5, _⟩ => ⟨S1024x4096, .f32⟩
  | .hbm, ⟨6, _⟩ => ⟨S17408x4096, .f32⟩
  | .hbm, ⟨7, _⟩ => ⟨S17408x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S6x4096, .f32⟩
  | .local _ .vmem, ⟨5, _⟩ => ⟨S1x9x4096, .f32⟩
  | .local _ .vmem, ⟨6, _⟩ => ⟨S1x9x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32 : BitVec 32 := 64#32
  let v0 : BitVec 1 := Scalar.cmpi .slt arg0 c64_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FirstRefIdeal.lean ====
abbrev S4x4096x4096 : Shape := ⟨3, ![4, 4096, 4096]⟩
abbrev S4x256x4096 : Shape := ⟨3, ![4, 256, 4096]⟩
abbrev S6x4096 : Shape := ⟨2, ![6, 4096]⟩
abbrev S8x9x4096 : Shape := ⟨3, ![8, 9, 4096]⟩
abbrev S1x4096 : Shape := ⟨2, ![1, 4096]⟩
abbrev S4096 : Shape := ⟨1, ![4096]⟩
abbrev S4x1x4096 : Shape := ⟨3, ![4, 1, 4096]⟩
abbrev S4x4096 : Shape := ⟨2, ![4, 4096]⟩
abbrev S_ : Shape := ⟨0, ![]⟩
abbrev S4x4096x1 : Shape := ⟨3, ![4, 4096, 1]⟩
abbrev S1x1x4096 : Shape := ⟨3, ![1, 1, 4096]⟩
abbrev S4x256 : Shape := ⟨2, ![4, 256]⟩
abbrev S4x256x1 : Shape := ⟨3, ![4, 256, 1]⟩
abbrev S16384x4096 : Shape := ⟨2, ![16384, 4096]⟩
abbrev S1024x4096 : Shape := ⟨2, ![1024, 4096]⟩
abbrev S17408x4096 : Shape := ⟨2, ![17408, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S6x4096, .f32⟩
  | .hbm, ⟨3, _⟩ => ⟨S8x9x4096, .f32⟩
  | .hbm, ⟨4, _⟩ => ⟨S1x4096, .f32⟩
  | .hbm, ⟨5, _⟩ => ⟨S4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S4x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S1x1x4096, .f32⟩
  | .hbm, ⟨24, _⟩ => ⟨S4x4096x4096, .f32⟩
  | .hbm, ⟨25, _⟩ => ⟨S4x4096x4096, .f32⟩
  | .hbm, ⟨26, _⟩ => ⟨S4x1x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x1x4096, .f32⟩
  | .hbm, ⟨33, _⟩ => ⟨S4x4096x4096, .f32⟩
  | .hbm, ⟨34, _⟩ => ⟨S4x4096x4096, .f32⟩
  | .hbm, ⟨35, _⟩ => ⟨S1x4096, .f32⟩
  | .hbm, ⟨36, _⟩ => ⟨S4096, .f32⟩
  | .hbm, ⟨37, _⟩ => ⟨S1x1x4096, .f32⟩
  | .hbm, ⟨38, _⟩ => ⟨S1x4096, .f32⟩
  | .hbm, ⟨39, _⟩ => ⟨S1x1x4096, .f32⟩
  | .hbm, ⟨40, _⟩ => ⟨S1x4096, .f32⟩
  | .hbm, ⟨41, _⟩ => ⟨S4x256x4096, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x4096, .f32⟩
  | .hbm, ⟨53, _⟩ => ⟨S4x256x4096, .f32⟩
  | .hbm, ⟨54, _⟩ => ⟨S1x1x4096, .f32⟩
  | .hbm, ⟨55, _⟩ => ⟨S4x256x4096, .f32⟩
  | .hbm, ⟨56, _⟩ => ⟨S4x256x4096, .f32⟩
  | .hbm, ⟨57, _⟩ => ⟨S1x1x4096, .f32⟩
  | .hbm, ⟨58, _⟩ => ⟨S_, .f32⟩
  | .hbm, ⟨59, _⟩ => ⟨S1x1x4096, .f32⟩
  | .hbm, ⟨60, _⟩ => ⟨S1x1x4096, .f32⟩
  | .hbm, ⟨61, _⟩ => ⟨S4x256x4096, .f32⟩
  | .hbm, ⟨62, _⟩ => ⟨S4x256x4096, .f32⟩
  | .hbm, ⟨63, _⟩ => ⟨S1x1x4096, .f32⟩
  | .hbm, ⟨64, _⟩ => ⟨S4x256x4096, .f32⟩
  | .hbm, ⟨65, _⟩ => ⟨S4x256x4096, .f32⟩
  | .hbm, ⟨66, _⟩ => ⟨S16384x4096, .f32⟩
  | .hbm, ⟨67, _⟩ => ⟨S1024x4096, .f32⟩
  | .hbm, ⟨68, _⟩ => ⟨S17408x4096, .f32⟩
  | .hbm, ⟨69, _⟩ => ⟨S16384x4096, .f32⟩
  | .hbm, ⟨70, _⟩ => ⟨S1024x4096, .f32⟩
  | .hbm, ⟨71, _⟩ => ⟨S17408x4096, .f32⟩
  | .hbm, ⟨72, _⟩ => ⟨S17408x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Codes.lean ====
abbrev S17408x4096 : Shape := ⟨2, ![17408, 4096]⟩
abbrev S4096x12320 : Shape := ⟨2, ![4096, 12320]⟩
abbrev S4096x32 : Shape := ⟨2, ![4096, 32]⟩
abbrev S_ : Shape := ⟨0, ![]⟩
abbrev S4096x128 : Shape := ⟨2, ![4096, 128]⟩
abbrev S17408x128 : Shape := ⟨2, ![17408, 128]⟩
abbrev S1024x4096 : Shape := ⟨2, ![1024, 4096]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S17408x4096, .bf16⟩
  | .hbm, ⟨1, _⟩ => ⟨S4096x12320, .f32⟩
  | .hbm, ⟨2, _⟩ => ⟨S4096x32, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S17408x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CodesRefIdeal.lean ====
abbrev S17408x4096 : Shape := ⟨2, ![17408, 4096]⟩
abbrev S4096x12320 : Shape := ⟨2, ![4096, 12320]⟩
abbrev S4096x32 : Shape := ⟨2, ![4096, 32]⟩
abbrev S17408x32 : Shape := ⟨2, ![17408, 32]⟩
abbrev S_ : Shape := ⟨0, ![]⟩
abbrev S17408x128 : Shape := ⟨2, ![17408, 128]⟩

abbrev nBuf : Space → Nat
  | .hbm => 8
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x12320, .f32⟩
  | .hbm, ⟨2, _⟩ => ⟨S17408x4096, .f32⟩
  | .hbm, ⟨3, _⟩ => ⟨S4096x32, .f32⟩
  | .hbm, ⟨4, _⟩ => ⟨S17408x32, .f32⟩
  | .hbm, ⟨5, _⟩ => ⟨S_, .i32⟩
  | .hbm, ⟨6, _⟩ => ⟨S_, .f32⟩
  | .hbm, ⟨7, _⟩ => ⟨S17408x128, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.PostPre.Words.lean ====
/-
  The words the pipeline of the fused residual and pre-norm kernel carries from step to step, in closed form, and the
  offsets, conditions and checks it computes from them: every step number is below 68, so each is decided.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 65536

noncomputable section

namespace Cert.Proof.PostPre

open Cert.KernelIdeal Cert.KernelIdeal.Gen
open Idealize.ShloMosaic Idealize.ShloMosaic.TcCoe Idealize.ShloMosaic.Tactic

/-! ## The carried words before step `k` -/

/-- How many row blocks have been requested: two ahead, all 68 at the end. -/
def wf (k : ℕ) : BitVec 32 := BitVec.ofNat 32 (min (k + 2) 68)
/-- How many row blocks have been read (and results issued). -/
def wr (k : ℕ) : BitVec 32 := BitVec.ofNat 32 k
/-- How many modulation blocks have been requested. -/
def wmf (k : ℕ) : BitVec 32 := BitVec.ofNat 32 (1 + k / 16)
/-- The modulation block being read, one further after the last step. -/
def wmr (k : ℕ) : BitVec 32 := BitVec.ofNat 32 (if k = 68 then 5 else k / 16)
/-- The gain windows' count: moves at the last step only. -/
def wg (k : ℕ) : BitVec 32 := BitVec.ofNat 32 (if k = 68 then 1 else 0)
/-- How many results have been waited for: one behind. -/
def ww (k : ℕ) : BitVec 32 := BitVec.ofNat 32 (k - 1)
/-- The grid coordinate, wrapping at the end. -/
def wi (k : ℕ) : BitVec 32 := BitVec.ofNat 32 (k % 68)

/-- The fifteen words carried before step `k`. -/
abbrev accAt (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wf k, wr k, wf k, wr k, wg k, wmf k, wmr k, wg k, wmf k, wmr k, wr k, ww k, wr k, ww k, wi k)

/-- The loop runs 68 steps. -/
theorem trips_eq : k0_t1_loop.trips = 68 := by decide +kernel

/-! ## Offsets by slot and block number -/

abbrev semOff3 (s : Fin 3) : Fin 1 → Nat := ![s.val]
abbrev semOff2 (s : Fin 2) : Fin 1 → Nat := ![s.val]
abbrev slotOff3 (s : Fin 3) : Fin 3 → Nat := ![s.val, 0, 0]
abbrev slotOff2 (s : Fin 2) : Fin 3 → Nat := ![s.val, 0, 0]
abbrev mslotOff (s : Fin 2) : Fin 4 → Nat := ![s.val, 0, 0, 0]
abbrev rowOff (b : Fin 68) : Fin 2 → Nat := ![256 * b.val, 0]
abbrev mrowOff (b : Fin 8) : Fin 3 → Nat := ![b.val, 0, 0]

theorem semOff3_inb (s : Fin 3) : ∀ a, semOff3 s a + S1.size a ≤ S3.size a := by revert s; decide +kernel
theorem semOff2_inb (s : Fin 2) : ∀ a, semOff2 s a + S1.size a ≤ S2.size a := by revert s; decide +kernel
theorem slotOff3_inb (s : Fin 3) : ∀ a, slotOff3 s a + S1x256x4096.size a ≤ S3x256x4096.size a := by revert s; decide +kernel
theorem slotOff2_inb (s : Fin 2) : ∀ a, slotOff2 s a + S1x256x4096.size a ≤ S2x256x4096.size a := by revert s; decide +kernel
theorem mslotOff_inb (s : Fin 2) : ∀ a, mslotOff s a + S1x1x9x4096.size a ≤ S2x1x9x4096.size a := by revert s; decide +kernel
theorem rowOff_inb (b : Fin 68) : ∀ a, rowOff b a + S256x4096.size a ≤ S17408x4096.size a := by revert b; decide +kernel
theorem mrowOff_inb (b : Fin 8) : ∀ a, mrowOff b a + S1x9x4096.size a ≤ S8x9x4096.size a := by revert b; decide +kernel

/-! ## Each offset the kernel computes is a slot's or a block's; each condition a condition on the step number -/

theorem off12_eq (k : Fin k0_t1_loop.trips) (hk : k.val < 66) : k0_off12 (wf k.val) = semOff3 (Ring.sl 3 (k.val + 2)) := by
  revert k; decide +kernel

theorem off13_eq (k : Fin k0_t1_loop.trips) (hk : k.val < 66) : k0_off13 (wf k.val) = slotOff3 (Ring.sl 3 (k.val + 2)) := by
  revert k; decide +kernel

theorem off14_eq (k : Fin k0_t1_loop.trips) (hk : k.val < 66) : k0_off14 (wi k.val) = rowOff (Ring.bk 68 (k.val + 2)) := by
  revert k; decide +kernel

theorem off15_eq (k : Fin k0_t1_loop.trips) (hk : k.val < 66) : k0_off15 (wf k.val) = semOff3 (Ring.sl 3 (k.val + 2)) := by
  revert k; decide +kernel

theorem off16_eq (k : Fin k0_t1_loop.trips) (hk : k.val < 66) : k0_off16 (wf k.val) = slotOff3 (Ring.sl 3 (k.val + 2)) := by
  revert k; decide +kernel

theorem off17_eq (k : Fin k0_t1_loop.trips) (hk : k.val < 66) : k0_off17 (wi k.val) = rowOff (Ring.bk 68 (k.val + 2)) := by
  revert k; decide +kernel

theorem off18_eq (k : Fin k0_t1_loop.trips) (hk : k.val % 16 = 15) : k0_off18 (wmf k.val) = semOff2 (Ring.sl 2 (k.val / 16 + 1)) := by
  revert k; decide +kernel

theorem off19_eq (k : Fin k0_t1_loop.trips) (hk : k.val % 16 = 15) : k0_off19 (wmf k.val) = mslotOff (Ring.sl 2 (k.val / 16 + 1)) := by
  revert k; decide +kernel

theorem off20_eq (k : Fin k0_t1_loop.trips) (hk : k.val % 16 = 15) : k0_off20 (wi k.val) = mrowOff (Ring.bk 8 (k.val / 16 + 1)) := by
  revert k; decide +kernel

theorem off21_eq (k : Fin k0_t1_loop.trips) (hk : k.val % 16 = 15) : k0_off21 (wmf k.val) = semOff2 (Ring.sl 2 (k.val / 16 + 1)) := by
  revert k; decide +kernel

theorem off22_eq (k : Fin k0_t1_loop.trips) (hk : k.val % 16 = 15) : k0_off22 (wmf k.val) = mslotOff (Ring.sl 2 (k.val / 16 + 1)) := by
  revert k; decide +kernel

theorem off23_eq (k : Fin k0_t1_loop.trips) (hk : k.val % 16 = 15) : k0_off23 (wi k.val) = mrowOff (Ring.bk 8 (k.val / 16 + 1)) := by
  revert k; decide +kernel

theorem off24_eq (k : Fin k0_t1_loop.trips) : k0_off24 (wr k.val) = semOff3 (Ring.sl 3 k.val) := by
  revert k; decide +kernel

theorem off25_eq (k : Fin k0_t1_loop.trips) : k0_off25 (wr k.val) = slotOff3 (Ring.sl 3 k.val) := by
  revert k; decide +kernel

theorem off26_eq (k : Fin k0_t1_loop.trips) : k0_off26 (wi k.val) = rowOff (Ring.bk 68 k.val) := by
  revert k; decide +kernel

theorem off27_eq (k : Fin k0_t1_loop.trips) : k0_off27 (wr k.val) = semOff3 (Ring.sl 3 k.val) := by
  revert k; decide +kernel

theorem off28_eq (k : Fin k0_t1_loop.trips) : k0_off28 (wr k.val) = slotOff3 (Ring.sl 3 k.val) := by
  revert k; decide +kernel

theorem off29_eq (k : Fin k0_t1_loop.trips) : k0_off29 (wi k.val) = rowOff (Ring.bk 68 k.val) := by
  revert k; decide +kernel

theorem off30_eq (k : Fin k0_t1_loop.trips) : k0_off30 (wmr k.val) = semOff2 (Ring.sl 2 (k.val / 16)) := by
  revert k; decide +kernel

theorem off31_eq (k : Fin k0_t1_loop.trips) : k0_off31 (wmr k.val) = mslotOff (Ring.sl 2 (k.val / 16)) := by
  revert k; decide +kernel

theorem off32_eq (k : Fin k0_t1_loop.trips) : k0_off32 (wi k.val) = mrowOff (Ring.bk 8 (k.val / 16)) := by
  revert k; decide +kernel

theorem off33_eq (k : Fin k0_t1_loop.trips) : k0_off33 (wmr k.val) = semOff2 (Ring.sl 2 (k.val / 16)) := by
  revert k; decide +kernel

theorem off34_eq (k : Fin k0_t1_loop.trips) : k0_off34 (wmr k.val) = mslotOff (Ring.sl 2 (k.val / 16)) := by
  revert k; decide +kernel

theorem off35_eq (k : Fin k0_t1_loop.trips) : k0_off35 (wi k.val) = mrowOff (Ring.bk 8 (k.val / 16)) := by
  revert k; decide +kernel

theorem off36_eq (k : Fin k0_t1_loop.trips) : k0_off36 (wmr k.val) = mslotOff (Ring.sl 2 (k.val / 16)) := by
  revert k; decide +kernel

theorem off37_eq (k : Fin k0_t1_loop.trips) : k0_off37 (wr k.val) = slotOff3 (Ring.sl 3 k.val) := by
  revert k; decide +kernel

theorem off38_eq (k : Fin k0_t1_loop.trips) : k0_off38 (wr k.val) = slotOff3 (Ring.sl 3 k.val) := by
  revert k; decide +kernel

theorem off39_eq (k : Fin k0_t1_loop.trips) : k0_off39 (wr k.val) = slotOff2 (Ring.sl 2 k.val) := by
  revert k; decide +kernel

theorem off40_eq (k : Fin k0_t1_loop.trips) : k0_off40 (wmr k.val) = mslotOff (Ring.sl 2 (k.val / 16)) := by
  revert k; decide +kernel

theorem off41_eq (k : Fin k0_t1_loop.trips) : k0_off41 (wr k.val) = slotOff2 (Ring.sl 2 k.val) := by
  revert k; decide +kernel

theorem off42_eq (k : Fin k0_t1_loop.trips) : k0_off42 (wr k.val) = semOff2 (Ring.sl 2 k.val) := by
  revert k; decide +kernel

theorem off43_eq (k : Fin k0_t1_loop.trips) : k0_off43 (wi k.val) = rowOff (Ring.bk 68 k.val) := by
  revert k; decide +kernel

theorem off44_eq (k : Fin k0_t1_loop.trips) : k0_off44 (wr k.val) = slotOff2 (Ring.sl 2 k.val) := by
  revert k; decide +kernel

theorem off45_eq (k : Fin k0_t1_loop.trips) : k0_off45 (wr k.val) = semOff2 (Ring.sl 2 k.val) := by
  revert k; decide +kernel

theorem off46_eq (k : Fin k0_t1_loop.trips) : k0_off46 (wi k.val) = rowOff (Ring.bk 68 k.val) := by
  revert k; decide +kernel

theorem off47_eq (k : Fin k0_t1_loop.trips) : k0_off47 (wr k.val) = slotOff2 (Ring.sl 2 k.val) := by
  revert k; decide +kernel

theorem off48_eq (k : Fin k0_t1_loop.trips) : k0_off48 (ww k.val) = semOff2 (Ring.sl 2 (k.val - 1)) := by
  revert k; decide +kernel

theorem off49_eq (k : Fin k0_t1_loop.trips) (hk : 1 ≤ k.val) : k0_off49 (wi k.val) = rowOff (Ring.bk 68 (k.val - 1)) := by
  revert k; decide +kernel

theorem off50_eq (k : Fin k0_t1_loop.trips) : k0_off50 (ww k.val) = slotOff2 (Ring.sl 2 (k.val - 1)) := by
  revert k; decide +kernel

theorem off51_eq (k : Fin k0_t1_loop.trips) : k0_off51 (ww k.val) = semOff2 (Ring.sl 2 (k.val - 1)) := by
  revert k; decide +kernel

theorem off52_eq (k : Fin k0_t1_loop.trips) (hk : 1 ≤ k.val) : k0_off52 (wi k.val) = rowOff (Ring.bk 68 (k.val - 1)) := by
  revert k; decide +kernel

theorem off53_eq (k : Fin k0_t1_loop.trips) : k0_off53 (ww k.val) = slotOff2 (Ring.sl 2 (k.val - 1)) := by
  revert k; decide +kernel

theorem off1_eq : k0_off1 = semOff3 0 := by decide +kernel

theorem off2_eq : k0_off2 = slotOff3 0 := by decide +kernel

theorem off3_eq : k0_off3 = semOff2 0 := by decide +kernel

theorem off4_eq : k0_off4 = mslotOff 0 := by decide +kernel

theorem off5_eq : k0_off5 = mrowOff 0 := by decide +kernel

theorem off6_eq : k0_off6 = semOff3 1 := by decide +kernel

theorem off7_eq : k0_off7 = slotOff3 1 := by decide +kernel

theorem off8_eq : k0_off8 = rowOff 1 := by decide +kernel

theorem off9_eq : k0_off9 = semOff3 1 := by decide +kernel

theorem off10_eq : k0_off10 = slotOff3 1 := by decide +kernel

theorem off11_eq : k0_off11 = rowOff 1 := by decide +kernel

theorem off54_eq : k0_off54 (ww 68) = semOff2 1 := by decide +kernel

theorem off55_eq : k0_off55 (wi 68) = rowOff 67 := by decide +kernel

theorem off56_eq : k0_off56 (ww 68) = slotOff2 1 := by decide +kernel

theorem off57_eq : k0_off57 (ww 68) = semOff2 1 := by decide +kernel

theorem off58_eq : k0_off58 (wi 68) = rowOff 67 := by decide +kernel

theorem off59_eq : k0_off59 (ww 68) = slotOff2 1 := by decide +kernel

theorem cond1_eq : k0_cond1 = 1#1 := by decide +kernel
theorem cond2_eq : k0_cond2 = 1#1 := by decide +kernel

theorem cond3_iff (k : Fin k0_t1_loop.trips) : k0_cond3 k (wi k.val) = 1#1 ↔ k.val < 66 := by
  revert k; decide +kernel

theorem cond4_iff (k : Fin k0_t1_loop.trips) : k0_cond4 k (wi k.val) = 1#1 ↔ k.val < 66 := by
  revert k; decide +kernel

theorem cond5_iff (k : Fin k0_t1_loop.trips) : k0_cond5 k (wi k.val) = 1#1 ↔ k.val % 16 = 15 := by
  revert k; decide +kernel

theorem cond6_iff (k : Fin k0_t1_loop.trips) : k0_cond6 k (wi k.val) = 1#1 ↔ k.val % 16 = 15 := by
  revert k; decide +kernel

theorem cond7_iff (k : Fin k0_t1_loop.trips) : k0_cond7 k (wi k.val) = 1#1 ↔ True := by
  revert k; decide +kernel

theorem cond8_iff (k : Fin k0_t1_loop.trips) : k0_cond8 k (wi k.val) = 1#1 ↔ True := by
  revert k; decide +kernel

theorem cond9_iff (k : Fin k0_t1_loop.trips) : k0_cond9 k (wi k.val) = 1#1 ↔ k.val % 16 = 0 := by
  revert k; decide +kernel

theorem cond10_iff (k : Fin k0_t1_loop.trips) : k0_cond10 k (wi k.val) = 1#1 ↔ k.val % 16 = 0 := by
  revert k; decide +kernel

theorem cond17_iff (k : Fin k0_t1_loop.trips) : k0_cond17 k (wi k.val) = 1#1 ↔ True := by
  revert k; decide +kernel

theorem cond18_iff (k : Fin k0_t1_loop.trips) : k0_cond18 k (wi k.val) = 1#1 ↔ True := by
  revert k; decide +kernel

theorem cond23_iff (k : Fin k0_t1_loop.trips) : k0_cond23 k (wi k.val) = 1#1 ↔ 1 ≤ k.val := by
  revert k; decide +kernel

theorem cond24_iff (k : Fin k0_t1_loop.trips) : k0_cond24 k (wi k.val) = 1#1 ↔ 1 ≤ k.val := by
  revert k; decide +kernel

theorem chk7_ok (k : Fin k0_t1_loop.trips) : k0_chk7 (wr k.val) := by
  revert k; decide +kernel

theorem chk6_ok (k : Fin k0_t1_loop.trips) : k0_chk6 (wmr k.val) := by
  revert k; decide +kernel

theorem chk5_ok (k : Fin k0_t1_loop.trips) : k0_chk5 (wr k.val) := by
  revert k; decide +kernel

theorem chk4_ok (k : Fin k0_t1_loop.trips) : k0_chk4 (wr k.val) := by
  revert k; decide +kernel

theorem chk3_ok (k : Fin k0_t1_loop.trips) : k0_chk3 (wr k.val) := by
  revert k; decide +kernel

theorem chk2_ok (k : Fin k0_t1_loop.trips) : k0_chk2 (wmr k.val) := by
  revert k; decide +kernel

theorem chk1_ok (k : Fin k0_t1_loop.trips) : k0_chk1 k (wf k.val) (wr k.val) (wf k.val) (wr k.val) (wmf k.val) (wmr k.val) (wmf k.val) (wmr k.val) (wr k.val) (ww k.val) (wr k.val) (ww k.val) (wi k.val) := by
  revert k; decide +kernel

theorem chk10_ok : k0_chk10 (ww 68) := by decide +kernel

theorem chk9_ok : k0_chk9 (wi 68) := by decide +kernel

theorem chk8_ok : k0_chk8 (ww 68) := by decide +kernel

end Cert.Proof.PostPre

end
-- ==== Proof.PostPre.Rings.lean ====
/-
  The pieces the pipeline of the fused residual and pre-norm kernel moves: a row block of an array at home, a slot of a
  buffer, its cell, a slot in flight; and the three kinds of ring they make — row blocks read two ahead through three
  slots, modulation blocks read through two slots when their index moves, results written one behind through two slots.
-/
module

public import proofs.«01_k».proof.Proof.PostPre.Words

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Names: blocks, slots, cells -/

/-- Row block `b` of an array of all rows. -/
def rowB {e : EltTy} (M : Memref sig .tc .hbm S17408x4096 e) (b : Fin 68) : Memref sig .tc .hbm S256x4096 e :=
  M.slice (Rect.unit (s := S17408x4096) (rowOff b) S256x4096.size (rowOff_inb b)) (fun _ => rfl)
/-- Modulation block `b`. -/
def mrow {e : EltTy} (M : Memref sig .tc .hbm S8x9x4096 e) (b : Fin 8) : Memref sig .tc .hbm S1x9x4096 e :=
  M.slice (Rect.unit (s := S8x9x4096) (mrowOff b) S1x9x4096.size (mrowOff_inb b)) (fun _ => rfl)
/-- Slot `s` of a buffer of three. -/
def slot3 {e : EltTy} (B : Memref sig .tc .vmem S3x256x4096 e) (s : Fin 3) : Memref sig .tc .vmem S256x4096 e :=
  (B.slice (Rect.unit (s := S3x256x4096) (slotOff3 s) S1x256x4096.size (slotOff3_inb s)) (fun _ => rfl)).squeeze S256x4096 squeezes_S1x256x4096_S256x4096
/-- Slot `s` of a buffer of two. -/
def slot2 {e : EltTy} (B : Memref sig .tc .vmem S2x256x4096 e) (s : Fin 2) : Memref sig .tc .vmem S256x4096 e :=
  (B.slice (Rect.unit (s := S2x256x4096) (slotOff2 s) S1x256x4096.size (slotOff2_inb s)) (fun _ => rfl)).squeeze S256x4096 squeezes_S1x256x4096_S256x4096
/-- Slot `s` of a modulation buffer. -/
def mslot {e : EltTy} (B : Memref sig .tc .vmem S2x1x9x4096 e) (s : Fin 2) : Memref sig .tc .vmem S1x9x4096 e :=
  (B.slice (Rect.unit (s := S2x1x9x4096) (mslotOff s) S1x1x9x4096.size (mslotOff_inb s)) (fun _ => rfl)).squeeze S1x9x4096 squeezes_S1x1x9x4096_S1x9x4096
/-- Cell `s` of three. -/
def cell3 (A : DmaSems sig S3) (s : Fin 3) : DmaSems sig S_ := (A.slice (Rect.unit (s := S3) (semOff3 s) S1.size (semOff3_inb s))).squeeze S_ squeezes_S1_S_
/-- Cell `s` of two. -/
def cell2 (A : DmaSems sig S2) (s : Fin 2) : DmaSems sig S_ := (A.slice (Rect.unit (s := S2) (semOff2 s) S1.size (semOff2_inb s))).squeeze S_ squeezes_S1_S_

instance (s : Fin 3) : ClosedOff (slotOff3 s) := ⟨slotOff3 s, rfl⟩
instance (s : Fin 2) : ClosedOff (slotOff2 s) := ⟨slotOff2 s, rfl⟩
instance (s : Fin 2) : ClosedOff (mslotOff s) := ⟨mslotOff s, rfl⟩
instance (b : Fin 68) : ClosedOff (rowOff b) := ⟨rowOff b, rfl⟩
instance (b : Fin 8) : ClosedOff (mrowOff b) := ⟨mrowOff b, rfl⟩

section Names
variable {e : EltTy}

theorem cell3_congr {A : DmaSems sig S3} {off : Fin 1 → Nat} {s : Fin 3} (h : off = semOff3 s) (hh) :
    (A.slice (Rect.unit (s := S3) off S1.size hh)).squeeze S_ squeezes_S1_S_ = cell3 A s :=
  congrArg (fun A : DmaSems sig S1 => A.squeeze S_ squeezes_S1_S_) (SemArray.slice_unit_congr _ h _ _)
theorem cell2_congr {A : DmaSems sig S2} {off : Fin 1 → Nat} {s : Fin 2} (h : off = semOff2 s) (hh) :
    (A.slice (Rect.unit (s := S2) off S1.size hh)).squeeze S_ squeezes_S1_S_ = cell2 A s :=
  congrArg (fun A : DmaSems sig S1 => A.squeeze S_ squeezes_S1_S_) (SemArray.slice_unit_congr _ h _ _)
theorem slot3_congr {B : Memref sig .tc .vmem S3x256x4096 e} {off : Fin 3 → Nat} {s : Fin 3} (h : off = slotOff3 s) (hh hs) :
    (B.slice (Rect.unit (s := S3x256x4096) off S1x256x4096.size hh) hs).squeeze S256x4096 squeezes_S1x256x4096_S256x4096 = slot3 B s :=
  congrArg (fun M : Memref sig .tc .vmem S1x256x4096 e => M.squeeze S256x4096 squeezes_S1x256x4096_S256x4096) (Memref.slice_unit_congr _ h _ _ _ _)
theorem slot2_congr {B : Memref sig .tc .vmem S2x256x4096 e} {off : Fin 3 → Nat} {s : Fin 2} (h : off = slotOff2 s) (hh hs) :
    (B.slice (Rect.unit (s := S2x256x4096) off S1x256x4096.size hh) hs).squeeze S256x4096 squeezes_S1x256x4096_S256x4096 = slot2 B s :=
  congrArg (fun M : Memref sig .tc .vmem S1x256x4096 e => M.squeeze S256x4096 squeezes_S1x256x4096_S256x4096) (Memref.slice_unit_congr _ h _ _ _ _)
theorem mslot_congr {B : Memref sig .tc .vmem S2x1x9x4096 e} {off : Fin 4 → Nat} {s : Fin 2} (h : off = mslotOff s) (hh hs) :
    (B.slice (Rect.unit (s := S2x1x9x4096) off S1x1x9x4096.size hh) hs).squeeze S1x9x4096 squeezes_S1x1x9x4096_S1x9x4096 = mslot B s :=
  congrArg (fun M : Memref sig .tc .vmem S1x1x9x4096 e => M.squeeze S1x9x4096 squeezes_S1x1x9x4096_S1x9x4096) (Memref.slice_unit_congr _ h _ _ _ _)
theorem rowB_congr {M : Memref sig .tc .hbm S17408x4096 e} {off : Fin 2 → Nat} {b : Fin 68} (h : off = rowOff b) (hh hs) :
    M.slice (Rect.unit (s := S17408x4096) off S256x4096.size hh) hs = rowB M b := Memref.slice_unit_congr _ h _ _ hs (fun _ => rfl)
theorem mrow_congr {M : Memref sig .tc .hbm S8x9x4096 e} {off : Fin 3 → Nat} {b : Fin 8} (h : off = mrowOff b) (hh hs) :
    M.slice (Rect.unit (s := S8x9x4096) off S1x9x4096.size hh) hs = mrow M b := Memref.slice_unit_congr _ h _ _ hs (fun _ => rfl)

end Names

/-! ## A ring of row blocks read two ahead through three slots -/

section Rows
variable (c : Dev nD) {e : EltTy} (A : DmaSems sig S3) (B : Memref sig .tc .vmem S3x256x4096 e) (M : Memref sig .tc .hbm S17408x4096 e)
  (N : ℕ) (X : Buf (Elt F) (M.view.loc (c : Thread nD τ)))

abbrev cell3P (s : Fin 3) : sProp 𝕄 := semVal ((c : Thread nD τ), SemLoc.dma (cell3 A s).sem) 0
abbrev slot3P (s : Fin 3) (f : Buf (Elt F) ((slot3 B s).view.loc (c : Thread nD τ))) : sProp 𝕄 :=
  (slot3 B s).view.loc (c : Thread nD τ) ↦[(slot3 B s).view.set]{fullShare} f
/-- Row block `b` at home. -/
abbrev rowP (b : Fin 68) : sProp 𝕄 := (rowB M b).view.loc (c : Thread nD τ) ↦[(rowB M b).view.set]{fullShare} X
/-- Slot `s` in flight with row block `b`, to hold `f`. -/
abbrev fly3P (s : Fin 3) (b : Fin 68) (f : Buf (Elt F) ((slot3 B s).view.loc (c : Thread nD τ))) : sProp 𝕄 :=
  Transfers.Flight countersEmb (c : Thread nD τ) (SemLoc.dma (cell3 A s).sem) () N iprop(slot3P c B s f ∗ rowP c M X b)
/-- Slot `s` holds row block `b`. -/
abbrev Holds3 (s : Fin 3) (b : Fin 68) (f : Buf (Elt F) ((slot3 B s).view.loc (c : Thread nD τ))) : Prop :=
  (slot3 B s).view.read (Elt F) f = (rowB M b).view.read (Elt F) X

/-- A free slot with its cell. -/
def free3 (p : ℕ) : sProp 𝕄 := iprop((∃ f, slot3P c B (Ring.sl 3 p) f) ∗ cell3P c A (Ring.sl 3 p))
/-- The slot of row block `p`: in flight while there is such a block, free after. -/
def role3 (p : ℕ) : sProp 𝕄 :=
  if p < 68 then iprop(∃ f, fly3P c A B M N X (Ring.sl 3 p) (Ring.bk 68 p) f ∗ ⌜Holds3 c B M X (Ring.sl 3 p) (Ring.bk 68 p) f⌝) else free3 c A B p
/-- The ring before step `k`. -/
def SR (k : ℕ) : sProp 𝕄 :=
  iprop(bigSep (Ring.homeSet 2 k) (rowP c M X) ∗ role3 c A B M N X k ∗ role3 c A B M N X (k + 1) ∗ free3 c A B (k + 2))

theorem free3_add (p : ℕ) : free3 (F := F) c A B (p + 3) = free3 c A B p := by unfold free3; rw [Ring.sl_add]

/-- The rows not at home nor in flight before step `k`, block `k + 2` being requested at it. -/
def rest3 (k : ℕ) : sProp 𝕄 := bigSep ((Ring.homeSet 2 k).erase (Ring.bk 68 (k + 2))) (rowP c M X)

/-- A step that requests block `k + 2`: what it finds; -/
theorem SR_open (k : ℕ) (hk : k < 66) :
    SR c A B M N X k ⊢ iprop(rowP c M X (Ring.bk 68 (k + 2)) ∗ rest3 c M X k
      ∗ (∃ f, fly3P c A B M N X (Ring.sl 3 k) (Ring.bk 68 k) f ∗ ⌜Holds3 c B M X (Ring.sl 3 k) (Ring.bk 68 k) f⌝)
      ∗ role3 c A B M N X (k + 1) ∗ (∃ f, slot3P c B (Ring.sl 3 (k + 2)) f) ∗ cell3P c A (Ring.sl 3 (k + 2))) := by
  have e1 : bigSep (Ring.homeSet 2 k) (rowP c M X) = iprop(rowP c M X (Ring.bk 68 (k + 2)) ∗ rest3 c M X k) := by
    conv_lhs => rw [Ring.homeSet_out 2 k (by omega), bigSep_insert (Ring.bkL_not_mem_erase 2 k)]
    rfl
  have e2 : role3 c A B M N X k = iprop(∃ f, fly3P c A B M N X (Ring.sl 3 k) (Ring.bk 68 k) f ∗ ⌜Holds3 c B M X (Ring.sl 3 k) (Ring.bk 68 k) f⌝) := if_pos (by omega)
  unfold SR; rw [e1, e2]; unfold free3
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6
/-- and what it leaves. -/
theorem SR_close (k : ℕ) (hk : k < 66) :
    iprop(rowP c M X (Ring.bk 68 k) ∗ rest3 c M X k
      ∗ (∃ f, fly3P c A B M N X (Ring.sl 3 (k + 2)) (Ring.bk 68 (k + 2)) f ∗ ⌜Holds3 c B M X (Ring.sl 3 (k + 2)) (Ring.bk 68 (k + 2)) f⌝)
      ∗ role3 c A B M N X (k + 1) ∗ (∃ f, slot3P c B (Ring.sl 3 k) f) ∗ cell3P c A (Ring.sl 3 k)) ⊢ SR c A B M N X (k + 1) := by
  have e1 : bigSep (Ring.homeSet 2 (k + 1)) (rowP c M X) = iprop(rowP c M X (Ring.bk 68 k) ∗ rest3 c M X k) := by
    conv_lhs => rw [Ring.homeSet_succ 2 k (by omega), bigSep_insert (Ring.bk_not_mem_erase 2 k (by omega) (by decide))]
    try rfl
  have e2 : role3 c A B M N X (k + 1 + 1) = iprop(∃ f, fly3P c A B M N X (Ring.sl 3 (k + 2)) (Ring.bk 68 (k + 2)) f ∗ ⌜Holds3 c B M X (Ring.sl 3 (k + 2)) (Ring.bk 68 (k + 2)) f⌝) := if_pos (by omega)
  unfold SR; rw [e1, e2, show k + 1 + 2 = k + 3 from rfl, free3_add]; unfold free3
  iintro ⟨H1, H2, H3, H4, H5, H6⟩
  isplitl [H1 H2]
  · isplitl [H1]; · iexact H1
    iexact H2
  isplitl [H4]; · iexact H4
  isplitl [H3]; · iexact H3
  isplitl [H5]; · iexact H5
  iexact H6
/-- A step that requests nothing: what it finds; -/
theorem SR_open_tail (k : ℕ) (hk : 66 ≤ k) (h8 : k < 68) :
    SR c A B M N X k ⊢ iprop(bigSep (Ring.homeSet 2 k) (rowP c M X)
      ∗ (∃ f, fly3P c A B M N X (Ring.sl 3 k) (Ring.bk 68 k) f ∗ ⌜Holds3 c B M X (Ring.sl 3 k) (Ring.bk 68 k) f⌝)
      ∗ role3 c A B M N X (k + 1) ∗ free3 c A B (k + 2)) := by
  have e2 : role3 c A B M N X k = iprop(∃ f, fly3P c A B M N X (Ring.sl 3 k) (Ring.bk 68 k) f ∗ ⌜Holds3 c B M X (Ring.sl 3 k) (Ring.bk 68 k) f⌝) := if_pos h8
  unfold SR; rw [e2]
/-- and what it leaves. -/
theorem SR_close_tail (k : ℕ) (hk : 66 ≤ k) (h8 : k < 68) :
    iprop(rowP c M X (Ring.bk 68 k) ∗ bigSep (Ring.homeSet 2 k) (rowP c M X)
      ∗ role3 c A B M N X (k + 1) ∗ free3 c A B (k + 2) ∗ (∃ f, slot3P c B (Ring.sl 3 k) f) ∗ cell3P c A (Ring.sl 3 k)) ⊢ SR c A B M N X (k + 1) := by
  have e1 : bigSep (Ring.homeSet 2 (k + 1)) (rowP c M X) = iprop(rowP c M X (Ring.bk 68 k) ∗ bigSep (Ring.homeSet 2 k) (rowP c M X)) := by
    rw [Ring.homeSet_succ_tail 2 k (by omega) h8, bigSep_insert (Ring.bk_not_mem_homeSet 2 k h8 (by decide))]; rfl
  have e2 : role3 c A B M N X (k + 1 + 1) = free3 c A B (k + 2) := if_neg (by omega)
  unfold SR; rw [e1, e2, show k + 1 + 2 = k + 3 from rfl, free3_add]
  iintro ⟨H1, H2, H3, H4, H5, H6⟩
  isplitl [H1 H2]
  · isplitl [H1]; · iexact H1
    iexact H2
  isplitl [H3]; · iexact H3
  isplitl [H4]; · iexact H4
  unfold free3
  isplitl [H5]; · iexact H5
  iexact H6

/-- At the start: every block at home and every slot free, blocks 0 and 1 then requested. -/
theorem SR_zero :
    iprop(bigSep (Ring.homeSet 2 0) (rowP c M X)
      ∗ (∃ f, fly3P c A B M N X 0 0 f ∗ ⌜Holds3 c B M X 0 0 f⌝) ∗ (∃ f, fly3P c A B M N X 1 1 f ∗ ⌜Holds3 c B M X 1 1 f⌝)
      ∗ (∃ f, slot3P c B 2 f) ∗ cell3P c A 2) ⊢ SR c A B M N X 0 := by
  have e0 : role3 c A B M N X 0 = iprop(∃ f, fly3P c A B M N X 0 0 f ∗ ⌜Holds3 c B M X 0 0 f⌝) := if_pos (by decide)
  have e1 : role3 c A B M N X (0 + 1) = iprop(∃ f, fly3P c A B M N X 1 1 f ∗ ⌜Holds3 c B M X 1 1 f⌝) := if_pos (by decide)
  have e2 : free3 (F := F) c A B (0 + 2) = iprop((∃ f, slot3P c B 2 f) ∗ cell3P c A 2) := rfl
  unfold SR; rw [e0, e1, e2]
/-- At the end: every block at home, every slot free. -/
theorem SR_last :
    SR c A B M N X 68 ⊢ iprop(bigSep Finset.univ (rowP c M X)
      ∗ ((∃ f, slot3P c B 0 f) ∗ (∃ f, slot3P c B 1 f) ∗ (∃ f, slot3P c B 2 f)) ∗ cell3P c A 0 ∗ cell3P c A 1 ∗ cell3P c A 2) := by
  have e0 : role3 c A B M N X 68 = iprop((∃ f, slot3P c B 2 f) ∗ cell3P c A 2) := if_neg (by decide)
  have e1 : role3 c A B M N X (68 + 1) = iprop((∃ f, slot3P c B 0 f) ∗ cell3P c A 0) := if_neg (by decide)
  have e2 : free3 (F := F) c A B (68 + 2) = iprop((∃ f, slot3P c B 1 f) ∗ cell3P c A 1) := rfl
  unfold SR; rw [e0, e1, e2, Ring.homeSet_last 2 68 (by decide)]
  iintro ⟨H, ⟨Ha, Hb⟩, ⟨Hc, Hd⟩, He, Hf⟩
  isplitl [H]; · iexact H
  isplitl [Ha Hc He]
  · isplitl [Hc]; · iexact Hc
    isplitl [He]; · iexact He
    iexact Ha
  isplitl [Hd]; · iexact Hd
  isplitl [Hf]; · iexact Hf
  iexact Hb

end Rows

/-! ## A ring of modulation blocks, read through two slots when the index moves -/

section Mods
variable (c : Dev nD) {e : EltTy} (A : DmaSems sig S2) (B : Memref sig .tc .vmem S2x1x9x4096 e) (M : Memref sig .tc .hbm S8x9x4096 e)
  (N : ℕ) (q : PosShare TreeShare) (X : Buf (Elt F) (M.view.loc (c : Thread nD τ)))

abbrev cell2P (s : Fin 2) : sProp 𝕄 := semVal ((c : Thread nD τ), SemLoc.dma (cell2 A s).sem) 0
abbrev mslotP (s : Fin 2) (f : Buf (Elt F) ((mslot B s).view.loc (c : Thread nD τ))) : sProp 𝕄 :=
  (mslot B s).view.loc (c : Thread nD τ) ↦[(mslot B s).view.set]{fullShare} f
/-- This ring's share of modulation block `b`, at home. -/
abbrev mrowP (b : Fin 8) : sProp 𝕄 := (mrow M b).view.loc (c : Thread nD τ) ↦[(mrow M b).view.set]{q} X
abbrev flymP (s : Fin 2) (b : Fin 8) (f : Buf (Elt F) ((mslot B s).view.loc (c : Thread nD τ))) : sProp 𝕄 :=
  Transfers.Flight countersEmb (c : Thread nD τ) (SemLoc.dma (cell2 A s).sem) () N iprop(mslotP c B s f ∗ mrowP c M q X b)
abbrev Holdsm (s : Fin 2) (b : Fin 8) (f : Buf (Elt F) ((mslot B s).view.loc (c : Thread nD τ))) : Prop :=
  (mslot B s).view.read (Elt F) f = (mrow M b).view.read (Elt F) X

/-- Slot of block `b`, landed. -/
abbrev landm (b : ℕ) : sProp 𝕄 :=
  iprop((∃ f, mslotP c B (Ring.sl 2 b) f ∗ ⌜Holdsm c B M X (Ring.sl 2 b) (Ring.bk 8 b) f⌝) ∗ cell2P c A (Ring.sl 2 b))
abbrev inflm (b : ℕ) : sProp 𝕄 :=
  iprop(∃ f, flymP c A B M N q X (Ring.sl 2 b) (Ring.bk 8 b) f ∗ ⌜Holdsm c B M X (Ring.sl 2 b) (Ring.bk 8 b) f⌝)
abbrev freem (b : ℕ) : sProp 𝕄 := iprop((∃ f, mslotP c B (Ring.sl 2 b) f) ∗ cell2P c A (Ring.sl 2 b))
theorem freem_add (p : ℕ) : freem (F := F) c A B (p + 2) = freem c A B p := by unfold freem; rw [Ring.sl_add]
/-- The blocks at home but block `b`. -/
abbrev restm (b : ℕ) : sProp 𝕄 := bigSep (Finset.univ.erase (Ring.bk 8 b)) (mrowP c M q X)

/-- The ring before step `k`: at a multiple of 16 block `k / 16` is in flight, else it has landed. -/
def SM (k : ℕ) : sProp 𝕄 :=
  if k % 16 = 0 then iprop(restm c M q X (k / 16) ∗ inflm c A B M N q X (k / 16) ∗ freem c A B (k / 16 + 1))
  else iprop(bigSep Finset.univ (mrowP c M q X) ∗ landm c A B M X (k / 16) ∗ freem c A B (k / 16 + 1))

theorem allm (b : ℕ) : bigSep Finset.univ (mrowP c M q X) = iprop(mrowP c M q X (Ring.bk 8 b) ∗ restm c M q X b) :=
  bigSep_erase (Finset.mem_univ _)

theorem SM_open_wait (k : ℕ) (hk : k % 16 = 0) :
    SM c A B M N q X k ⊢ iprop(restm c M q X (k / 16) ∗ inflm c A B M N q X (k / 16) ∗ freem c A B (k / 16 + 1)) := by
  unfold SM; rw [if_pos hk]
theorem SM_close_wait (k : ℕ) (hk : k % 16 = 0) :
    iprop(mrowP c M q X (Ring.bk 8 (k / 16)) ∗ restm c M q X (k / 16) ∗ landm c A B M X (k / 16) ∗ freem c A B (k / 16 + 1)) ⊢ SM c A B M N q X (k + 1) := by
  unfold SM; rw [if_neg (by omega), show (k + 1) / 16 = k / 16 by omega, allm c M q X (k / 16)]
  iintro ⟨H1, H2, H3, H4⟩
  isplitl [H1 H2]
  · isplitl [H1]; · iexact H1
    iexact H2
  isplitl [H3]; · iexact H3
  iexact H4
theorem SM_open_mid (k : ℕ) (hk : k % 16 ≠ 0) :
    SM c A B M N q X k ⊢ iprop(bigSep Finset.univ (mrowP c M q X) ∗ landm c A B M X (k / 16) ∗ freem c A B (k / 16 + 1)) := by
  unfold SM; rw [if_neg hk]
theorem SM_close_mid (k : ℕ) (hk : k % 16 ≠ 0) (hk' : k % 16 ≠ 15) :
    iprop(bigSep Finset.univ (mrowP c M q X) ∗ landm c A B M X (k / 16) ∗ freem c A B (k / 16 + 1)) ⊢ SM c A B M N q X (k + 1) := by
  unfold SM; rw [if_neg (by omega), show (k + 1) / 16 = k / 16 by omega]
theorem SM_open_ask (k : ℕ) (hk : k % 16 = 15) :
    SM c A B M N q X k ⊢ iprop(mrowP c M q X (Ring.bk 8 (k / 16 + 1)) ∗ restm c M q X (k / 16 + 1) ∗ landm c A B M X (k / 16) ∗ freem c A B (k / 16 + 1)) := by
  unfold SM; rw [if_neg (by omega), allm c M q X (k / 16 + 1)]
  iintro ⟨⟨H1, H2⟩, H3, H4⟩
  isplitl [H1]; · iexact H1
  isplitl [H2]; · iexact H2
  isplitl [H3]; · iexact H3
  iexact H4
theorem SM_close_ask (k : ℕ) (hk : k % 16 = 15) :
    iprop(restm c M q X (k / 16 + 1) ∗ inflm c A B M N q X (k / 16 + 1) ∗ freem c A B (k / 16)) ⊢ SM c A B M N q X (k + 1) := by
  unfold SM; rw [if_pos (by omega), show (k + 1) / 16 = k / 16 + 1 by omega, show k / 16 + 1 + 1 = k / 16 + 2 from rfl, freem_add]

theorem SM_zero :
    iprop(restm c M q X 0 ∗ (∃ f, flymP c A B M N q X 0 0 f ∗ ⌜Holdsm c B M X 0 0 f⌝) ∗ (∃ f, mslotP c B 1 f) ∗ cell2P c A 1) ⊢ SM c A B M N q X 0 := by
  unfold SM; rw [if_pos (by omega)]; exact .rfl
theorem SM_last :
    SM c A B M N q X 68 ⊢ iprop(bigSep Finset.univ (mrowP c M q X) ∗ ((∃ f, mslotP c B 0 f) ∗ ∃ f, mslotP c B 1 f) ∗ cell2P c A 0 ∗ cell2P c A 1) := by
  have e : SM c A B M N q X 68 = iprop(bigSep Finset.univ (mrowP c M q X)
      ∗ ((∃ f, mslotP c B 0 f ∗ ⌜Holdsm c B M X 0 4 f⌝) ∗ cell2P c A 0) ∗ (∃ f, mslotP c B 1 f) ∗ cell2P c A 1) := if_neg (by decide)
  rw [e]
  iintro ⟨H, ⟨⟨%f, Ha, -⟩, Hb⟩, Hc, Hd⟩
  isplitl [H]; · iexact H
  isplitl [Ha Hc]
  · isplitl [Ha]; · iexists f; iexact Ha
    iexact Hc
  isplitl [Hb]; · iexact Hb
  iexact Hd

end Mods

/-! ## A ring of results written one behind through two slots -/

section Outs
variable (c : Dev nD) {e : EltTy} (A : DmaSems sig S2) (B : Memref sig .tc .vmem S2x256x4096 e) (O : Memref sig .tc .hbm S17408x4096 e)
  (N : ℕ) (V : Fin 68 → S256x4096.Idx → Elt F e)

abbrev slot2P (s : Fin 2) (f : Buf (Elt F) ((slot2 B s).view.loc (c : Thread nD τ))) : sProp 𝕄 :=
  (slot2 B s).view.loc (c : Thread nD τ) ↦[(slot2 B s).view.set]{fullShare} f
abbrev outP (b : Fin 68) (f : Buf (Elt F) ((rowB O b).view.loc (c : Thread nD τ))) : sProp 𝕄 :=
  (rowB O b).view.loc (c : Thread nD τ) ↦[(rowB O b).view.set]{fullShare} f
abbrev doneO (b : Fin 68) : sProp 𝕄 := iprop(∃ f, outP c O b f ∗ ⌜(rowB O b).view.read (Elt F) f = V b⌝)
abbrev todoO (b : Fin 68) : sProp 𝕄 := iprop(∃ f, outP c O b f)
abbrev flyO (s : Fin 2) (b : Fin 68) (f : Buf (Elt F) ((rowB O b).view.loc (c : Thread nD τ))) (g : Buf (Elt F) ((slot2 B s).view.loc (c : Thread nD τ))) : sProp 𝕄 :=
  Transfers.Flight countersEmb (c : Thread nD τ) (SemLoc.dma (cell2 A s).sem) () N iprop(outP c O b f ∗ slot2P c B s g)
abbrev inflO (p : ℕ) : sProp 𝕄 :=
  iprop(∃ f g, flyO c A B O N (Ring.sl 2 p) (Ring.bk 68 p) f g ∗ ⌜(rowB O (Ring.bk 68 p)).view.read (Elt F) f = V (Ring.bk 68 p)⌝)
abbrev freeO (p : ℕ) : sProp 𝕄 := iprop((∃ f, slot2P c B (Ring.sl 2 p) f) ∗ cell2P c A (Ring.sl 2 p))
theorem freeO_add (p : ℕ) : freeO (F := F) c A B (p + 2) = freeO c A B p := by unfold freeO; rw [Ring.sl_add]
def doneSet (k : ℕ) : Finset (Fin 68) := Finset.univ.filter fun b => b.val + 1 < k
def todoSet (k : ℕ) : Finset (Fin 68) := Finset.univ.filter fun b => k ≤ b.val

/-- The ring before step `k`: results before `k - 1` done, `k - 1` in flight, the rest untouched. -/
def SO (k : ℕ) : sProp 𝕄 :=
  iprop(bigSep (doneSet k) (doneO c O V) ∗ bigSep (todoSet k) (todoO c O)
    ∗ (if 1 ≤ k then inflO c A B O N V (k - 1) else freeO c A B (k + 1)) ∗ freeO c A B k)

theorem todo_here (k : ℕ) (h8 : k < 68) : bigSep (todoSet k) (todoO (F := F) c O) = iprop(todoO c O (Ring.bk 68 k) ∗ bigSep (todoSet (k + 1)) (todoO c O)) := by
  have e : todoSet k = insert (Ring.bk 68 k) (todoSet (k + 1)) := by
    ext b; simp only [todoSet, Finset.mem_filter, Finset.mem_univ, true_and, Finset.mem_insert, Fin.ext_iff, Ring.bk_val h8]; omega
  rw [e, bigSep_insert (by simp only [todoSet, Finset.mem_filter, Finset.mem_univ, true_and, Ring.bk_val h8]; omega)]; rfl
theorem done_next (k : ℕ) (hk : 1 ≤ k) (h8 : k ≤ 68) : bigSep (doneSet (k + 1)) (doneO c O V) = iprop(doneO c O V (Ring.bk 68 (k - 1)) ∗ bigSep (doneSet k) (doneO c O V)) := by
  have h8' : k - 1 < 68 := by omega
  have e : doneSet (k + 1) = insert (Ring.bk 68 (k - 1)) (doneSet k) := by
    ext b; simp only [doneSet, Finset.mem_filter, Finset.mem_univ, true_and, Finset.mem_insert, Fin.ext_iff, Ring.bk_val h8']; omega
  rw [e, bigSep_insert (by simp only [doneSet, Finset.mem_filter, Finset.mem_univ, true_and, Ring.bk_val h8']; omega)]; rfl

theorem SO_open (k : ℕ) (hk : 1 ≤ k) (h8 : k < 68) :
    SO c A B O N V k ⊢ iprop(bigSep (doneSet k) (doneO c O V) ∗ todoO c O (Ring.bk 68 k) ∗ bigSep (todoSet (k + 1)) (todoO c O)
      ∗ inflO c A B O N V (k - 1) ∗ freeO c A B k) := by
  unfold SO; rw [if_pos hk, todo_here c O k h8]
  iintro ⟨H1, ⟨H2, H3⟩, H4, H5⟩
  isplitl [H1]; · iexact H1
  isplitl [H2]; · iexact H2
  isplitl [H3]; · iexact H3
  isplitl [H4]; · iexact H4
  iexact H5
theorem SO_close (k : ℕ) (hk : 1 ≤ k) (h8 : k < 68) :
    iprop(bigSep (doneSet k) (doneO c O V) ∗ doneO c O V (Ring.bk 68 (k - 1)) ∗ bigSep (todoSet (k + 1)) (todoO c O)
      ∗ inflO c A B O N V k ∗ freeO c A B (k - 1)) ⊢ SO c A B O N V (k + 1) := by
  have es : freeO (F := F) c A B (k + 1) = freeO c A B (k - 1) := by rw [show k + 1 = k - 1 + 2 by omega, freeO_add]
  unfold SO; rw [if_pos (by omega), done_next c O V k hk (by omega), show k + 1 - 1 = k from rfl, es]
  iintro ⟨H1, H2, H3, H4, H5⟩
  isplitl [H1 H2]
  · isplitl [H2]; · iexact H2
    iexact H1
  isplitl [H3]; · iexact H3
  isplitl [H4]; · iexact H4
  iexact H5
theorem SO_open_zero (k : ℕ) (hk : k = 0) :
    SO c A B O N V k ⊢ iprop(todoO c O (Ring.bk 68 k) ∗ bigSep (todoSet (k + 1)) (todoO c O) ∗ freeO c A B (k + 1) ∗ freeO c A B k) := by
  subst hk
  unfold SO; rw [if_neg (by decide), todo_here c O 0 (by decide)]
  iintro ⟨-, ⟨H2, H3⟩, H4, H5⟩
  isplitl [H2]; · iexact H2
  isplitl [H3]; · iexact H3
  isplitl [H4]; · iexact H4
  iexact H5
theorem SO_close_zero (k : ℕ) (hk : k = 0) :
    iprop(bigSep (todoSet (k + 1)) (todoO c O) ∗ inflO c A B O N V k ∗ freeO c A B (k + 1)) ⊢ SO c A B O N V (k + 1) := by
  subst hk
  have e : doneSet (0 + 1) = ∅ := by
    ext b; simp only [doneSet, Finset.mem_filter, Finset.mem_univ, true_and, Finset.notMem_empty, iff_false]; omega
  unfold SO; rw [if_pos (by decide), e, bigSep_empty]
  iintro ⟨H1, H2, H3⟩
  isplitr; · iempintro
  isplitl [H1]; · iexact H1
  isplitl [H2]; · iexact H2
  iexact H3
/-- At the start: every result block untouched, both slots free. -/
theorem SO_zero :
    iprop(bigSep Finset.univ (todoO (F := F) c O) ∗ ((∃ f, slot2P c B 0 f) ∗ ∃ f, slot2P c B 1 f) ∗ cell2P c A 0 ∗ cell2P c A 1) ⊢ SO c A B O N V 0 := by
  have e : doneSet 0 = ∅ := by
    ext b; simp only [doneSet, Finset.mem_filter, Finset.mem_univ, true_and, Finset.notMem_empty, iff_false]; omega
  have e' : todoSet 0 = Finset.univ := by
    ext b; simp only [todoSet, Finset.mem_filter, Finset.mem_univ, true_and, iff_true]; omega
  have e1 : freeO (F := F) c A B (0 + 1) = iprop((∃ f, slot2P c B 1 f) ∗ cell2P c A 1) := rfl
  have e2 : freeO (F := F) c A B 0 = iprop((∃ f, slot2P c B 0 f) ∗ cell2P c A 0) := rfl
  unfold SO; rw [if_neg (by decide), e, e', bigSep_empty, e1, e2]
  iintro ⟨H1, ⟨H2, H3⟩, H4, H5⟩
  isplitr; · iempintro
  isplitl [H1]; · iexact H1
  isplitl [H3 H5]
  · isplitl [H3]; · iexact H3
    iexact H5
  isplitl [H2]; · iexact H2
  iexact H4
/-- After the last step: results before 67 done, result 67 in flight in slot 1, slot 0 free. -/
theorem SO_last :
    SO c A B O N V 68 ⊢ iprop(bigSep (doneSet 68) (doneO c O V)
      ∗ (∃ f g, flyO c A B O N 1 67 f g ∗ ⌜(rowB O 67).view.read (Elt F) f = V 67⌝) ∗ (∃ f, slot2P c B 0 f) ∗ cell2P c A 0) := by
  have e1 : SO c A B O N V 68 = iprop(bigSep (doneSet 68) (doneO c O V) ∗ bigSep (todoSet 68) (todoO c O)
    ∗ (∃ f g, flyO c A B O N 1 67 f g ∗ ⌜(rowB O 67).view.read (Elt F) f = V 67⌝) ∗ (∃ f, slot2P c B 0 f) ∗ cell2P c A 0) := by
    unfold SO; rw [if_pos (by decide)]; rfl
  rw [e1]
  iintro ⟨H1, -, H3, H4⟩
  isplitl [H1]; · iexact H1
  isplitl [H3]; · iexact H3
  iexact H4
/-- and once it has landed every result is done. -/
theorem done_all : iprop(doneO c O V 67 ∗ bigSep (doneSet 68) (doneO c O V)) ⊢ bigSep Finset.univ (doneO c O V) := by
  have e : (Finset.univ : Finset (Fin 68)) = doneSet (68 + 1) := by
    ext b; simp only [doneSet, Finset.mem_filter, Finset.mem_univ, true_and]; have := b.isLt; simp; omega
  rw [e, done_next c O V 68 (by decide) (by decide)]; exact .rfl

end Outs

end Cert.Proof.PostPre

end
-- ==== Proof.PostPre.Canon.lean ====
/-
  The slices one step of the pipeline takes are the rings' blocks, slots and cells.
-/
module

public import proofs.«01_k».proof.Proof.PostPre.Rings

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

@[sl_canon] theorem canon12cell3 (A : DmaSems sig S3) (k : Fin k0_t1_loop.trips) (hk : k.val < 66) (hh) :
    (A.slice (Rect.unit (s := S3) (k0_off12 (wf k.val)) S1.size hh)).squeeze S_ squeezes_S1_S_ = cell3 A (Ring.sl 3 (k.val + 2)) := cell3_congr (off12_eq k hk) _
@[sl_canon] theorem canon13slot3 {e : EltTy} (B : Memref sig .tc .vmem S3x256x4096 e) (k : Fin k0_t1_loop.trips) (hk : k.val < 66) (hh hs) :
    (B.slice (Rect.unit (s := S3x256x4096) (k0_off13 (wf k.val)) S1x256x4096.size hh) hs).squeeze S256x4096 squeezes_S1x256x4096_S256x4096 = slot3 B (Ring.sl 3 (k.val + 2)) := slot3_congr (off13_eq k hk) _ _
@[sl_canon] theorem canon14rowB {e : EltTy} (M : Memref sig .tc .hbm S17408x4096 e) (k : Fin k0_t1_loop.trips) (hk : k.val < 66) (hh hs) :
    M.slice (Rect.unit (s := S17408x4096) (k0_off14 (wi k.val)) S256x4096.size hh) hs = rowB M (Ring.bk 68 (k.val + 2)) := rowB_congr (off14_eq k hk) _ _
@[sl_canon] theorem canon15cell3 (A : DmaSems sig S3) (k : Fin k0_t1_loop.trips) (hk : k.val < 66) (hh) :
    (A.slice (Rect.unit (s := S3) (k0_off15 (wf k.val)) S1.size hh)).squeeze S_ squeezes_S1_S_ = cell3 A (Ring.sl 3 (k.val + 2)) := cell3_congr (off15_eq k hk) _
@[sl_canon] theorem canon16slot3 {e : EltTy} (B : Memref sig .tc .vmem S3x256x4096 e) (k : Fin k0_t1_loop.trips) (hk : k.val < 66) (hh hs) :
    (B.slice (Rect.unit (s := S3x256x4096) (k0_off16 (wf k.val)) S1x256x4096.size hh) hs).squeeze S256x4096 squeezes_S1x256x4096_S256x4096 = slot3 B (Ring.sl 3 (k.val + 2)) := slot3_congr (off16_eq k hk) _ _
@[sl_canon] theorem canon17rowB {e : EltTy} (M : Memref sig .tc .hbm S17408x4096 e) (k : Fin k0_t1_loop.trips) (hk : k.val < 66) (hh hs) :
    M.slice (Rect.unit (s := S17408x4096) (k0_off17 (wi k.val)) S256x4096.size hh) hs = rowB M (Ring.bk 68 (k.val + 2)) := rowB_congr (off17_eq k hk) _ _
@[sl_canon] theorem canon18cell2 (A : DmaSems sig S2) (k : Fin k0_t1_loop.trips) (hk : k.val % 16 = 15) (hh) :
    (A.slice (Rect.unit (s := S2) (k0_off18 (wmf k.val)) S1.size hh)).squeeze S_ squeezes_S1_S_ = cell2 A (Ring.sl 2 (k.val / 16 + 1)) := cell2_congr (off18_eq k hk) _
@[sl_canon] theorem canon19mslot {e : EltTy} (B : Memref sig .tc .vmem S2x1x9x4096 e) (k : Fin k0_t1_loop.trips) (hk : k.val % 16 = 15) (hh hs) :
    (B.slice (Rect.unit (s := S2x1x9x4096) (k0_off19 (wmf k.val)) S1x1x9x4096.size hh) hs).squeeze S1x9x4096 squeezes_S1x1x9x4096_S1x9x4096 = mslot B (Ring.sl 2 (k.val / 16 + 1)) := mslot_congr (off19_eq k hk) _ _
@[sl_canon] theorem canon20mrow {e : EltTy} (M : Memref sig .tc .hbm S8x9x4096 e) (k : Fin k0_t1_loop.trips) (hk : k.val % 16 = 15) (hh hs) :
    M.slice (Rect.unit (s := S8x9x4096) (k0_off20 (wi k.val)) S1x9x4096.size hh) hs = mrow M (Ring.bk 8 (k.val / 16 + 1)) := mrow_congr (off20_eq k hk) _ _
@[sl_canon] theorem canon21cell2 (A : DmaSems sig S2) (k : Fin k0_t1_loop.trips) (hk : k.val % 16 = 15) (hh) :
    (A.slice (Rect.unit (s := S2) (k0_off21 (wmf k.val)) S1.size hh)).squeeze S_ squeezes_S1_S_ = cell2 A (Ring.sl 2 (k.val / 16 + 1)) := cell2_congr (off21_eq k hk) _
@[sl_canon] theorem canon22mslot {e : EltTy} (B : Memref sig .tc .vmem S2x1x9x4096 e) (k : Fin k0_t1_loop.trips) (hk : k.val % 16 = 15) (hh hs) :
    (B.slice (Rect.unit (s := S2x1x9x4096) (k0_off22 (wmf k.val)) S1x1x9x4096.size hh) hs).squeeze S1x9x4096 squeezes_S1x1x9x4096_S1x9x4096 = mslot B (Ring.sl 2 (k.val / 16 + 1)) := mslot_congr (off22_eq k hk) _ _
@[sl_canon] theorem canon23mrow {e : EltTy} (M : Memref sig .tc .hbm S8x9x4096 e) (k : Fin k0_t1_loop.trips) (hk : k.val % 16 = 15) (hh hs) :
    M.slice (Rect.unit (s := S8x9x4096) (k0_off23 (wi k.val)) S1x9x4096.size hh) hs = mrow M (Ring.bk 8 (k.val / 16 + 1)) := mrow_congr (off23_eq k hk) _ _
@[sl_canon] theorem canon24cell3 (A : DmaSems sig S3) (k : Fin k0_t1_loop.trips) (hh) :
    (A.slice (Rect.unit (s := S3) (k0_off24 (wr k.val)) S1.size hh)).squeeze S_ squeezes_S1_S_ = cell3 A (Ring.sl 3 k.val) := cell3_congr (off24_eq k) _
@[sl_canon] theorem canon25slot3 {e : EltTy} (B : Memref sig .tc .vmem S3x256x4096 e) (k : Fin k0_t1_loop.trips) (hh hs) :
    (B.slice (Rect.unit (s := S3x256x4096) (k0_off25 (wr k.val)) S1x256x4096.size hh) hs).squeeze S256x4096 squeezes_S1x256x4096_S256x4096 = slot3 B (Ring.sl 3 k.val) := slot3_congr (off25_eq k) _ _
@[sl_canon] theorem canon26rowB {e : EltTy} (M : Memref sig .tc .hbm S17408x4096 e) (k : Fin k0_t1_loop.trips) (hh hs) :
    M.slice (Rect.unit (s := S17408x4096) (k0_off26 (wi k.val)) S256x4096.size hh) hs = rowB M (Ring.bk 68 k.val) := rowB_congr (off26_eq k) _ _
@[sl_canon] theorem canon27cell3 (A : DmaSems sig S3) (k : Fin k0_t1_loop.trips) (hh) :
    (A.slice (Rect.unit (s := S3) (k0_off27 (wr k.val)) S1.size hh)).squeeze S_ squeezes_S1_S_ = cell3 A (Ring.sl 3 k.val) := cell3_congr (off27_eq k) _
@[sl_canon] theorem canon28slot3 {e : EltTy} (B : Memref sig .tc .vmem S3x256x4096 e) (k : Fin k0_t1_loop.trips) (hh hs) :
    (B.slice (Rect.unit (s := S3x256x4096) (k0_off28 (wr k.val)) S1x256x4096.size hh) hs).squeeze S256x4096 squeezes_S1x256x4096_S256x4096 = slot3 B (Ring.sl 3 k.val) := slot3_congr (off28_eq k) _ _
@[sl_canon] theorem canon29rowB {e : EltTy} (M : Memref sig .tc .hbm S17408x4096 e) (k : Fin k0_t1_loop.trips) (hh hs) :
    M.slice (Rect.unit (s := S17408x4096) (k0_off29 (wi k.val)) S256x4096.size hh) hs = rowB M (Ring.bk 68 k.val) := rowB_congr (off29_eq k) _ _
@[sl_canon] theorem canon30cell2 (A : DmaSems sig S2) (k : Fin k0_t1_loop.trips) (hh) :
    (A.slice (Rect.unit (s := S2) (k0_off30 (wmr k.val)) S1.size hh)).squeeze S_ squeezes_S1_S_ = cell2 A (Ring.sl 2 (k.val / 16)) := cell2_congr (off30_eq k) _
@[sl_canon] theorem canon31mslot {e : EltTy} (B : Memref sig .tc .vmem S2x1x9x4096 e) (k : Fin k0_t1_loop.trips) (hh hs) :
    (B.slice (Rect.unit (s := S2x1x9x4096) (k0_off31 (wmr k.val)) S1x1x9x4096.size hh) hs).squeeze S1x9x4096 squeezes_S1x1x9x4096_S1x9x4096 = mslot B (Ring.sl 2 (k.val / 16)) := mslot_congr (off31_eq k) _ _
@[sl_canon] theorem canon32mrow {e : EltTy} (M : Memref sig .tc .hbm S8x9x4096 e) (k : Fin k0_t1_loop.trips) (hh hs) :
    M.slice (Rect.unit (s := S8x9x4096) (k0_off32 (wi k.val)) S1x9x4096.size hh) hs = mrow M (Ring.bk 8 (k.val / 16)) := mrow_congr (off32_eq k) _ _
@[sl_canon] theorem canon33cell2 (A : DmaSems sig S2) (k : Fin k0_t1_loop.trips) (hh) :
    (A.slice (Rect.unit (s := S2) (k0_off33 (wmr k.val)) S1.size hh)).squeeze S_ squeezes_S1_S_ = cell2 A (Ring.sl 2 (k.val / 16)) := cell2_congr (off33_eq k) _
@[sl_canon] theorem canon34mslot {e : EltTy} (B : Memref sig .tc .vmem S2x1x9x4096 e) (k : Fin k0_t1_loop.trips) (hh hs) :
    (B.slice (Rect.unit (s := S2x1x9x4096) (k0_off34 (wmr k.val)) S1x1x9x4096.size hh) hs).squeeze S1x9x4096 squeezes_S1x1x9x4096_S1x9x4096 = mslot B (Ring.sl 2 (k.val / 16)) := mslot_congr (off34_eq k) _ _
@[sl_canon] theorem canon35mrow {e : EltTy} (M : Memref sig .tc .hbm S8x9x4096 e) (k : Fin k0_t1_loop.trips) (hh hs) :
    M.slice (Rect.unit (s := S8x9x4096) (k0_off35 (wi k.val)) S1x9x4096.size hh) hs = mrow M (Ring.bk 8 (k.val / 16)) := mrow_congr (off35_eq k) _ _
@[sl_canon] theorem canon36mslot {e : EltTy} (B : Memref sig .tc .vmem S2x1x9x4096 e) (k : Fin k0_t1_loop.trips) (hh hs) :
    (B.slice (Rect.unit (s := S2x1x9x4096) (k0_off36 (wmr k.val)) S1x1x9x4096.size hh) hs).squeeze S1x9x4096 squeezes_S1x1x9x4096_S1x9x4096 = mslot B (Ring.sl 2 (k.val / 16)) := mslot_congr (off36_eq k) _ _
@[sl_canon] theorem canon40mslot {e : EltTy} (B : Memref sig .tc .vmem S2x1x9x4096 e) (k : Fin k0_t1_loop.trips) (hh hs) :
    (B.slice (Rect.unit (s := S2x1x9x4096) (k0_off40 (wmr k.val)) S1x1x9x4096.size hh) hs).squeeze S1x9x4096 squeezes_S1x1x9x4096_S1x9x4096 = mslot B (Ring.sl 2 (k.val / 16)) := mslot_congr (off40_eq k) _ _
@[sl_canon] theorem canon42cell2 (A : DmaSems sig S2) (k : Fin k0_t1_loop.trips) (hh) :
    (A.slice (Rect.unit (s := S2) (k0_off42 (wr k.val)) S1.size hh)).squeeze S_ squeezes_S1_S_ = cell2 A (Ring.sl 2 k.val) := cell2_congr (off42_eq k) _
@[sl_canon] theorem canon43rowB {e : EltTy} (M : Memref sig .tc .hbm S17408x4096 e) (k : Fin k0_t1_loop.trips) (hh hs) :
    M.slice (Rect.unit (s := S17408x4096) (k0_off43 (wi k.val)) S256x4096.size hh) hs = rowB M (Ring.bk 68 k.val) := rowB_congr (off43_eq k) _ _
@[sl_canon] theorem canon44slot2 {e : EltTy} (B : Memref sig .tc .vmem S2x256x4096 e) (k : Fin k0_t1_loop.trips) (hh hs) :
    (B.slice (Rect.unit (s := S2x256x4096) (k0_off44 (wr k.val)) S1x256x4096.size hh) hs).squeeze S256x4096 squeezes_S1x256x4096_S256x4096 = slot2 B (Ring.sl 2 k.val) := slot2_congr (off44_eq k) _ _
@[sl_canon] theorem canon45cell2 (A : DmaSems sig S2) (k : Fin k0_t1_loop.trips) (hh) :
    (A.slice (Rect.unit (s := S2) (k0_off45 (wr k.val)) S1.size hh)).squeeze S_ squeezes_S1_S_ = cell2 A (Ring.sl 2 k.val) := cell2_congr (off45_eq k) _
@[sl_canon] theorem canon46rowB {e : EltTy} (M : Memref sig .tc .hbm S17408x4096 e) (k : Fin k0_t1_loop.trips) (hh hs) :
    M.slice (Rect.unit (s := S17408x4096) (k0_off46 (wi k.val)) S256x4096.size hh) hs = rowB M (Ring.bk 68 k.val) := rowB_congr (off46_eq k) _ _
@[sl_canon] theorem canon47slot2 {e : EltTy} (B : Memref sig .tc .vmem S2x256x4096 e) (k : Fin k0_t1_loop.trips) (hh hs) :
    (B.slice (Rect.unit (s := S2x256x4096) (k0_off47 (wr k.val)) S1x256x4096.size hh) hs).squeeze S256x4096 squeezes_S1x256x4096_S256x4096 = slot2 B (Ring.sl 2 k.val) := slot2_congr (off47_eq k) _ _
@[sl_canon] theorem canon48cell2 (A : DmaSems sig S2) (k : Fin k0_t1_loop.trips) (hh) :
    (A.slice (Rect.unit (s := S2) (k0_off48 (ww k.val)) S1.size hh)).squeeze S_ squeezes_S1_S_ = cell2 A (Ring.sl 2 (k.val - 1)) := cell2_congr (off48_eq k) _
@[sl_canon] theorem canon49rowB {e : EltTy} (M : Memref sig .tc .hbm S17408x4096 e) (k : Fin k0_t1_loop.trips) (hk : 1 ≤ k.val) (hh hs) :
    M.slice (Rect.unit (s := S17408x4096) (k0_off49 (wi k.val)) S256x4096.size hh) hs = rowB M (Ring.bk 68 (k.val - 1)) := rowB_congr (off49_eq k hk) _ _
@[sl_canon] theorem canon50slot2 {e : EltTy} (B : Memref sig .tc .vmem S2x256x4096 e) (k : Fin k0_t1_loop.trips) (hh hs) :
    (B.slice (Rect.unit (s := S2x256x4096) (k0_off50 (ww k.val)) S1x256x4096.size hh) hs).squeeze S256x4096 squeezes_S1x256x4096_S256x4096 = slot2 B (Ring.sl 2 (k.val - 1)) := slot2_congr (off50_eq k) _ _
@[sl_canon] theorem canon51cell2 (A : DmaSems sig S2) (k : Fin k0_t1_loop.trips) (hh) :
    (A.slice (Rect.unit (s := S2) (k0_off51 (ww k.val)) S1.size hh)).squeeze S_ squeezes_S1_S_ = cell2 A (Ring.sl 2 (k.val - 1)) := cell2_congr (off51_eq k) _
@[sl_canon] theorem canon52rowB {e : EltTy} (M : Memref sig .tc .hbm S17408x4096 e) (k : Fin k0_t1_loop.trips) (hk : 1 ≤ k.val) (hh hs) :
    M.slice (Rect.unit (s := S17408x4096) (k0_off52 (wi k.val)) S256x4096.size hh) hs = rowB M (Ring.bk 68 (k.val - 1)) := rowB_congr (off52_eq k hk) _ _
@[sl_canon] theorem canon53slot2 {e : EltTy} (B : Memref sig .tc .vmem S2x256x4096 e) (k : Fin k0_t1_loop.trips) (hh hs) :
    (B.slice (Rect.unit (s := S2x256x4096) (k0_off53 (ww k.val)) S1x256x4096.size hh) hs).squeeze S256x4096 squeezes_S1x256x4096_S256x4096 = slot2 B (Ring.sl 2 (k.val - 1)) := slot2_congr (off53_eq k) _ _
@[sl_canon] theorem canon1cell3 (A : DmaSems sig S3) (hh) :
    (A.slice (Rect.unit (s := S3) (k0_off1) S1.size hh)).squeeze S_ squeezes_S1_S_ = cell3 A 0 := cell3_congr (off1_eq) _
@[sl_canon] theorem canon2slot3 {e : EltTy} (B : Memref sig .tc .vmem S3x256x4096 e) (hh hs) :
    (B.slice (Rect.unit (s := S3x256x4096) (k0_off2) S1x256x4096.size hh) hs).squeeze S256x4096 squeezes_S1x256x4096_S256x4096 = slot3 B 0 := slot3_congr (off2_eq) _ _
@[sl_canon] theorem canon3cell2 (A : DmaSems sig S2) (hh) :
    (A.slice (Rect.unit (s := S2) (k0_off3) S1.size hh)).squeeze S_ squeezes_S1_S_ = cell2 A 0 := cell2_congr (off3_eq) _
@[sl_canon] theorem canon4mslot {e : EltTy} (B : Memref sig .tc .vmem S2x1x9x4096 e) (hh hs) :
    (B.slice (Rect.unit (s := S2x1x9x4096) (k0_off4) S1x1x9x4096.size hh) hs).squeeze S1x9x4096 squeezes_S1x1x9x4096_S1x9x4096 = mslot B 0 := mslot_congr (off4_eq) _ _
@[sl_canon] theorem canon5mrow {e : EltTy} (M : Memref sig .tc .hbm S8x9x4096 e) (hh hs) :
    M.slice (Rect.unit (s := S8x9x4096) (k0_off5) S1x9x4096.size hh) hs = mrow M 0 := mrow_congr (off5_eq) _ _
@[sl_canon] theorem canon0rowB {e : EltTy} (M : Memref sig .tc .hbm S17408x4096 e) (hh hs) :
    M.slice (Rect.unit (s := S17408x4096) (![0, 0]) S256x4096.size hh) hs = rowB M 0 := rowB_congr (by decide) _ _
@[sl_canon] theorem canon6cell3 (A : DmaSems sig S3) (hh) :
    (A.slice (Rect.unit (s := S3) (k0_off6) S1.size hh)).squeeze S_ squeezes_S1_S_ = cell3 A 1 := cell3_congr (off6_eq) _
@[sl_canon] theorem canon7slot3 {e : EltTy} (B : Memref sig .tc .vmem S3x256x4096 e) (hh hs) :
    (B.slice (Rect.unit (s := S3x256x4096) (k0_off7) S1x256x4096.size hh) hs).squeeze S256x4096 squeezes_S1x256x4096_S256x4096 = slot3 B 1 := slot3_congr (off7_eq) _ _
@[sl_canon] theorem canon8rowB {e : EltTy} (M : Memref sig .tc .hbm S17408x4096 e) (hh hs) :
    M.slice (Rect.unit (s := S17408x4096) (k0_off8) S256x4096.size hh) hs = rowB M 1 := rowB_congr (off8_eq) _ _
@[sl_canon] theorem canon9cell3 (A : DmaSems sig S3) (hh) :
    (A.slice (Rect.unit (s := S3) (k0_off9) S1.size hh)).squeeze S_ squeezes_S1_S_ = cell3 A 1 := cell3_congr (off9_eq) _
@[sl_canon] theorem canon10slot3 {e : EltTy} (B : Memref sig .tc .vmem S3x256x4096 e) (hh hs) :
    (B.slice (Rect.unit (s := S3x256x4096) (k0_off10) S1x256x4096.size hh) hs).squeeze S256x4096 squeezes_S1x256x4096_S256x4096 = slot3 B 1 := slot3_congr (off10_eq) _ _
@[sl_canon] theorem canon11rowB {e : EltTy} (M : Memref sig .tc .hbm S17408x4096 e) (hh hs) :
    M.slice (Rect.unit (s := S17408x4096) (k0_off11) S256x4096.size hh) hs = rowB M 1 := rowB_congr (off11_eq) _ _
@[sl_canon] theorem canon54cell2 (A : DmaSems sig S2) (hh) :
    (A.slice (Rect.unit (s := S2) (k0_off54 (ww 68)) S1.size hh)).squeeze S_ squeezes_S1_S_ = cell2 A 1 := cell2_congr (off54_eq) _
@[sl_canon] theorem canon55rowB {e : EltTy} (M : Memref sig .tc .hbm S17408x4096 e) (hh hs) :
    M.slice (Rect.unit (s := S17408x4096) (k0_off55 (wi 68)) S256x4096.size hh) hs = rowB M 67 := rowB_congr (off55_eq) _ _
@[sl_canon] theorem canon56slot2 {e : EltTy} (B : Memref sig .tc .vmem S2x256x4096 e) (hh hs) :
    (B.slice (Rect.unit (s := S2x256x4096) (k0_off56 (ww 68)) S1x256x4096.size hh) hs).squeeze S256x4096 squeezes_S1x256x4096_S256x4096 = slot2 B 1 := slot2_congr (off56_eq) _ _
@[sl_canon] theorem canon57cell2 (A : DmaSems sig S2) (hh) :
    (A.slice (Rect.unit (s := S2) (k0_off57 (ww 68)) S1.size hh)).squeeze S_ squeezes_S1_S_ = cell2 A 1 := cell2_congr (off57_eq) _
@[sl_canon] theorem canon58rowB {e : EltTy} (M : Memref sig .tc .hbm S17408x4096 e) (hh hs) :
    M.slice (Rect.unit (s := S17408x4096) (k0_off58 (wi 68)) S256x4096.size hh) hs = rowB M 67 := rowB_congr (off58_eq) _ _
@[sl_canon] theorem canon59slot2 {e : EltTy} (B : Memref sig .tc .vmem S2x256x4096 e) (hh hs) :
    (B.slice (Rect.unit (s := S2x256x4096) (k0_off59 (ww 68)) S1x256x4096.size hh) hs).squeeze S256x4096 squeezes_S1x256x4096_S256x4096 = slot2 B 1 := slot2_congr (off59_eq) _ _
instance (k : Fin k0_t1_loop.trips) : ClosedOff (k0_off37 (wr k.val)) := ⟨slotOff3 (Ring.sl 3 k.val), off37_eq k⟩
instance (k : Fin k0_t1_loop.trips) : ClosedOff (k0_off38 (wr k.val)) := ⟨slotOff3 (Ring.sl 3 k.val), off38_eq k⟩
instance (k : Fin k0_t1_loop.trips) : ClosedOff (k0_off39 (wr k.val)) := ⟨slotOff2 (Ring.sl 2 k.val), off39_eq k⟩
instance (k : Fin k0_t1_loop.trips) : ClosedOff (k0_off41 (wr k.val)) := ⟨slotOff2 (Ring.sl 2 k.val), off41_eq k⟩

end Cert.Proof.PostPre

end
-- ==== Proof.PostPre.Vals.lean ====
/-
  What one step computes: the new residual and the next block's input of a row block, from the blocks in its slots.
-/
module

public import proofs.«01_k».proof.Proof.PostPre.Canon
public import Idealize.ShloMosaic.Lib.VecWindow
public import Idealize.ShloMosaic.Lib.ViewIndex
public import Idealize.ShloMosaic.Lib.Pipeline.Value

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev yM : Memref sig .tc .hbm S17408x4096 .bf16 := Memref.whole main_arg0
abbrev hM : Memref sig .tc .hbm S17408x4096 .f32 := Memref.whole main_arg1
abbrev gM : Memref sig .tc .hbm S6x4096 .f32 := Memref.whole main_arg2
abbrev mM : Memref sig .tc .hbm S8x9x4096 .f32 := Memref.whole main_arg3
abbrev oM : Memref sig .tc .hbm S17408x4096 .f32 := Memref.whole main_v0_0
abbrev uM : Memref sig .tc .hbm S17408x4096 .bf16 := Memref.whole main_v0_1
abbrev yB : Memref sig .tc .vmem S3x256x4096 .bf16 := Memref.whole cc0_scoped0
abbrev hB : Memref sig .tc .vmem S3x256x4096 .f32 := Memref.whole cc0_scoped2
abbrev gB : Memref sig .tc .vmem S6x4096 .f32 := Memref.whole cc0_scoped4
abbrev mB : Memref sig .tc .vmem S2x1x9x4096 .f32 := Memref.whole cc0_scoped5
abbrev gB' : Memref sig .tc .vmem S6x4096 .f32 := Memref.whole cc0_scoped7
abbrev mB' : Memref sig .tc .vmem S2x1x9x4096 .f32 := Memref.whole cc0_scoped8
abbrev oB : Memref sig .tc .vmem S2x256x4096 .f32 := Memref.whole cc0_scoped10
abbrev uB : Memref sig .tc .vmem S2x256x4096 .bf16 := Memref.whole cc0_scoped12

section Vals
variable (c : Dev nD) (Y : Buf (Elt F) (yM.view.loc (c : Thread nD τ))) (H : Buf (Elt F) (hM.view.loc (c : Thread nD τ)))
  (G : Buf (Elt F) (gM.view.loc (c : Thread nD τ))) (M : Buf (Elt F) (mM.view.loc (c : Thread nD τ)))

/-- Gain row `r`. -/
abbrev R1 : Rect S6x4096 := Rect.unit (s := S6x4096) ![1, 0] S1x4096.size inb_S6x4096_S1x4096_1_0
abbrev R2 : Rect S6x4096 := Rect.unit (s := S6x4096) ![2, 0] S1x4096.size inb_S6x4096_S1x4096_2_0
def gain1 : S1x4096.Idx → Elt F .f32 := gM.view.readAt (Elt F) R1.toLoadRect G
def gain2 : S1x4096.Idx → Elt F .f32 := gM.view.readAt (Elt F) R2.toLoadRect G
/-- The modulation block of row block `b`. -/
def modOf (b : Fin 68) : S1x9x4096.Idx → Elt F .f32 := (mrow mM (Ring.bk 8 (b.val / 16))).view.read (Elt F) M
/-- New residual of row block `b`. -/
def hnOf (b : Fin 68) : S256x4096.Idx → Elt F .f32 :=
  k0_pay4 ((rowB hM b).view.read (Elt F) H) (k0_pay2 (modOf c M b)) (extf .f32 ((rowB yM b).view.read (Elt F) Y : FVec F S256x4096 .bf16) bitsLt_bf16_f32) (gain1 c G)
/-- Next block's input at row block `b`. -/
def uOf (b : Fin 68) : S256x4096.Idx → Elt F .bf16 :=
  shapeCast S256x4096 (k0_pay9 (k0_pay6 (modOf c M b))
    (k0_pay7 ((rowB hM b).view.read (Elt F) H) (k0_pay2 (modOf c M b)) (extf .f32 ((rowB yM b).view.read (Elt F) Y : FVec F S256x4096 .bf16) bitsLt_bf16_f32) (gain1 c G) (gain2 c G))
    (k0_pay8 (modOf c M b))) shapeCasts_S1x256x4096_S256x4096

abbrev gbufP (B : Memref sig .tc .vmem S6x4096 .f32) (f : Buf (Elt F) (B.view.loc (c : Thread nD τ))) : sProp 𝕄 :=
  B.view.loc (c : Thread nD τ) ↦[B.view.set]{fullShare} f
/-- A buffer that holds the gains. -/
abbrev gainP (B : Memref sig .tc .vmem S6x4096 .f32) : sProp 𝕄 :=
  iprop(∃ f, gbufP c B f ∗ ⌜B.view.read (Elt F) f = gM.view.read (Elt F) G⌝)

/-! ## A slot read or written through the whole buffer is the slot -/

theorem load3 {e : EltTy} (B : Memref sig .tc .vmem S3x256x4096 e) {off : Fin 3 → Nat} {s : Fin 3} (ho : off = slotOff3 s) (hh)
    (f : B.view.ty.Contents (Elt F)) :
    shapeCast S256x4096 (B.view.readAt (Elt F) (Rect.unit (s := S3x256x4096) off S1x256x4096.size hh).toLoadRect f) shapeCasts_S1x256x4096_S256x4096
      = (slot3 B s).view.read (Elt F) f := by
  subst ho; rfl
theorem store2 {e : EltTy} (B : Memref sig .tc .vmem S2x256x4096 e) {off : Fin 3 → Nat} {s : Fin 2} (ho : off = slotOff2 s) (hh)
    (f : B.view.ty.Contents (Elt F)) (w : S1x256x4096.Idx → Elt F e) :
    (slot2 B s).view.read (Elt F) (View.write (Elt F) (B.access (Rect.unit (s := S2x256x4096) off S1x256x4096.size hh)) f w Finset.univ)
      = shapeCast S256x4096 w shapeCasts_S1x256x4096_S256x4096 := by
  subst ho
  funext x
  exact congrFun (View.read_write_univ (v := B.access (Rect.unit (s := S2x256x4096) (slotOff2 s) S1x256x4096.size hh)) f w) _
theorem loadm {B : Memref sig .tc .vmem S2x1x9x4096 .f32} {s : Fin 2} (f : (mslot B s).view.ty.Contents (Elt F)) :
    (mslot B s).view.readAt (Elt F) (Rect.unit (s := S1x9x4096) ![0, 0, 0] S1x9x4096.size inb_S1x9x4096_S1x9x4096_0_0_0).toLoadRect f
      = (mslot B s).view.read (Elt F) f := by
  funext x
  show (mslot B s).view.read (Elt F) f ((Rect.unit (s := S1x9x4096) ![0, 0, 0] S1x9x4096.size inb_S1x9x4096_S1x9x4096_0_0_0).emb x) = _
  exact congrArg _ (Rect.emb_unit_full (s := S1x9x4096) _ x)

theorem modOf_bk (k : ℕ) (h8 : k < 68) : modOf c M (Ring.bk 68 k) = (mrow mM (Ring.bk 8 (k / 16))).view.read (Elt F) M := by
  unfold modOf; rw [Ring.bk_val h8]

variable (k : Fin k0_t1_loop.trips)
  {fy : Buf (Elt F) ((slot3 yB (Ring.sl 3 k.val)).view.loc (c : Thread nD τ))} (ey : Holds3 c yB yM Y (Ring.sl 3 k.val) (Ring.bk 68 k.val) fy)
  {fh : Buf (Elt F) ((slot3 hB (Ring.sl 3 k.val)).view.loc (c : Thread nD τ))} (eh : Holds3 c hB hM H (Ring.sl 3 k.val) (Ring.bk 68 k.val) fh)
  {fm : Buf (Elt F) ((mslot mB (Ring.sl 2 (k.val / 16))).view.loc (c : Thread nD τ))} (em : Holdsm c mB mM M (Ring.sl 2 (k.val / 16)) (Ring.bk 8 (k.val / 16)) fm)
  {fn : Buf (Elt F) ((mslot mB' (Ring.sl 2 (k.val / 16))).view.loc (c : Thread nD τ))} (en : Holdsm c mB' mM M (Ring.sl 2 (k.val / 16)) (Ring.bk 8 (k.val / 16)) fn)
  {g1 : Buf (Elt F) (gB.view.loc (c : Thread nD τ))} (eg1 : gB.view.read (Elt F) g1 = gM.view.read (Elt F) G)
  {g2 : Buf (Elt F) (gB'.view.loc (c : Thread nD τ))} (eg2 : gB'.view.read (Elt F) g2 = gM.view.read (Elt F) G)
include ey eh em eg1

abbrev ldH (k3 : k0_chk3 (wr k.val)) (fh : hB.view.ty.Contents (Elt F)) : FVec F S256x4096 .f32 :=
  k0_pay1 (hB.view.readAt (Elt F) (Rect.unit (s := S3x256x4096) (k0_off37 (wr k.val)) S1x256x4096.size (k0_off37_inb (wr k.val) k3)).toLoadRect fh)
abbrev ldY (k4 : k0_chk4 (wr k.val)) (fy : yB.view.ty.Contents (Elt F)) : FVec F S256x4096 .f32 :=
  k0_pay3 (yB.view.readAt (Elt F) (Rect.unit (s := S3x256x4096) (k0_off38 (wr k.val)) S1x256x4096.size (k0_off38_inb (wr k.val) k4)).toLoadRect fy)
abbrev ldM (B : Memref sig .tc .vmem S2x1x9x4096 .f32) (fm : (mslot B (Ring.sl 2 (k.val / 16))).view.ty.Contents (Elt F)) : Vec F S1x9x4096 .f32 :=
  (mslot B (Ring.sl 2 (k.val / 16))).view.readAt (Elt F) (Rect.unit (s := S1x9x4096) ![0, 0, 0] S1x9x4096.size inb_S1x9x4096_S1x9x4096_0_0_0).toLoadRect fm

/-- The new residual a step stores, read back from its slot. -/
theorem hn_eq (k3 : k0_chk3 (wr k.val)) (k4 : k0_chk4 (wr k.val)) (k5 : k0_chk5 (wr k.val)) (go) :
    (slot2 oB (Ring.sl 2 k.val)).view.read (Elt F)
      (View.write (Elt F) (oB.access (Rect.unit (s := S2x256x4096) (k0_off39 (wr k.val)) S1x256x4096.size (k0_off39_inb (wr k.val) k5))) go
        (k0_pay5 (ldH k k3 fh) (k0_pay2 (ldM k mB fm)) (ldY k k4 fy) (gB.view.readAt (Elt F) R1.toLoadRect g1)) Finset.univ)
      = hnOf c Y H G M (Ring.bk 68 k.val) := by
  have h8 : k.val < 68 := Nat.lt_of_lt_of_eq k.isLt trips_eq
  have e1 : ldH k k3 fh = (rowB hM (Ring.bk 68 k.val)).view.read (Elt F) H := (load3 hB (off37_eq k) _ fh).trans eh
  have e2 : ldY k k4 fy = extf .f32 ((rowB yM (Ring.bk 68 k.val)).view.read (Elt F) Y : FVec F S256x4096 .bf16) bitsLt_bf16_f32 :=
    congrArg (fun v : FVec F S256x4096 .bf16 => extf .f32 v bitsLt_bf16_f32) ((load3 yB (off38_eq k) _ fy).trans ey)
  have e3 : ldM k mB fm = modOf c M (Ring.bk 68 k.val) := by rw [modOf_bk c M k.val h8]; exact (loadm fm).trans em
  have e4 : gB.view.readAt (Elt F) R1.toLoadRect g1 = gain1 c G := funext fun x => congrFun eg1 _
  rw [store2 oB (off39_eq k), e1, e2, e3, e4]
  exact shapeCast_shapeCast _ _ _
include en eg2
/-- The next block's input a step stores, read back from its slot. -/
theorem u_eq (k3 : k0_chk3 (wr k.val)) (k4 : k0_chk4 (wr k.val)) (k7 : k0_chk7 (wr k.val)) (gu) :
    (slot2 uB (Ring.sl 2 k.val)).view.read (Elt F)
      (View.write (Elt F) (uB.access (Rect.unit (s := S2x256x4096) (k0_off41 (wr k.val)) S1x256x4096.size (k0_off41_inb (wr k.val) k7))) gu
        (k0_pay9 (k0_pay6 (ldM k mB' fn))
          (k0_pay7 (ldH k k3 fh) (k0_pay2 (ldM k mB fm)) (ldY k k4 fy) (gB.view.readAt (Elt F) R1.toLoadRect g1) (gB'.view.readAt (Elt F) R2.toLoadRect g2))
          (k0_pay8 (ldM k mB' fn))) Finset.univ)
      = uOf c Y H G M (Ring.bk 68 k.val) := by
  have h8 : k.val < 68 := Nat.lt_of_lt_of_eq k.isLt trips_eq
  have e1 : ldH k k3 fh = (rowB hM (Ring.bk 68 k.val)).view.read (Elt F) H := (load3 hB (off37_eq k) _ fh).trans eh
  have e2 : ldY k k4 fy = extf .f32 ((rowB yM (Ring.bk 68 k.val)).view.read (Elt F) Y : FVec F S256x4096 .bf16) bitsLt_bf16_f32 :=
    congrArg (fun v : FVec F S256x4096 .bf16 => extf .f32 v bitsLt_bf16_f32) ((load3 yB (off38_eq k) _ fy).trans ey)
  have e3 : ldM k mB fm = modOf c M (Ring.bk 68 k.val) := by rw [modOf_bk c M k.val h8]; exact (loadm fm).trans em
  have e3' : ldM k mB' fn = modOf c M (Ring.bk 68 k.val) := by rw [modOf_bk c M k.val h8]; exact (loadm fn).trans en
  have e4 : gB.view.readAt (Elt F) R1.toLoadRect g1 = gain1 c G := funext fun x => congrFun eg1 _
  have e5 : gB'.view.readAt (Elt F) R2.toLoadRect g2 = gain2 c G := funext fun x => congrFun eg2 _
  rw [store2 uB (off41_eq k), e1, e2, e3, e3', e4, e5]
  rfl

end Vals

end Cert.Proof.PostPre

end
-- ==== Proof.PostPre.Trip.lean ====
/-
  One step of the pipeline, in each of its cases.
-/
module

public import proofs.«01_k».proof.Proof.PostPre.Vals

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (Y : Buf (Elt F) (yM.view.loc (c : Thread nD τ))) (H : Buf (Elt F) (hM.view.loc (c : Thread nD τ)))
  (G : Buf (Elt F) (gM.view.loc (c : Thread nD τ))) (M : Buf (Elt F) (mM.view.loc (c : Thread nD τ)))

/-- What a step finds before step `k`. -/
def INV (k : ℕ) : sProp 𝕄 :=
  iprop(SR c cc0_scoped1 yB yM 65536 Y k ∗ SR c cc0_scoped3 hB hM 131072 H k
    ∗ SM c cc0_scoped6 mB mM 4608 fullShare.left M k ∗ SM c cc0_scoped9 mB' mM 4608 fullShare.right M k
    ∗ SO c cc0_scoped11 oB oM 131072 (hnOf c Y H G M) k ∗ SO c cc0_scoped13 uB uM 65536 (uOf c Y H G M) k
    ∗ gainP c G gB ∗ gainP c G gB' ∗ ∃ W, owes (c : Thread nD τ) 0 W)

abbrev trip (v13 v30 v37 v46 v55 : BitVec 32) (k : Fin k0_t1_loop.trips) : Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) (Memref.whole cc0_scoped5) (Memref.isWhole_whole _) cc0_scoped6 (Memref.whole cc0_scoped7) (Memref.isWhole_whole _) (Memref.whole cc0_scoped8) (Memref.isWhole_whole _) cc0_scoped9 (Memref.whole cc0_scoped10) (Memref.isWhole_whole _) cc0_scoped11 (Memref.whole cc0_scoped12) (Memref.isWhole_whole _) cc0_scoped13 cc0_scoped14 cc0_scoped15 v13 v30 v37 v46 v55 k (accAt k.val)

set_option maxHeartbeats 4000000 in
/-- A step: it requests row blocks two ahead, waits for a modulation block, and is the first. -/
theorem trip_first (v13 v30 v37 v46 v55 : BitVec 32) (k : Fin k0_t1_loop.trips) (hk : k.val < 66) (h0 : k.val % 16 = 0) (hz : k.val = 0) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  have c3 := (cond3_iff k).2 hk
  have c4 := (cond4_iff k).2 hk
  have c5 := (not_congr (cond5_iff k)).2 (by omega)
  have c6 := (not_congr (cond6_iff k)).2 (by omega)
  have c9 := (cond9_iff k).2 h0
  have c10 := (cond10_iff k).2 h0
  have c7 := (cond7_iff k).2 trivial
  have c8 := (cond8_iff k).2 trivial
  have c17 := (cond17_iff k).2 trivial
  have c18 := (cond18_iff k).2 trivial
  have c23 := (not_congr (cond23_iff k)).2 (by omega)
  have c24 := (not_congr (cond24_iff k)).2 (by omega)
  have k1 := chk1_ok k
  have k2 := chk2_ok k
  have k3 := chk3_ok k
  have k4 := chk4_ok k
  have k5 := chk5_ok k
  have k6 := chk6_ok k
  have k7 := chk7_ok k
  unfold INV
  iintro ⟨HY, HH, HM, HN, HO, HU, ⟨%g1, HG, %eg1⟩, ⟨%g2, HG', %eg2⟩, ⟨%W, HW⟩⟩
  ihave HY' := (SR_open c cc0_scoped1 yB yM 65536 Y k.val hk) $$ HY
  icases HY' with ⟨Yb, Yr, ⟨%fy, Yf, %ey⟩, Yn, ⟨%fy', Ys⟩, Yc⟩
  ihave HH' := (SR_open c cc0_scoped3 hB hM 131072 H k.val hk) $$ HH
  icases HH' with ⟨Hb, Hr, ⟨%fh, Hf, %eh⟩, Hn, ⟨%fh', Hs⟩, Hc⟩
  ihave HM' := (SM_open_wait c cc0_scoped6 mB mM 4608 fullShare.left M k.val h0) $$ HM
  icases HM' with ⟨Mr, ⟨%fm, Mf, %em⟩, Mn⟩
  ihave HN' := (SM_open_wait c cc0_scoped9 mB' mM 4608 fullShare.right M k.val h0) $$ HN
  icases HN' with ⟨Nr, ⟨%fn, Nf, %en⟩, Nn⟩
  ihave HO' := (SO_open_zero c cc0_scoped11 oB oM 131072 (hnOf c Y H G M) k.val hz) $$ HO
  icases HO' with ⟨⟨%fo, Ob⟩, Or, Oe, ⟨%go, Os⟩, Oc⟩
  ihave HU' := (SO_open_zero c cc0_scoped13 uB uM 65536 (uOf c Y H G M) k.val hz) $$ HU
  icases HU' with ⟨⟨%fu, Ub⟩, Ur, Ue, ⟨%gu, Us⟩, Uc⟩
  dsimp only [trip]
  sl_unfold [k0_t1_body]
  sl_exec
  sl_step
  have hw : ∀ k : Fin k0_t1_loop.trips, trip_first.sl.v143_r0 k = wf (k.val + 1) ∧ trip_first.sl.v368_r0 k = wr (k.val + 1) ∧ trip_first.sl.v426_r0 k = wg (k.val + 1)
      ∧ trip_first.sl.v199_r0 k = wmf (k.val + 1) ∧ trip_first.sl.v430_r0 k = wmr (k.val + 1) ∧ trip_first.sl.v407_r0 k = ww (k.val + 1) ∧ trip_first.sl.v122_r0 k = wi (k.val + 1) := by
    decide +kernel
  obtain ⟨w1, w2, w3, w4, w5, w6, w7⟩ := hw k
  isplitl
  rotate_left
  · ipureintro; rw [w1, w2, w3, w4, w5, w6, w7]
  isplitl [Yf_src Yr Yc Yn Yf_dst Yf]
  · iapply (SR_close c cc0_scoped1 yB yM 65536 Y k.val hk)
    isplitl [Yf_src]; · iexact Yf_src
    isplitl [Yr]; · iexact Yr
    isplitl [Yc]
    · iexists ((slot3 yB (Ring.sl 3 (k.val + 2))).view.writes (Elt F) fy' [⟨Rect.whole S256x4096, ReadAs.same.apply ((rowB yM (Ring.bk 68 (k.val + 2))).view.read (Elt F) Y)⟩])
      isplitl [Yc]; · iexact Yc
      ipureintro; exact View.read_writes_whole _ _ _
    isplitl [Yn]; · iexact Yn
    isplitl [Yf_dst]; · iexists fy; iexact Yf_dst
    iexact Yf
  isplitl [Hf_src Hr Hc Hn Hf_dst Hf]
  · iapply (SR_close c cc0_scoped3 hB hM 131072 H k.val hk)
    isplitl [Hf_src]; · iexact Hf_src
    isplitl [Hr]; · iexact Hr
    isplitl [Hc]
    · iexists ((slot3 hB (Ring.sl 3 (k.val + 2))).view.writes (Elt F) fh' [⟨Rect.whole S256x4096, ReadAs.same.apply ((rowB hM (Ring.bk 68 (k.val + 2))).view.read (Elt F) H)⟩])
      isplitl [Hc]; · iexact Hc
      ipureintro; exact View.read_writes_whole _ _ _
    isplitl [Hn]; · iexact Hn
    isplitl [Hf_dst]; · iexists fh; iexact Hf_dst
    iexact Hf
  isplitl [Mf_src Mr Mf_dst Mf Mn]
  · iapply (SM_close_wait c cc0_scoped6 mB mM 4608 fullShare.left M k.val h0)
    isplitl [Mf_src]; · iexact Mf_src
    isplitl [Mr]; · iexact Mr
    isplitl [Mf_dst Mf]
    · isplitl [Mf_dst]
      · iexists fm
        isplitl [Mf_dst]; · iexact Mf_dst
        ipureintro; exact em
      iexact Mf
    iexact Mn
  isplitl [Nf_src Nr Nf_dst Nf Nn]
  · iapply (SM_close_wait c cc0_scoped9 mB' mM 4608 fullShare.right M k.val h0)
    isplitl [Nf_src]; · iexact Nf_src
    isplitl [Nr]; · iexact Nr
    isplitl [Nf_dst Nf]
    · isplitl [Nf_dst]
      · iexists fn
        isplitl [Nf_dst]; · iexact Nf_dst
        ipureintro; exact en
      iexact Nf
    iexact Nn
  isplitl [Or Oc Oe]
  · iapply (SO_close_zero c cc0_scoped11 oB oM 131072 (hnOf c Y H G M) k.val hz)
    isplitl [Or]; · iexact Or
    isplitl [Oc]
    · iexists _, _
      isplitl [Oc]; · iexact Oc
      ipureintro; exact (View.read_writes_whole _ _ _).trans (hn_eq c Y H G M k ey eh em eg1 k3 k4 k5 go)
    iexact Oe
  isplitl [Ur Uc Ue]
  · iapply (SO_close_zero c cc0_scoped13 uB uM 65536 (uOf c Y H G M) k.val hz)
    isplitl [Ur]; · iexact Ur
    isplitl [Uc]
    · iexists _, _
      isplitl [Uc]; · iexact Uc
      ipureintro; exact (View.read_writes_whole _ _ _).trans (u_eq c Y H G M k ey eh em en eg1 eg2 k3 k4 k7 gu)
    iexact Ue
  isplitl [HG]
  · iexists g1
    isplitl [HG]; · iexact HG
    ipureintro; exact eg1
  isplitl [HG']
  · iexists g2
    isplitl [HG']; · iexact HG'
    ipureintro; exact eg2
  iexists _; iexact HW

set_option maxHeartbeats 4000000 in
/-- A step: it requests row blocks two ahead, waits for a modulation block, and waits for the results one behind. -/
theorem trip_wait (v13 v30 v37 v46 v55 : BitVec 32) (k : Fin k0_t1_loop.trips) (hk : k.val < 66) (h0 : k.val % 16 = 0) (h1 : 1 ≤ k.val) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  have c3 := (cond3_iff k).2 hk
  have c4 := (cond4_iff k).2 hk
  have c5 := (not_congr (cond5_iff k)).2 (by omega)
  have c6 := (not_congr (cond6_iff k)).2 (by omega)
  have c9 := (cond9_iff k).2 h0
  have c10 := (cond10_iff k).2 h0
  have c7 := (cond7_iff k).2 trivial
  have c8 := (cond8_iff k).2 trivial
  have c17 := (cond17_iff k).2 trivial
  have c18 := (cond18_iff k).2 trivial
  have c23 := (cond23_iff k).2 h1
  have c24 := (cond24_iff k).2 h1
  have k1 := chk1_ok k
  have k2 := chk2_ok k
  have k3 := chk3_ok k
  have k4 := chk4_ok k
  have k5 := chk5_ok k
  have k6 := chk6_ok k
  have k7 := chk7_ok k
  unfold INV
  iintro ⟨HY, HH, HM, HN, HO, HU, ⟨%g1, HG, %eg1⟩, ⟨%g2, HG', %eg2⟩, ⟨%W, HW⟩⟩
  ihave HY' := (SR_open c cc0_scoped1 yB yM 65536 Y k.val hk) $$ HY
  icases HY' with ⟨Yb, Yr, ⟨%fy, Yf, %ey⟩, Yn, ⟨%fy', Ys⟩, Yc⟩
  ihave HH' := (SR_open c cc0_scoped3 hB hM 131072 H k.val hk) $$ HH
  icases HH' with ⟨Hb, Hr, ⟨%fh, Hf, %eh⟩, Hn, ⟨%fh', Hs⟩, Hc⟩
  ihave HM' := (SM_open_wait c cc0_scoped6 mB mM 4608 fullShare.left M k.val h0) $$ HM
  icases HM' with ⟨Mr, ⟨%fm, Mf, %em⟩, Mn⟩
  ihave HN' := (SM_open_wait c cc0_scoped9 mB' mM 4608 fullShare.right M k.val h0) $$ HN
  icases HN' with ⟨Nr, ⟨%fn, Nf, %en⟩, Nn⟩
  ihave HO' := (SO_open c cc0_scoped11 oB oM 131072 (hnOf c Y H G M) k.val h1 h8) $$ HO
  icases HO' with ⟨Od, ⟨%fo, Ob⟩, Or, ⟨%fo1, %go1, Of, %eo⟩, ⟨%go, Os⟩, Oc⟩
  ihave HU' := (SO_open c cc0_scoped13 uB uM 65536 (uOf c Y H G M) k.val h1 h8) $$ HU
  icases HU' with ⟨Ud, ⟨%fu, Ub⟩, Ur, ⟨%fu1, %gu1, Uf, %eu⟩, ⟨%gu, Us⟩, Uc⟩
  dsimp only [trip]
  sl_unfold [k0_t1_body]
  sl_exec
  sl_step
  have hw : ∀ k : Fin k0_t1_loop.trips, trip_wait.sl.v143_r0 k = wf (k.val + 1) ∧ trip_wait.sl.v368_r0 k = wr (k.val + 1) ∧ trip_wait.sl.v426_r0 k = wg (k.val + 1)
      ∧ trip_wait.sl.v199_r0 k = wmf (k.val + 1) ∧ trip_wait.sl.v430_r0 k = wmr (k.val + 1) ∧ trip_wait.sl.v407_r0 k = ww (k.val + 1) ∧ trip_wait.sl.v122_r0 k = wi (k.val + 1) := by
    decide +kernel
  obtain ⟨w1, w2, w3, w4, w5, w6, w7⟩ := hw k
  isplitl
  rotate_left
  · ipureintro; rw [w1, w2, w3, w4, w5, w6, w7]
  isplitl [Yf_src Yr Yc Yn Yf_dst Yf]
  · iapply (SR_close c cc0_scoped1 yB yM 65536 Y k.val hk)
    isplitl [Yf_src]; · iexact Yf_src
    isplitl [Yr]; · iexact Yr
    isplitl [Yc]
    · iexists ((slot3 yB (Ring.sl 3 (k.val + 2))).view.writes (Elt F) fy' [⟨Rect.whole S256x4096, ReadAs.same.apply ((rowB yM (Ring.bk 68 (k.val + 2))).view.read (Elt F) Y)⟩])
      isplitl [Yc]; · iexact Yc
      ipureintro; exact View.read_writes_whole _ _ _
    isplitl [Yn]; · iexact Yn
    isplitl [Yf_dst]; · iexists fy; iexact Yf_dst
    iexact Yf
  isplitl [Hf_src Hr Hc Hn Hf_dst Hf]
  · iapply (SR_close c cc0_scoped3 hB hM 131072 H k.val hk)
    isplitl [Hf_src]; · iexact Hf_src
    isplitl [Hr]; · iexact Hr
    isplitl [Hc]
    · iexists ((slot3 hB (Ring.sl 3 (k.val + 2))).view.writes (Elt F) fh' [⟨Rect.whole S256x4096, ReadAs.same.apply ((rowB hM (Ring.bk 68 (k.val + 2))).view.read (Elt F) H)⟩])
      isplitl [Hc]; · iexact Hc
      ipureintro; exact View.read_writes_whole _ _ _
    isplitl [Hn]; · iexact Hn
    isplitl [Hf_dst]; · iexists fh; iexact Hf_dst
    iexact Hf
  isplitl [Mf_src Mr Mf_dst Mf Mn]
  · iapply (SM_close_wait c cc0_scoped6 mB mM 4608 fullShare.left M k.val h0)
    isplitl [Mf_src]; · iexact Mf_src
    isplitl [Mr]; · iexact Mr
    isplitl [Mf_dst Mf]
    · isplitl [Mf_dst]
      · iexists fm
        isplitl [Mf_dst]; · iexact Mf_dst
        ipureintro; exact em
      iexact Mf
    iexact Mn
  isplitl [Nf_src Nr Nf_dst Nf Nn]
  · iapply (SM_close_wait c cc0_scoped9 mB' mM 4608 fullShare.right M k.val h0)
    isplitl [Nf_src]; · iexact Nf_src
    isplitl [Nr]; · iexact Nr
    isplitl [Nf_dst Nf]
    · isplitl [Nf_dst]
      · iexists fn
        isplitl [Nf_dst]; · iexact Nf_dst
        ipureintro; exact en
      iexact Nf
    iexact Nn
  isplitl [Od Of_dst Or Oc Of_src Of]
  · iapply (SO_close c cc0_scoped11 oB oM 131072 (hnOf c Y H G M) k.val h1 h8)
    isplitl [Od]; · iexact Od
    isplitl [Of_dst]
    · iexists fo1
      isplitl [Of_dst]; · iexact Of_dst
      ipureintro; exact eo
    isplitl [Or]; · iexact Or
    isplitl [Oc]
    · iexists _, _
      isplitl [Oc]; · iexact Oc
      ipureintro; exact (View.read_writes_whole _ _ _).trans (hn_eq c Y H G M k ey eh em eg1 k3 k4 k5 go)
    isplitl [Of_src]; · iexists go1; iexact Of_src
    iexact Of
  isplitl [Ud Uf_dst Ur Uc Uf_src Uf]
  · iapply (SO_close c cc0_scoped13 uB uM 65536 (uOf c Y H G M) k.val h1 h8)
    isplitl [Ud]; · iexact Ud
    isplitl [Uf_dst]
    · iexists fu1
      isplitl [Uf_dst]; · iexact Uf_dst
      ipureintro; exact eu
    isplitl [Ur]; · iexact Ur
    isplitl [Uc]
    · iexists _, _
      isplitl [Uc]; · iexact Uc
      ipureintro; exact (View.read_writes_whole _ _ _).trans (u_eq c Y H G M k ey eh em en eg1 eg2 k3 k4 k7 gu)
    isplitl [Uf_src]; · iexists gu1; iexact Uf_src
    iexact Uf
  isplitl [HG]
  · iexists g1
    isplitl [HG]; · iexact HG
    ipureintro; exact eg1
  isplitl [HG']
  · iexists g2
    isplitl [HG']; · iexact HG'
    ipureintro; exact eg2
  iexists _; iexact HW

set_option maxHeartbeats 4000000 in
/-- A step: it requests row blocks two ahead, requests the next modulation block, and waits for the results one behind. -/
theorem trip_ask (v13 v30 v37 v46 v55 : BitVec 32) (k : Fin k0_t1_loop.trips) (hk : k.val < 66) (h15 : k.val % 16 = 15) (h1 : 1 ≤ k.val) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  have c3 := (cond3_iff k).2 hk
  have c4 := (cond4_iff k).2 hk
  have c5 := (cond5_iff k).2 h15
  have c6 := (cond6_iff k).2 h15
  have c9 := (not_congr (cond9_iff k)).2 (by omega)
  have c10 := (not_congr (cond10_iff k)).2 (by omega)
  have c7 := (cond7_iff k).2 trivial
  have c8 := (cond8_iff k).2 trivial
  have c17 := (cond17_iff k).2 trivial
  have c18 := (cond18_iff k).2 trivial
  have c23 := (cond23_iff k).2 h1
  have c24 := (cond24_iff k).2 h1
  have k1 := chk1_ok k
  have k2 := chk2_ok k
  have k3 := chk3_ok k
  have k4 := chk4_ok k
  have k5 := chk5_ok k
  have k6 := chk6_ok k
  have k7 := chk7_ok k
  unfold INV
  iintro ⟨HY, HH, HM, HN, HO, HU, ⟨%g1, HG, %eg1⟩, ⟨%g2, HG', %eg2⟩, ⟨%W, HW⟩⟩
  ihave HY' := (SR_open c cc0_scoped1 yB yM 65536 Y k.val hk) $$ HY
  icases HY' with ⟨Yb, Yr, ⟨%fy, Yf, %ey⟩, Yn, ⟨%fy', Ys⟩, Yc⟩
  ihave HH' := (SR_open c cc0_scoped3 hB hM 131072 H k.val hk) $$ HH
  icases HH' with ⟨Hb, Hr, ⟨%fh, Hf, %eh⟩, Hn, ⟨%fh', Hs⟩, Hc⟩
  ihave HM' := (SM_open_ask c cc0_scoped6 mB mM 4608 fullShare.left M k.val h15) $$ HM
  icases HM' with ⟨Mb, Mr, ⟨⟨%fm, Ms, %em⟩, Mc⟩, ⟨%fm', Mt⟩, Md⟩
  ihave HN' := (SM_open_ask c cc0_scoped9 mB' mM 4608 fullShare.right M k.val h15) $$ HN
  icases HN' with ⟨Nb, Nr, ⟨⟨%fn, Ns, %en⟩, Nc⟩, ⟨%fn', Nt⟩, Nd⟩
  ihave HO' := (SO_open c cc0_scoped11 oB oM 131072 (hnOf c Y H G M) k.val h1 h8) $$ HO
  icases HO' with ⟨Od, ⟨%fo, Ob⟩, Or, ⟨%fo1, %go1, Of, %eo⟩, ⟨%go, Os⟩, Oc⟩
  ihave HU' := (SO_open c cc0_scoped13 uB uM 65536 (uOf c Y H G M) k.val h1 h8) $$ HU
  icases HU' with ⟨Ud, ⟨%fu, Ub⟩, Ur, ⟨%fu1, %gu1, Uf, %eu⟩, ⟨%gu, Us⟩, Uc⟩
  dsimp only [trip]
  sl_unfold [k0_t1_body]
  sl_exec
  sl_step
  have hw : ∀ k : Fin k0_t1_loop.trips, trip_ask.sl.v143_r0 k = wf (k.val + 1) ∧ trip_ask.sl.v368_r0 k = wr (k.val + 1) ∧ trip_ask.sl.v426_r0 k = wg (k.val + 1)
      ∧ trip_ask.sl.v199_r0 k = wmf (k.val + 1) ∧ trip_ask.sl.v430_r0 k = wmr (k.val + 1) ∧ trip_ask.sl.v407_r0 k = ww (k.val + 1) ∧ trip_ask.sl.v122_r0 k = wi (k.val + 1) := by
    decide +kernel
  obtain ⟨w1, w2, w3, w4, w5, w6, w7⟩ := hw k
  isplitl
  rotate_left
  · ipureintro; rw [w1, w2, w3, w4, w5, w6, w7]
  isplitl [Yf_src Yr Yc Yn Yf_dst Yf]
  · iapply (SR_close c cc0_scoped1 yB yM 65536 Y k.val hk)
    isplitl [Yf_src]; · iexact Yf_src
    isplitl [Yr]; · iexact Yr
    isplitl [Yc]
    · iexists ((slot3 yB (Ring.sl 3 (k.val + 2))).view.writes (Elt F) fy' [⟨Rect.whole S256x4096, ReadAs.same.apply ((rowB yM (Ring.bk 68 (k.val + 2))).view.read (Elt F) Y)⟩])
      isplitl [Yc]; · iexact Yc
      ipureintro; exact View.read_writes_whole _ _ _
    isplitl [Yn]; · iexact Yn
    isplitl [Yf_dst]; · iexists fy; iexact Yf_dst
    iexact Yf
  isplitl [Hf_src Hr Hc Hn Hf_dst Hf]
  · iapply (SR_close c cc0_scoped3 hB hM 131072 H k.val hk)
    isplitl [Hf_src]; · iexact Hf_src
    isplitl [Hr]; · iexact Hr
    isplitl [Hc]
    · iexists ((slot3 hB (Ring.sl 3 (k.val + 2))).view.writes (Elt F) fh' [⟨Rect.whole S256x4096, ReadAs.same.apply ((rowB hM (Ring.bk 68 (k.val + 2))).view.read (Elt F) H)⟩])
      isplitl [Hc]; · iexact Hc
      ipureintro; exact View.read_writes_whole _ _ _
    isplitl [Hn]; · iexact Hn
    isplitl [Hf_dst]; · iexists fh; iexact Hf_dst
    iexact Hf
  isplitl [Mr Md Ms Mc]
  · iapply (SM_close_ask c cc0_scoped6 mB mM 4608 fullShare.left M k.val h15)
    isplitl [Mr]; · iexact Mr
    isplitl [Md]
    · iexists ((mslot mB (Ring.sl 2 (k.val / 16 + 1))).view.writes (Elt F) fm' [⟨Rect.whole S1x9x4096, ReadAs.same.apply ((mrow mM (Ring.bk 8 (k.val / 16 + 1))).view.read (Elt F) M)⟩])
      isplitl [Md]; · iexact Md
      ipureintro; exact View.read_writes_whole _ _ _
    isplitl [Ms]; · iexists fm; iexact Ms
    iexact Mc
  isplitl [Nr Nd Ns Nc]
  · iapply (SM_close_ask c cc0_scoped9 mB' mM 4608 fullShare.right M k.val h15)
    isplitl [Nr]; · iexact Nr
    isplitl [Nd]
    · iexists ((mslot mB' (Ring.sl 2 (k.val / 16 + 1))).view.writes (Elt F) fn' [⟨Rect.whole S1x9x4096, ReadAs.same.apply ((mrow mM (Ring.bk 8 (k.val / 16 + 1))).view.read (Elt F) M)⟩])
      isplitl [Nd]; · iexact Nd
      ipureintro; exact View.read_writes_whole _ _ _
    isplitl [Ns]; · iexists fn; iexact Ns
    iexact Nc
  isplitl [Od Of_dst Or Oc Of_src Of]
  · iapply (SO_close c cc0_scoped11 oB oM 131072 (hnOf c Y H G M) k.val h1 h8)
    isplitl [Od]; · iexact Od
    isplitl [Of_dst]
    · iexists fo1
      isplitl [Of_dst]; · iexact Of_dst
      ipureintro; exact eo
    isplitl [Or]; · iexact Or
    isplitl [Oc]
    · iexists _, _
      isplitl [Oc]; · iexact Oc
      ipureintro; exact (View.read_writes_whole _ _ _).trans (hn_eq c Y H G M k ey eh em eg1 k3 k4 k5 go)
    isplitl [Of_src]; · iexists go1; iexact Of_src
    iexact Of
  isplitl [Ud Uf_dst Ur Uc Uf_src Uf]
  · iapply (SO_close c cc0_scoped13 uB uM 65536 (uOf c Y H G M) k.val h1 h8)
    isplitl [Ud]; · iexact Ud
    isplitl [Uf_dst]
    · iexists fu1
      isplitl [Uf_dst]; · iexact Uf_dst
      ipureintro; exact eu
    isplitl [Ur]; · iexact Ur
    isplitl [Uc]
    · iexists _, _
      isplitl [Uc]; · iexact Uc
      ipureintro; exact (View.read_writes_whole _ _ _).trans (u_eq c Y H G M k ey eh em en eg1 eg2 k3 k4 k7 gu)
    isplitl [Uf_src]; · iexists gu1; iexact Uf_src
    iexact Uf
  isplitl [HG]
  · iexists g1
    isplitl [HG]; · iexact HG
    ipureintro; exact eg1
  isplitl [HG']
  · iexists g2
    isplitl [HG']; · iexact HG'
    ipureintro; exact eg2
  iexists _; iexact HW

set_option maxHeartbeats 4000000 in
/-- A step: it requests row blocks two ahead, keeps its modulation block, and waits for the results one behind. -/
theorem trip_mid (v13 v30 v37 v46 v55 : BitVec 32) (k : Fin k0_t1_loop.trips) (hk : k.val < 66) (h0 : k.val % 16 ≠ 0) (h15 : k.val % 16 ≠ 15) (h1 : 1 ≤ k.val) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  have c3 := (cond3_iff k).2 hk
  have c4 := (cond4_iff k).2 hk
  have c5 := (not_congr (cond5_iff k)).2 h15
  have c6 := (not_congr (cond6_iff k)).2 h15
  have c9 := (not_congr (cond9_iff k)).2 h0
  have c10 := (not_congr (cond10_iff k)).2 h0
  have c7 := (cond7_iff k).2 trivial
  have c8 := (cond8_iff k).2 trivial
  have c17 := (cond17_iff k).2 trivial
  have c18 := (cond18_iff k).2 trivial
  have c23 := (cond23_iff k).2 h1
  have c24 := (cond24_iff k).2 h1
  have k1 := chk1_ok k
  have k2 := chk2_ok k
  have k3 := chk3_ok k
  have k4 := chk4_ok k
  have k5 := chk5_ok k
  have k6 := chk6_ok k
  have k7 := chk7_ok k
  unfold INV
  iintro ⟨HY, HH, HM, HN, HO, HU, ⟨%g1, HG, %eg1⟩, ⟨%g2, HG', %eg2⟩, ⟨%W, HW⟩⟩
  ihave HY' := (SR_open c cc0_scoped1 yB yM 65536 Y k.val hk) $$ HY
  icases HY' with ⟨Yb, Yr, ⟨%fy, Yf, %ey⟩, Yn, ⟨%fy', Ys⟩, Yc⟩
  ihave HH' := (SR_open c cc0_scoped3 hB hM 131072 H k.val hk) $$ HH
  icases HH' with ⟨Hb, Hr, ⟨%fh, Hf, %eh⟩, Hn, ⟨%fh', Hs⟩, Hc⟩
  ihave HM' := (SM_open_mid c cc0_scoped6 mB mM 4608 fullShare.left M k.val h0) $$ HM
  icases HM' with ⟨Mr, ⟨⟨%fm, Ms, %em⟩, Mc⟩, Mn⟩
  ihave HN' := (SM_open_mid c cc0_scoped9 mB' mM 4608 fullShare.right M k.val h0) $$ HN
  icases HN' with ⟨Nr, ⟨⟨%fn, Ns, %en⟩, Nc⟩, Nn⟩
  ihave HO' := (SO_open c cc0_scoped11 oB oM 131072 (hnOf c Y H G M) k.val h1 h8) $$ HO
  icases HO' with ⟨Od, ⟨%fo, Ob⟩, Or, ⟨%fo1, %go1, Of, %eo⟩, ⟨%go, Os⟩, Oc⟩
  ihave HU' := (SO_open c cc0_scoped13 uB uM 65536 (uOf c Y H G M) k.val h1 h8) $$ HU
  icases HU' with ⟨Ud, ⟨%fu, Ub⟩, Ur, ⟨%fu1, %gu1, Uf, %eu⟩, ⟨%gu, Us⟩, Uc⟩
  dsimp only [trip]
  sl_unfold [k0_t1_body]
  sl_exec
  sl_step
  have hw : ∀ k : Fin k0_t1_loop.trips, trip_mid.sl.v143_r0 k = wf (k.val + 1) ∧ trip_mid.sl.v368_r0 k = wr (k.val + 1) ∧ trip_mid.sl.v426_r0 k = wg (k.val + 1)
      ∧ trip_mid.sl.v199_r0 k = wmf (k.val + 1) ∧ trip_mid.sl.v430_r0 k = wmr (k.val + 1) ∧ trip_mid.sl.v407_r0 k = ww (k.val + 1) ∧ trip_mid.sl.v122_r0 k = wi (k.val + 1) := by
    decide +kernel
  obtain ⟨w1, w2, w3, w4, w5, w6, w7⟩ := hw k
  isplitl
  rotate_left
  · ipureintro; rw [w1, w2, w3, w4, w5, w6, w7]
  isplitl [Yf_src Yr Yc Yn Yf_dst Yf]
  · iapply (SR_close c cc0_scoped1 yB yM 65536 Y k.val hk)
    isplitl [Yf_src]; · iexact Yf_src
    isplitl [Yr]; · iexact Yr
    isplitl [Yc]
    · iexists ((slot3 yB (Ring.sl 3 (k.val + 2))).view.writes (Elt F) fy' [⟨Rect.whole S256x4096, ReadAs.same.apply ((rowB yM (Ring.bk 68 (k.val + 2))).view.read (Elt F) Y)⟩])
      isplitl [Yc]; · iexact Yc
      ipureintro; exact View.read_writes_whole _ _ _
    isplitl [Yn]; · iexact Yn
    isplitl [Yf_dst]; · iexists fy; iexact Yf_dst
    iexact Yf
  isplitl [Hf_src Hr Hc Hn Hf_dst Hf]
  · iapply (SR_close c cc0_scoped3 hB hM 131072 H k.val hk)
    isplitl [Hf_src]; · iexact Hf_src
    isplitl [Hr]; · iexact Hr
    isplitl [Hc]
    · iexists ((slot3 hB (Ring.sl 3 (k.val + 2))).view.writes (Elt F) fh' [⟨Rect.whole S256x4096, ReadAs.same.apply ((rowB hM (Ring.bk 68 (k.val + 2))).view.read (Elt F) H)⟩])
      isplitl [Hc]; · iexact Hc
      ipureintro; exact View.read_writes_whole _ _ _
    isplitl [Hn]; · iexact Hn
    isplitl [Hf_dst]; · iexists fh; iexact Hf_dst
    iexact Hf
  isplitl [Mr Ms Mc Mn]
  · iapply (SM_close_mid c cc0_scoped6 mB mM 4608 fullShare.left M k.val h0 h15)
    isplitl [Mr]; · iexact Mr
    isplitl [Ms Mc]
    · isplitl [Ms]
      · iexists fm
        isplitl [Ms]; · iexact Ms
        ipureintro; exact em
      iexact Mc
    iexact Mn
  isplitl [Nr Ns Nc Nn]
  · iapply (SM_close_mid c cc0_scoped9 mB' mM 4608 fullShare.right M k.val h0 h15)
    isplitl [Nr]; · iexact Nr
    isplitl [Ns Nc]
    · isplitl [Ns]
      · iexists fn
        isplitl [Ns]; · iexact Ns
        ipureintro; exact en
      iexact Nc
    iexact Nn
  isplitl [Od Of_dst Or Oc Of_src Of]
  · iapply (SO_close c cc0_scoped11 oB oM 131072 (hnOf c Y H G M) k.val h1 h8)
    isplitl [Od]; · iexact Od
    isplitl [Of_dst]
    · iexists fo1
      isplitl [Of_dst]; · iexact Of_dst
      ipureintro; exact eo
    isplitl [Or]; · iexact Or
    isplitl [Oc]
    · iexists _, _
      isplitl [Oc]; · iexact Oc
      ipureintro; exact (View.read_writes_whole _ _ _).trans (hn_eq c Y H G M k ey eh em eg1 k3 k4 k5 go)
    isplitl [Of_src]; · iexists go1; iexact Of_src
    iexact Of
  isplitl [Ud Uf_dst Ur Uc Uf_src Uf]
  · iapply (SO_close c cc0_scoped13 uB uM 65536 (uOf c Y H G M) k.val h1 h8)
    isplitl [Ud]; · iexact Ud
    isplitl [Uf_dst]
    · iexists fu1
      isplitl [Uf_dst]; · iexact Uf_dst
      ipureintro; exact eu
    isplitl [Ur]; · iexact Ur
    isplitl [Uc]
    · iexists _, _
      isplitl [Uc]; · iexact Uc
      ipureintro; exact (View.read_writes_whole _ _ _).trans (u_eq c Y H G M k ey eh em en eg1 eg2 k3 k4 k7 gu)
    isplitl [Uf_src]; · iexists gu1; iexact Uf_src
    iexact Uf
  isplitl [HG]
  · iexists g1
    isplitl [HG]; · iexact HG
    ipureintro; exact eg1
  isplitl [HG']
  · iexists g2
    isplitl [HG']; · iexact HG'
    ipureintro; exact eg2
  iexists _; iexact HW

set_option maxHeartbeats 4000000 in
/-- A step: it requests no row block, keeps its modulation block, and waits for the results one behind. -/
theorem trip_tail (v13 v30 v37 v46 v55 : BitVec 32) (k : Fin k0_t1_loop.trips) (hk : 66 ≤ k.val) (h0 : k.val % 16 ≠ 0) (h15 : k.val % 16 ≠ 15) (h1 : 1 ≤ k.val) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  have c3 := (not_congr (cond3_iff k)).2 (Nat.not_lt.2 hk)
  have c4 := (not_congr (cond4_iff k)).2 (Nat.not_lt.2 hk)
  have c5 := (not_congr (cond5_iff k)).2 h15
  have c6 := (not_congr (cond6_iff k)).2 h15
  have c9 := (not_congr (cond9_iff k)).2 h0
  have c10 := (not_congr (cond10_iff k)).2 h0
  have c7 := (cond7_iff k).2 trivial
  have c8 := (cond8_iff k).2 trivial
  have c17 := (cond17_iff k).2 trivial
  have c18 := (cond18_iff k).2 trivial
  have c23 := (cond23_iff k).2 h1
  have c24 := (cond24_iff k).2 h1
  have k1 := chk1_ok k
  have k2 := chk2_ok k
  have k3 := chk3_ok k
  have k4 := chk4_ok k
  have k5 := chk5_ok k
  have k6 := chk6_ok k
  have k7 := chk7_ok k
  unfold INV
  iintro ⟨HY, HH, HM, HN, HO, HU, ⟨%g1, HG, %eg1⟩, ⟨%g2, HG', %eg2⟩, ⟨%W, HW⟩⟩
  ihave HY' := (SR_open_tail c cc0_scoped1 yB yM 65536 Y k.val hk h8) $$ HY
  icases HY' with ⟨Yr, ⟨%fy, Yf, %ey⟩, Yn, Ye⟩
  ihave HH' := (SR_open_tail c cc0_scoped3 hB hM 131072 H k.val hk h8) $$ HH
  icases HH' with ⟨Hr, ⟨%fh, Hf, %eh⟩, Hn, He⟩
  ihave HM' := (SM_open_mid c cc0_scoped6 mB mM 4608 fullShare.left M k.val h0) $$ HM
  icases HM' with ⟨Mr, ⟨⟨%fm, Ms, %em⟩, Mc⟩, Mn⟩
  ihave HN' := (SM_open_mid c cc0_scoped9 mB' mM 4608 fullShare.right M k.val h0) $$ HN
  icases HN' with ⟨Nr, ⟨⟨%fn, Ns, %en⟩, Nc⟩, Nn⟩
  ihave HO' := (SO_open c cc0_scoped11 oB oM 131072 (hnOf c Y H G M) k.val h1 h8) $$ HO
  icases HO' with ⟨Od, ⟨%fo, Ob⟩, Or, ⟨%fo1, %go1, Of, %eo⟩, ⟨%go, Os⟩, Oc⟩
  ihave HU' := (SO_open c cc0_scoped13 uB uM 65536 (uOf c Y H G M) k.val h1 h8) $$ HU
  icases HU' with ⟨Ud, ⟨%fu, Ub⟩, Ur, ⟨%fu1, %gu1, Uf, %eu⟩, ⟨%gu, Us⟩, Uc⟩
  dsimp only [trip]
  sl_unfold [k0_t1_body]
  sl_exec
  sl_step
  have hw : ∀ k : Fin k0_t1_loop.trips, trip_tail.sl.v143_r0 k = wf (k.val + 1) ∧ trip_tail.sl.v368_r0 k = wr (k.val + 1) ∧ trip_tail.sl.v426_r0 k = wg (k.val + 1)
      ∧ trip_tail.sl.v199_r0 k = wmf (k.val + 1) ∧ trip_tail.sl.v430_r0 k = wmr (k.val + 1) ∧ trip_tail.sl.v407_r0 k = ww (k.val + 1) ∧ trip_tail.sl.v122_r0 k = wi (k.val + 1) := by
    decide +kernel
  obtain ⟨w1, w2, w3, w4, w5, w6, w7⟩ := hw k
  isplitl
  rotate_left
  · ipureintro; rw [w1, w2, w3, w4, w5, w6, w7]
  isplitl [Yf_src Yr Yn Ye Yf_dst Yf]
  · iapply (SR_close_tail c cc0_scoped1 yB yM 65536 Y k.val hk h8)
    isplitl [Yf_src]; · iexact Yf_src
    isplitl [Yr]; · iexact Yr
    isplitl [Yn]; · iexact Yn
    isplitl [Ye]; · iexact Ye
    isplitl [Yf_dst]; · iexists fy; iexact Yf_dst
    iexact Yf
  isplitl [Hf_src Hr Hn He Hf_dst Hf]
  · iapply (SR_close_tail c cc0_scoped3 hB hM 131072 H k.val hk h8)
    isplitl [Hf_src]; · iexact Hf_src
    isplitl [Hr]; · iexact Hr
    isplitl [Hn]; · iexact Hn
    isplitl [He]; · iexact He
    isplitl [Hf_dst]; · iexists fh; iexact Hf_dst
    iexact Hf
  isplitl [Mr Ms Mc Mn]
  · iapply (SM_close_mid c cc0_scoped6 mB mM 4608 fullShare.left M k.val h0 h15)
    isplitl [Mr]; · iexact Mr
    isplitl [Ms Mc]
    · isplitl [Ms]
      · iexists fm
        isplitl [Ms]; · iexact Ms
        ipureintro; exact em
      iexact Mc
    iexact Mn
  isplitl [Nr Ns Nc Nn]
  · iapply (SM_close_mid c cc0_scoped9 mB' mM 4608 fullShare.right M k.val h0 h15)
    isplitl [Nr]; · iexact Nr
    isplitl [Ns Nc]
    · isplitl [Ns]
      · iexists fn
        isplitl [Ns]; · iexact Ns
        ipureintro; exact en
      iexact Nc
    iexact Nn
  isplitl [Od Of_dst Or Oc Of_src Of]
  · iapply (SO_close c cc0_scoped11 oB oM 131072 (hnOf c Y H G M) k.val h1 h8)
    isplitl [Od]; · iexact Od
    isplitl [Of_dst]
    · iexists fo1
      isplitl [Of_dst]; · iexact Of_dst
      ipureintro; exact eo
    isplitl [Or]; · iexact Or
    isplitl [Oc]
    · iexists _, _
      isplitl [Oc]; · iexact Oc
      ipureintro; exact (View.read_writes_whole _ _ _).trans (hn_eq c Y H G M k ey eh em eg1 k3 k4 k5 go)
    isplitl [Of_src]; · iexists go1; iexact Of_src
    iexact Of
  isplitl [Ud Uf_dst Ur Uc Uf_src Uf]
  · iapply (SO_close c cc0_scoped13 uB uM 65536 (uOf c Y H G M) k.val h1 h8)
    isplitl [Ud]; · iexact Ud
    isplitl [Uf_dst]
    · iexists fu1
      isplitl [Uf_dst]; · iexact Uf_dst
      ipureintro; exact eu
    isplitl [Ur]; · iexact Ur
    isplitl [Uc]
    · iexists _, _
      isplitl [Uc]; · iexact Uc
      ipureintro; exact (View.read_writes_whole _ _ _).trans (u_eq c Y H G M k ey eh em en eg1 eg2 k3 k4 k7 gu)
    isplitl [Uf_src]; · iexists gu1; iexact Uf_src
    iexact Uf
  isplitl [HG]
  · iexists g1
    isplitl [HG]; · iexact HG
    ipureintro; exact eg1
  isplitl [HG']
  · iexists g2
    isplitl [HG']; · iexact HG'
    ipureintro; exact eg2
  iexists _; iexact HW

/-- Every step. -/
theorem trip_run (v13 v30 v37 v46 v55 : BitVec 32) (k : Fin k0_t1_loop.trips) :
    INV c Y H G M k.val ⊢ wp frame (wpE (defs₀ (F := F)) 𝒱₀ (c : Thread nD τ) none) Set.univ (trip v13 v30 v37 v46 v55 k)
      (fun acc => iprop(INV c Y H G M (k.val + 1) ∗ ⌜acc = accAt (k.val + 1)⌝)) := by
  have h8 : k.val < 68 := Nat.lt_of_lt_of_eq k.isLt trips_eq
  rcases Nat.eq_zero_or_pos k.val with hz | h1
  · exact trip_first c Y H G M v13 v30 v37 v46 v55 k (by omega) (by omega) hz
  by_cases hk : k.val < 66
  · by_cases h0 : k.val % 16 = 0
    · exact trip_wait c Y H G M v13 v30 v37 v46 v55 k hk h0 h1
    by_cases h15 : k.val % 16 = 15
    · exact trip_ask c Y H G M v13 v30 v37 v46 v55 k hk h15 h1
    · exact trip_mid c Y H G M v13 v30 v37 v46 v55 k hk h0 h15 h1
  · exact trip_tail c Y H G M v13 v30 v37 v46 v55 k (by omega) (by omega) (by omega) h1

end Trip

end Cert.Proof.PostPre

end
-- ==== Proof.PostPre.Body.lean ====
/-
  The whole pipeline: the first requests, the steps, the last waits.
-/
module

public import proofs.«01_k».proof.Proof.PostPre.Trip

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (Y : Buf (Elt F) (yM.view.loc (c : Thread nD τ))) (H : Buf (Elt F) (hM.view.loc (c : Thread nD τ)))
  (G : Buf (Elt F) (gM.view.loc (c : Thread nD τ))) (M : Buf (Elt F) (mM.view.loc (c : Thread nD τ)))

abbrev rowsIn {e : EltTy} (A : DmaSems sig S3) (B : Memref sig .tc .vmem S3x256x4096 e) (Mx : Memref sig .tc .hbm S17408x4096 e) (X : Buf (Elt F) (Mx.view.loc (c : Thread nD τ))) : sProp 𝕄 :=
  iprop((rowP c Mx X 0 ∗ rowP c Mx X 1 ∗ bigSep (Ring.homeSet 2 0) (rowP c Mx X))
    ∗ ((∃ f, slot3P c B 0 f) ∗ (∃ f, slot3P c B 1 f) ∗ (∃ f, slot3P c B 2 f)) ∗ cell3P c A 0 ∗ cell3P c A 1 ∗ cell3P c A 2)
abbrev rowsOut {e : EltTy} (A : DmaSems sig S3) (B : Memref sig .tc .vmem S3x256x4096 e) (Mx : Memref sig .tc .hbm S17408x4096 e) (X : Buf (Elt F) (Mx.view.loc (c : Thread nD τ))) : sProp 𝕄 :=
  iprop(bigSep Finset.univ (rowP c Mx X)
    ∗ ((∃ f, slot3P c B 0 f) ∗ (∃ f, slot3P c B 1 f) ∗ (∃ f, slot3P c B 2 f)) ∗ cell3P c A 0 ∗ cell3P c A 1 ∗ cell3P c A 2)
abbrev modsIn (A : DmaSems sig S2) (B : Memref sig .tc .vmem S2x1x9x4096 .f32) (q : PosShare TreeShare) : sProp 𝕄 :=
  iprop((mrowP c mM q M 0 ∗ restm c mM q M 0) ∗ ((∃ f, mslotP c B 0 f) ∗ ∃ f, mslotP c B 1 f) ∗ cell2P c A 0 ∗ cell2P c A 1)
abbrev modsOut (A : DmaSems sig S2) (B : Memref sig .tc .vmem S2x1x9x4096 .f32) (q : PosShare TreeShare) : sProp 𝕄 :=
  iprop(bigSep Finset.univ (mrowP c mM q M) ∗ ((∃ f, mslotP c B 0 f) ∗ ∃ f, mslotP c B 1 f) ∗ cell2P c A 0 ∗ cell2P c A 1)
abbrev outsIn {e : EltTy} (A : DmaSems sig S2) (B : Memref sig .tc .vmem S2x256x4096 e) (O : Memref sig .tc .hbm S17408x4096 e) : sProp 𝕄 :=
  iprop(bigSep Finset.univ (todoO (F := F) c O) ∗ ((∃ f, slot2P c B 0 f) ∗ ∃ f, slot2P c B 1 f) ∗ cell2P c A 0 ∗ cell2P c A 1)
abbrev outsOut {e : EltTy} (A : DmaSems sig S2) (B : Memref sig .tc .vmem S2x256x4096 e) (O : Memref sig .tc .hbm S17408x4096 e) (V : Fin 68 → S256x4096.Idx → Elt F e) : sProp 𝕄 :=
  iprop(bigSep Finset.univ (doneO c O V) ∗ ((∃ f, slot2P c B 0 f) ∗ ∃ f, slot2P c B 1 f) ∗ cell2P c A 0 ∗ cell2P c A 1)
abbrev cell1P (A : DmaSems sig S_) : sProp 𝕄 := semVal ((c : Thread nD τ), SemLoc.dma A.sem) 0
abbrev gainsP : sProp 𝕄 := gM.view.loc (c : Thread nD τ) ↦[gM.view.set]{fullShare} G
abbrev gainsAt (A A' : DmaSems sig S_) : sProp 𝕄 := iprop(gainsP c G ∗ (∃ f, gbufP c gB f) ∗ (∃ f, gbufP c gB' f) ∗ cell1P c A ∗ cell1P c A')

/-- What the pipeline is handed. -/
abbrev PRE (W : Waits sig Unit) : sProp 𝕄 :=
  iprop(rowsIn c cc0_scoped1 yB yM Y ∗ rowsIn c cc0_scoped3 hB hM H ∗ modsIn c M cc0_scoped6 mB fullShare.left ∗ modsIn c M cc0_scoped9 mB' fullShare.right
    ∗ outsIn c cc0_scoped11 oB oM ∗ outsIn c cc0_scoped13 uB uM ∗ gainsAt c G cc0_scoped14 cc0_scoped15 ∗ owes (c : Thread nD τ) 0 W)
/-- What it hands back. -/
abbrev POST : sProp 𝕄 :=
  iprop(rowsOut c cc0_scoped1 yB yM Y ∗ rowsOut c cc0_scoped3 hB hM H ∗ modsOut c M cc0_scoped6 mB fullShare.left ∗ modsOut c M cc0_scoped9 mB' fullShare.right
    ∗ outsOut c cc0_scoped11 oB oM (hnOf c Y H G M) ∗ outsOut c cc0_scoped13 uB uM (uOf c Y H G M) ∗ gainsAt c G cc0_scoped14 cc0_scoped15 ∗ ∃ W, owes (c : Thread nD τ) 0 W)

abbrev acc0 : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (2#32, 0#32, 2#32, 0#32, 0#32, 1#32, 0#32, 0#32, 1#32, 0#32, 0#32, 0#32, 0#32, 0#32, 0#32)

/-- The words the loop begins with are those before step 0. -/
theorem acc0_eq : acc0 = accAt 0 := by
  have hw : wf 0 = 2#32 ∧ wr 0 = 0#32 ∧ wg 0 = 0#32 ∧ wmf 0 = 1#32 ∧ wmr 0 = 0#32 ∧ ww 0 = 0#32 ∧ wi 0 = 0#32 := by decide +kernel
  obtain ⟨h1, h2, h3, h4, h5, h6, h7⟩ := hw
  unfold acc0 accAt
  rw [h1, h2, h3, h4, h5, h6, h7]

set_option warn.classDefReducibility false in
/-- The loop's invariant. -/
def loopInv (v13 v30 v37 v46 v55 : BitVec 32) :
    LoopInvTy_k0_t1 (F := F) Unit ℕ (UU nD τ) ℕ 𝒱₀ c none Set.univ (Memref.whole main_arg0) (Memref.isWhole_whole _) (Memref.whole main_arg1) (Memref.isWhole_whole _) (Memref.whole main_arg2) (Memref.isWhole_whole _) (Memref.whole main_arg3) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) (Memref.whole cc0_scoped5) (Memref.isWhole_whole _) cc0_scoped6 (Memref.whole cc0_scoped7) (Memref.isWhole_whole _) (Memref.whole cc0_scoped8) (Memref.isWhole_whole _) cc0_scoped9 (Memref.whole cc0_scoped10) (Memref.isWhole_whole _) cc0_scoped11 (Memref.whole cc0_scoped12) (Memref.isWhole_whole _) cc0_scoped13 cc0_scoped14 cc0_scoped15 v13 v30 v37 v46 v55 acc0 where
  inv k acc := iprop(INV c Y H G M k ∗ ⌜acc = accAt k⌝)
  step k acc := by
    iintro ⟨HI, %e⟩
    subst e
    iapply (trip_run c Y H G M v13 v30 v37 v46 v55 k)
    iexact HI

/-- The loop runs from the invariant before the first step to the invariant after the last. -/
theorem loop_run (v13 v30 v37 v46 v55 : BitVec 32) {β : Type}
    {kk : BitVec 32 × BitVec 32 × BitVec 32 × BitVec 32 × BitVec 32 × BitVec 32 × BitVec 32 × BitVec 32 × BitVec 32 × BitVec 32 × BitVec 32 × BitVec 32 × BitVec 32 × BitVec 32 × BitVec 32 → Prog (TpuEff nD τ sig (Elt F) Λ₀ .tc) β} {Q : β → sProp 𝕄} :
    INV c Y H G M 0 ⊢ iprop((INV c Y H G M 68 -∗ wp frame (wpE (defs₀ (F := F)) 𝒱₀ (c : Thread nD τ) none) Set.univ (kk (accAt 68)) Q)
      -∗ wp frame (wpE (defs₀ (F := F)) 𝒱₀ (c : Thread nD τ) none) Set.univ
        (Scf.Loop.for k0_t1_loop k0_t1_ok acc0 (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) (Memref.whole cc0_scoped5) (Memref.isWhole_whole _) cc0_scoped6 (Memref.whole cc0_scoped7) (Memref.isWhole_whole _) (Memref.whole cc0_scoped8) (Memref.isWhole_whole _) cc0_scoped9 (Memref.whole cc0_scoped10) (Memref.isWhole_whole _) cc0_scoped11 (Memref.whole cc0_scoped12) (Memref.isWhole_whole _) cc0_scoped13 cc0_scoped14 cc0_scoped15 v13 v30 v37 v46 v55) >>= kk) Q) := by
  have h := exec_loop Idealize.ShloMosaic.frame (wpE (defs₀ (F := F)) 𝒱₀ (c : Thread nD τ) none) Set.univ k0_t1_loop.lb k0_t1_loop.ub k0_t1_loop.st k0_t1_ok acc0 _ (loopInv c Y H G M v13 v30 v37 v46 v55) (kk := kk) (Q := Q)
  have e0 : iprop(INV c Y H G M 0 ∗ ⌜acc0 = accAt 0⌝) ⊢ (loopInv c Y H G M v13 v30 v37 v46 v55).inv 0 acc0 := .rfl
  have e1 : ∀ acc, (loopInv c Y H G M v13 v30 v37 v46 v55).inv (Scf.trips k0_t1_loop.lb k0_t1_loop.ub k0_t1_loop.st) acc
      ⊢ iprop(INV c Y H G M (Scf.trips k0_t1_loop.lb k0_t1_loop.ub k0_t1_loop.st) ∗ ⌜acc = accAt (Scf.trips k0_t1_loop.lb k0_t1_loop.ub k0_t1_loop.st)⌝) := fun _ => .rfl
  iintro HI HK
  iapply h $$ [HI]
  · iapply e0
    isplitl [HI]; · iexact HI
    ipureintro; exact acc0_eq
  · iintro %acc HI
    ihave HI' := (e1 acc) $$ HI
    icases HI' with ⟨HI, %e⟩
    subst e
    rw [show Scf.trips k0_t1_loop.lb k0_t1_loop.ub k0_t1_loop.st = 68 from trips_eq]
    iapply HK
    iexact HI

set_option maxHeartbeats 4000000 in
/-- The whole pipeline. -/
theorem bodyRun (t : Fin cfg0.N) (W) (Q : PUnit → sProp 𝕄) :
    iprop(PRE c Y H G M W ∗ (POST c Y H G M -∗ Q ⟨⟩))
      ⊢ wp frame (wpE (defs₀ (F := F)) 𝒱₀ (c : Thread nD τ) none) Set.univ (bodyAt0 (F := F) t) Q := by
  have c1 := cond1_eq
  have c2 := cond2_eq
  iintro ⟨⟨⟨⟨Y0, Y1, Yr⟩, ⟨⟨%fy0, Ys0⟩, ⟨%fy1, Ys1⟩, Ys2⟩, Yc0, Yc1, Yc2⟩, ⟨⟨H0, H1, Hr⟩, ⟨⟨%fh0, Hs0⟩, ⟨%fh1, Hs1⟩, Hs2⟩, Hc0, Hc1, Hc2⟩,
    ⟨⟨M0, Mr⟩, ⟨⟨%fm0, Ms0⟩, Ms1⟩, Mc0, Mc1⟩, ⟨⟨N0, Nr⟩, ⟨⟨%fn0, Ns0⟩, Ns1⟩, Nc0, Nc1⟩, HO, HU, ⟨HG, ⟨%g1, Hg1⟩, ⟨%g2, Hg2⟩, Hx, Hx'⟩, HW⟩, Hk⟩
  sl_exec
  ihave HRY := (SR_zero c cc0_scoped1 yB yM 65536 Y) $$ [Yr Yc0 Yc1 Ys2 Yc2]
  · isplitl [Yr]; · iexact Yr
    isplitl [Yc0]
    · iexists ((slot3 yB 0).view.writes (Elt F) fy0 [⟨Rect.whole S256x4096, ReadAs.same.apply ((rowB yM 0).view.read (Elt F) Y)⟩])
      isplitl [Yc0]; · iexact Yc0
      ipureintro; exact View.read_writes_whole _ _ _
    isplitl [Yc1]
    · iexists ((slot3 yB 1).view.writes (Elt F) fy1 [⟨Rect.whole S256x4096, ReadAs.same.apply ((rowB yM 1).view.read (Elt F) Y)⟩])
      isplitl [Yc1]; · iexact Yc1
      ipureintro; exact View.read_writes_whole _ _ _
    isplitl [Ys2]; · iexact Ys2
    iexact Yc2
  ihave HRH := (SR_zero c cc0_scoped3 hB hM 131072 H) $$ [Hr Hc0 Hc1 Hs2 Hc2]
  · isplitl [Hr]; · iexact Hr
    isplitl [Hc0]
    · iexists ((slot3 hB 0).view.writes (Elt F) fh0 [⟨Rect.whole S256x4096, ReadAs.same.apply ((rowB hM 0).view.read (Elt F) H)⟩])
      isplitl [Hc0]; · iexact Hc0
      ipureintro; exact View.read_writes_whole _ _ _
    isplitl [Hc1]
    · iexists ((slot3 hB 1).view.writes (Elt F) fh1 [⟨Rect.whole S256x4096, ReadAs.same.apply ((rowB hM 1).view.read (Elt F) H)⟩])
      isplitl [Hc1]; · iexact Hc1
      ipureintro; exact View.read_writes_whole _ _ _
    isplitl [Hs2]; · iexact Hs2
    iexact Hc2
  ihave HRM := (SM_zero c cc0_scoped6 mB mM 4608 fullShare.left M) $$ [Mr Mc0 Ms1 Mc1]
  · isplitl [Mr]; · iexact Mr
    isplitl [Mc0]
    · iexists ((mslot mB 0).view.writes (Elt F) fm0 [⟨Rect.whole S1x9x4096, ReadAs.same.apply ((mrow mM 0).view.read (Elt F) M)⟩])
      isplitl [Mc0]; · iexact Mc0
      ipureintro; exact View.read_writes_whole _ _ _
    isplitl [Ms1]; · iexact Ms1
    iexact Mc1
  ihave HRN := (SM_zero c cc0_scoped9 mB' mM 4608 fullShare.right M) $$ [Nr Nc0 Ns1 Nc1]
  · isplitl [Nr]; · iexact Nr
    isplitl [Nc0]
    · iexists ((mslot mB' 0).view.writes (Elt F) fn0 [⟨Rect.whole S1x9x4096, ReadAs.same.apply ((mrow mM 0).view.read (Elt F) M)⟩])
      isplitl [Nc0]; · iexact Nc0
      ipureintro; exact View.read_writes_whole _ _ _
    isplitl [Ns1]; · iexact Ns1
    iexact Nc1
  ihave HRO := (SO_zero c cc0_scoped11 oB oM 131072 (hnOf c Y H G M)) $$ HO
  ihave HRU := (SO_zero c cc0_scoped13 uB uM 65536 (uOf c Y H G M)) $$ HU
  iapply (loop_run c Y H G M _ _ _ _ _) $$ [HRY HRH HRM HRN HRO HRU Hg1 Hg2 HW]
  · unfold INV
    isplitl [HRY]; · iexact HRY
    isplitl [HRH]; · iexact HRH
    isplitl [HRM]; · iexact HRM
    isplitl [HRN]; · iexact HRN
    isplitl [HRO]; · iexact HRO
    isplitl [HRU]; · iexact HRU
    isplitl [Hg1]
    · iexists _
      isplitl [Hg1]; · iexact Hg1
      ipureintro; exact View.read_writes_whole _ _ _
    isplitl [Hg2]
    · iexists _
      isplitl [Hg2]; · iexact Hg2
      ipureintro; exact View.read_writes_whole _ _ _
    iexists _; iexact HW
  have d10 := chk10_ok
  have d9 := chk9_ok
  have d8 := chk8_ok
  unfold INV
  iintro ⟨HY, HH, HM, HN, HO, HU, ⟨%ga, Hga, -⟩, ⟨%gb, Hgb, -⟩, ⟨%W', HW⟩⟩
  ihave HO' := (SO_last c cc0_scoped11 oB oM 131072 (hnOf c Y H G M)) $$ HO
  icases HO' with ⟨Od, ⟨%fo, %go, Of, %eo⟩, Os, Oc⟩
  ihave HU' := (SO_last c cc0_scoped13 uB uM 65536 (uOf c Y H G M)) $$ HU
  icases HU' with ⟨Ud, ⟨%fu, %gu, Uf, %eu⟩, Us, Uc⟩
  dsimp only [accAt]
  sl_exec
  sl_step
  iapply Hk
  isplitl [HY]; · iapply (SR_last c cc0_scoped1 yB yM 65536 Y); iexact HY
  isplitl [HH]; · iapply (SR_last c cc0_scoped3 hB hM 131072 H); iexact HH
  isplitl [HM]; · iapply (SM_last c cc0_scoped6 mB mM 4608 fullShare.left M); iexact HM
  isplitl [HN]; · iapply (SM_last c cc0_scoped9 mB' mM 4608 fullShare.right M); iexact HN
  isplitl [Od Of_dst Of_src Os Of Oc]
  · isplitl [Od Of_dst]
    · iapply (done_all c oM (hnOf c Y H G M))
      isplitl [Of_dst]
      · iexists fo
        isplitl [Of_dst]; · iexact Of_dst
        ipureintro; exact eo
      iexact Od
    isplitl [Os Of_src]
    · isplitl [Os]; · iexact Os
      iexists go; iexact Of_src
    isplitl [Oc]; · iexact Oc
    iexact Of
  isplitl [Ud Uf_dst Uf_src Us Uf Uc]
  · isplitl [Ud Uf_dst]
    · iapply (done_all c uM (uOf c Y H G M))
      isplitl [Uf_dst]
      · iexists fu
        isplitl [Uf_dst]; · iexact Uf_dst
        ipureintro; exact eu
      iexact Ud
    isplitl [Us Uf_src]
    · isplitl [Us]; · iexact Us
      iexists gu; iexact Uf_src
    isplitl [Uc]; · iexact Uc
    iexact Uf
  isplitl [HG Hga Hgb Hx Hx']
  · isplitl [HG]; · iexact HG
    isplitl [Hga]; · iexists ga; iexact Hga
    isplitl [Hgb]; · iexists gb; iexact Hgb
    isplitl [Hx]; · iexact Hx
    iexact Hx'
  iexists _; iexact HW

end Body

end Cert.Proof.PostPre

end
-- ==== Proof.PostPre.Pieces.lean ====
/-
  Arrays whole and in blocks, buffers whole and in slots.
-/
module

public import proofs.«01_k».proof.Proof.PostPre.Body
public import proofs.«01_k».proof.Proof.Gen.KernelIdeal.Launch
public import proofs.«01_k».proof.Proof.Gen.KernelIdeal.Points
public import Idealize.ShloMosaic.Lib.Pipeline.KitQuiescent

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## Sets of elements: row blocks, modulation blocks, slots -/

abbrev RB (b : Fin 68) : Finset S17408x4096.Idx := (Rect.unit (s := S17408x4096) (rowOff b) S256x4096.size (rowOff_inb b)).set
abbrev MB (b : Fin 8) : Finset S8x9x4096.Idx := (Rect.unit (s := S8x9x4096) (mrowOff b) S1x9x4096.size (mrowOff_inb b)).set
abbrev SB3 (s : Fin 3) : Finset S3x256x4096.Idx := (Rect.unit (s := S3x256x4096) (slotOff3 s) S1x256x4096.size (slotOff3_inb s)).set
abbrev SB2 (s : Fin 2) : Finset S2x256x4096.Idx := (Rect.unit (s := S2x256x4096) (slotOff2 s) S1x256x4096.size (slotOff2_inb s)).set
abbrev SBm (s : Fin 2) : Finset S2x1x9x4096.Idx := (Rect.unit (s := S2x1x9x4096) (mslotOff s) S1x1x9x4096.size (mslotOff_inb s)).set

/-- A row belongs to the block of its number. -/
theorem mem_RB (b : Fin 68) (y : S17408x4096.Idx) : y ∈ RB b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem mem_MB (b : Fin 8) (y : S8x9x4096.Idx) : y ∈ MB b ↔ (y 0).val = b.val := by
  rw [Rect.mem_set_unit]
  have h1 : (y 1).val < 9 := (y 1).isLt
  have h2 : (y 2).val < 4096 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 9; omega
    · show 0 ≤ (y 2).val ∧ (y 2).val < 0 + 4096; omega
theorem mem_SB3 (s : Fin 3) (y : S3x256x4096.Idx) : y ∈ SB3 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem mem_SB2 (s : Fin 2) (y : S2x256x4096.Idx) : y ∈ SB2 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem mem_SBm (s : Fin 2) (y : S2x1x9x4096.Idx) : y ∈ SBm s ↔ (y 0).val = s.val := by
  rw [Rect.mem_set_unit]
  have h1 : (y 1).val < 1 := (y 1).isLt
  have h2 : (y 2).val < 9 := (y 2).isLt
  have h3 : (y 3).val < 4096 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 9; omega
    · show 0 ≤ (y 3).val ∧ (y 3).val < 0 + 4096; omega
theorem RB_disjoint : ∀ b b' : Fin 68, b ≠ b' → Disjoint (RB b) (RB b') := by
  intro b b' hne; rw [Finset.disjoint_left]; intro y hy hy'; rw [mem_RB] at hy hy'; exact hne (Fin.ext (hy.symm.trans hy'))
theorem RB_cover : (Finset.univ : Finset (Fin 68)).biUnion RB = Finset.univ := by
  ext y; simp only [Finset.mem_biUnion, Finset.mem_univ, true_and, iff_true]; exact ⟨⟨(y 0).val / 256, by have h0 : (y 0).val < 17408 := (y 0).isLt; omega⟩, by rw [mem_RB]; try rfl⟩
theorem MB_disjoint : ∀ b b' : Fin 8, b ≠ b' → Disjoint (MB b) (MB b') := by
  intro b b' hne; rw [Finset.disjoint_left]; intro y hy hy'; rw [mem_MB] at hy hy'; exact hne (Fin.ext (hy.symm.trans hy'))
theorem MB_cover : (Finset.univ : Finset (Fin 8)).biUnion MB = Finset.univ := by
  ext y; simp only [Finset.mem_biUnion, Finset.mem_univ, true_and, iff_true]; exact ⟨(y 0).cast (by decide), by rw [mem_MB]; try rfl⟩
theorem SB3_disjoint : ∀ b b' : Fin 3, b ≠ b' → Disjoint (SB3 b) (SB3 b') := by
  intro b b' hne; rw [Finset.disjoint_left]; intro y hy hy'; rw [mem_SB3] at hy hy'; exact hne (Fin.ext (hy.symm.trans hy'))
theorem SB3_cover : (Finset.univ : Finset (Fin 3)).biUnion SB3 = Finset.univ := by
  ext y; simp only [Finset.mem_biUnion, Finset.mem_univ, true_and, iff_true]; exact ⟨(y 0).cast (by decide), by rw [mem_SB3]; try rfl⟩
theorem SB2_disjoint : ∀ b b' : Fin 2, b ≠ b' → Disjoint (SB2 b) (SB2 b') := by
  intro b b' hne; rw [Finset.disjoint_left]; intro y hy hy'; rw [mem_SB2] at hy hy'; exact hne (Fin.ext (hy.symm.trans hy'))
theorem SB2_cover : (Finset.univ : Finset (Fin 2)).biUnion SB2 = Finset.univ := by
  ext y; simp only [Finset.mem_biUnion, Finset.mem_univ, true_and, iff_true]; exact ⟨(y 0).cast (by decide), by rw [mem_SB2]; try rfl⟩
theorem SBm_disjoint : ∀ b b' : Fin 2, b ≠ b' → Disjoint (SBm b) (SBm b') := by
  intro b b' hne; rw [Finset.disjoint_left]; intro y hy hy'; rw [mem_SBm] at hy hy'; exact hne (Fin.ext (hy.symm.trans hy'))
theorem SBm_cover : (Finset.univ : Finset (Fin 2)).biUnion SBm = Finset.univ := by
  ext y; simp only [Finset.mem_biUnion, Finset.mem_univ, true_and, iff_true]; exact ⟨(y 0).cast (by decide), by rw [mem_SBm]; try rfl⟩

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
/-- All row blocks: the first two and the rest. -/
theorem bigSep_rows (Φ : Fin 68 → sProp 𝕄) : bigSep Finset.univ Φ = iprop(Φ 0 ∗ Φ 1 ∗ bigSep (Ring.homeSet 2 0) Φ) := by
  have e : (Finset.univ : Finset (Fin 68)) = insert 0 (insert 1 (Ring.homeSet (NB := 68) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-! ## Arrays and buffers whole, in their pieces -/

/-- Facts beside the pieces of a separating product come out of it. -/
theorem bigSep_pures {n : ℕ} (P : Fin n → sProp 𝕄) (p : Fin n → Prop) :
    bigSep Finset.univ (fun b => iprop(P b ∗ ⌜p b⌝)) ⊢ iprop(bigSep Finset.univ P ∗ ⌜∀ b, p b⌝) := by
  have h : ∀ S : Finset (Fin n), bigSep S (fun b => iprop(P b ∗ ⌜p b⌝)) ⊢ iprop(bigSep S P ∗ ⌜∀ b ∈ S, p b⌝) := by
    intro S
    induction S using Finset.induction_on with
    | empty =>
      iintro H
      isplitl [H]; · iexact H
      ipureintro; simp
    | insert a S ha ih =>
      rw [bigSep_insert ha, bigSep_insert ha]
      show iprop((P a ∗ ⌜p a⌝) ∗ bigSep S (fun b => iprop(P b ∗ ⌜p b⌝))) ⊢ iprop((P a ∗ bigSep S P) ∗ ⌜∀ b ∈ insert a S, p b⌝)
      iintro ⟨⟨Ha, %pa⟩, HS⟩
      ihave HS' := ih $$ HS
      icases HS' with ⟨HS, %pS⟩
      isplitl
      · isplitl [Ha]; · iexact Ha
        iexact HS
      ipureintro
      intro b hb
      rcases Finset.mem_insert.mp hb with rfl | hb
      · exact pa
      · exact pS b hb
  refine (h Finset.univ).trans ?_
  iintro ⟨H, %hp⟩
  isplitl [H]; · iexact H
  ipureintro; exact fun b => hp b (Finset.mem_univ b)

section Pieces
variable (c : Dev nD)
theorem y_eq (X : Buf (Elt F) ((c : Thread nD τ).loc main_arg0)) :
    (((c : Thread nD τ).loc main_arg0) ↦{fullShare} X : sProp 𝕄) = bigSep Finset.univ (rowP c yM X) := by
  rw [Ring.pointsTo_blocks (ℓ := (c : Thread nD τ).loc main_arg0) RB RB_disjoint RB_cover]
  exact bigSep_congr fun b _ => congrArg (fun S => (_ ↦[S]{fullShare} X : sProp 𝕄)) (View.set_slice_whole _ _).symm
theorem h_eq (X : Buf (Elt F) ((c : Thread nD τ).loc main_arg1)) :
    (((c : Thread nD τ).loc main_arg1) ↦{fullShare} X : sProp 𝕄) = bigSep Finset.univ (rowP c hM X) := by
  rw [Ring.pointsTo_blocks (ℓ := (c : Thread nD τ).loc main_arg1) RB RB_disjoint RB_cover]
  exact bigSep_congr fun b _ => congrArg (fun S => (_ ↦[S]{fullShare} X : sProp 𝕄)) (View.set_slice_whole _ _).symm
theorem m_eq (q : PosShare TreeShare) (X : Buf (Elt F) ((c : Thread nD τ).loc main_arg3)) :
    (((c : Thread nD τ).loc main_arg3) ↦{q} X : sProp 𝕄) = bigSep Finset.univ (mrowP c mM q X) := by
  rw [Ring.pointsTo_blocks (ℓ := (c : Thread nD τ).loc main_arg3) MB MB_disjoint MB_cover]
  exact bigSep_congr fun b _ => congrArg (fun S => (_ ↦[S]{q} X : sProp 𝕄)) (View.set_slice_whole _ _).symm
omit [FloatOps F] in
theorem oP_eq (b : Fin 68) (f : Buf (Elt F) ((c : Thread nD τ).loc main_v0_0)) :
    (((c : Thread nD τ).loc main_v0_0) ↦[RB b]{fullShare} f : sProp 𝕄) = outP c oM b f :=
  congrArg (fun S => (_ ↦[S]{fullShare} f : sProp 𝕄)) (View.set_slice_whole _ _).symm
/-- The whole result array is its blocks, each at anything. -/
theorem o_split (X : Buf (Elt F) ((c : Thread nD τ).loc main_v0_0)) :
    (((c : Thread nD τ).loc main_v0_0) ↦{fullShare} X : sProp 𝕄) ⊢ bigSep Finset.univ (todoO c oM) := by
  rw [Ring.pointsTo_blocks (ℓ := (c : Thread nD τ).loc main_v0_0) RB RB_disjoint RB_cover]
  have h : ∀ b, ((((c : Thread nD τ).loc main_v0_0) ↦[RB b]{fullShare} X : sProp 𝕄)) ⊢ todoO c oM b := fun b => by
    iintro H; iexists X; iapply (entails_of_eq (oP_eq c b X)); iexact H
  exact bigSep_mono fun b _ => h b
/-- Blocks written join to the array, which reads what was written on each. -/
theorem o_join (V : Fin 68 → S256x4096.Idx → Elt F _) (X : Buf (Elt F) ((c : Thread nD τ).loc main_v0_0)) :
    bigSep Finset.univ (doneO c oM V) ⊢ (iprop(∃ g : Buf (Elt F) ((c : Thread nD τ).loc main_v0_0), ⌜∀ b, (rowB oM b).view.read (Elt F) g = V b⌝ ∗ ((c : Thread nD τ).loc main_v0_0) ↦{fullShare} g) : sProp 𝕄) := by
  have : Nonempty (Buf (Elt F) ((c : Thread nD τ).loc main_v0_0)) := ⟨X⟩
  refine (BI.bigSep_exists_pi Finset.univ (fun b (f : Buf (Elt F) ((c : Thread nD τ).loc main_v0_0)) => iprop(outP c oM b f ∗ ⌜(rowB oM b).view.read (Elt F) f = V b⌝))).trans ?_
  iintro ⟨%fs, H⟩
  ihave H' := (bigSep_pures (F := F) (fun b => outP c oM b (fs b)) (fun b => (rowB oM b).view.read (Elt F) (fs b) = V b)) $$ H
  icases H' with ⟨H, %hv⟩
  have e : bigSep Finset.univ (fun b => outP c oM b (fs b)) = bigSep Finset.univ (fun b => (((c : Thread nD τ).loc main_v0_0) ↦[RB b]{fullShare} fs b : sProp 𝕄)) :=
    bigSep_congr fun b _ => (oP_eq c b (fs b)).symm
  ihave H2 := (entails_of_eq e) $$ H
  ihave H3 := (pointsTo_biUnion_join (ℓ := (c : Thread nD τ).loc main_v0_0) Finset.univ RB fs X (fun b _ b' _ h => RB_disjoint b b' h)) $$ H2
  icases H3 with ⟨%g, %hg, H3⟩
  iexists g
  isplitr
  · ipureintro
    intro b
    rw [← hv b]
    refine View.read_congr fun i hi => ?_
    exact hg b (Finset.mem_univ _) i ((congrArg (i ∈ ·) (View.set_slice_whole _ _)).mp hi)
  iapply (entails_of_eq (congrArg (fun S => (((c : Thread nD τ).loc main_v0_0) ↦[S]{fullShare} g : sProp 𝕄)) RB_cover))
  iexact H3
omit [FloatOps F] in
theorem uP_eq (b : Fin 68) (f : Buf (Elt F) ((c : Thread nD τ).loc main_v0_1)) :
    (((c : Thread nD τ).loc main_v0_1) ↦[RB b]{fullShare} f : sProp 𝕄) = outP c uM b f :=
  congrArg (fun S => (_ ↦[S]{fullShare} f : sProp 𝕄)) (View.set_slice_whole _ _).symm
/-- The whole result array is its blocks, each at anything. -/
theorem u_split (X : Buf (Elt F) ((c : Thread nD τ).loc main_v0_1)) :
    (((c : Thread nD τ).loc main_v0_1) ↦{fullShare} X : sProp 𝕄) ⊢ bigSep Finset.univ (todoO c uM) := by
  rw [Ring.pointsTo_blocks (ℓ := (c : Thread nD τ).loc main_v0_1) RB RB_disjoint RB_cover]
  have h : ∀ b, ((((c : Thread nD τ).loc main_v0_1) ↦[RB b]{fullShare} X : sProp 𝕄)) ⊢ todoO c uM b := fun b => by
    iintro H; iexists X; iapply (entails_of_eq (uP_eq c b X)); iexact H
  exact bigSep_mono fun b _ => h b
/-- Blocks written join to the array, which reads what was written on each. -/
theorem u_join (V : Fin 68 → S256x4096.Idx → Elt F _) (X : Buf (Elt F) ((c : Thread nD τ).loc main_v0_1)) :
    bigSep Finset.univ (doneO c uM V) ⊢ (iprop(∃ g : Buf (Elt F) ((c : Thread nD τ).loc main_v0_1), ⌜∀ b, (rowB uM b).view.read (Elt F) g = V b⌝ ∗ ((c : Thread nD τ).loc main_v0_1) ↦{fullShare} g) : sProp 𝕄) := by
  have : Nonempty (Buf (Elt F) ((c : Thread nD τ).loc main_v0_1)) := ⟨X⟩
  refine (BI.bigSep_exists_pi Finset.univ (fun b (f : Buf (Elt F) ((c : Thread nD τ).loc main_v0_1)) => iprop(outP c uM b f ∗ ⌜(rowB uM b).view.read (Elt F) f = V b⌝))).trans ?_
  iintro ⟨%fs, H⟩
  ihave H' := (bigSep_pures (F := F) (fun b => outP c uM b (fs b)) (fun b => (rowB uM b).view.read (Elt F) (fs b) = V b)) $$ H
  icases H' with ⟨H, %hv⟩
  have e : bigSep Finset.univ (fun b => outP c uM b (fs b)) = bigSep Finset.univ (fun b => (((c : Thread nD τ).loc main_v0_1) ↦[RB b]{fullShare} fs b : sProp 𝕄)) :=
    bigSep_congr fun b _ => (uP_eq c b (fs b)).symm
  ihave H2 := (entails_of_eq e) $$ H
  ihave H3 := (pointsTo_biUnion_join (ℓ := (c : Thread nD τ).loc main_v0_1) Finset.univ RB fs X (fun b _ b' _ h => RB_disjoint b b' h)) $$ H2
  icases H3 with ⟨%g, %hg, H3⟩
  iexists g
  isplitr
  · ipureintro
    intro b
    rw [← hv b]
    refine View.read_congr fun i hi => ?_
    exact hg b (Finset.mem_univ _) i ((congrArg (i ∈ ·) (View.set_slice_whole _ _)).mp hi)
  iapply (entails_of_eq (congrArg (fun S => (((c : Thread nD τ).loc main_v0_1) ↦[S]{fullShare} g : sProp 𝕄)) RB_cover))
  iexact H3
omit [FloatOps F] in
theorem yB_eq (s : Fin 3) (f : Buf (Elt F) ((c : Thread nD τ).loc cc0_scoped0)) : (((c : Thread nD τ).loc cc0_scoped0) ↦[SB3 s]{fullShare} f : sProp 𝕄) = slot3P c yB s f :=
  congrArg (fun S => (_ ↦[S]{fullShare} f : sProp 𝕄)) ((View.set_reshape _ _).trans (View.set_slice_whole _ _)).symm
/-- The buffer is its three slots, -/
theorem yB_split :
    iprop(∃ f : Buf (Elt F) ((c : Thread nD τ).loc cc0_scoped0), ((c : Thread nD τ).loc cc0_scoped0) ↦{fullShare} f)
      ⊢ (iprop((∃ f, slot3P c yB 0 f) ∗ (∃ f, slot3P c yB 1 f) ∗ ∃ f, slot3P c yB 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) SB3 SB3_disjoint SB3_cover f).trans (bigSep_three _))) $$ H
  icases H2 with ⟨H0, H1, H2⟩
  isplitl [H0]
  · iexists f; iapply (entails_of_eq (yB_eq c 0 f)); iexact H0
  isplitl [H1]
  · iexists f; iapply (entails_of_eq (yB_eq c 1 f)); iexact H1
  · iexists f; iapply (entails_of_eq (yB_eq c 2 f)); iexact H2
/-- and back. -/
theorem yB_join :
    iprop((∃ f, slot3P c yB 0 f) ∗ (∃ f, slot3P c yB 1 f) ∗ ∃ f, slot3P c yB 2 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) SB3 SB3_disjoint SB3_cover f0)
  irw [bigSep_three]
  isplitl [H0]
  · iexists f0; iapply (entails_of_eq (yB_eq c 0 f0).symm); iexact H0
  isplitl [H1]
  · iexists f1; iapply (entails_of_eq (yB_eq c 1 f1).symm); iexact H1
  · iexists f2; iapply (entails_of_eq (yB_eq c 2 f2).symm); iexact H2
omit [FloatOps F] in
theorem hB_eq (s : Fin 3) (f : Buf (Elt F) ((c : Thread nD τ).loc cc0_scoped2)) : (((c : Thread nD τ).loc cc0_scoped2) ↦[SB3 s]{fullShare} f : sProp 𝕄) = slot3P c hB s f :=
  congrArg (fun S => (_ ↦[S]{fullShare} f : sProp 𝕄)) ((View.set_reshape _ _).trans (View.set_slice_whole _ _)).symm
/-- The buffer is its three slots, -/
theorem hB_split :
    iprop(∃ f : Buf (Elt F) ((c : Thread nD τ).loc cc0_scoped2), ((c : Thread nD τ).loc cc0_scoped2) ↦{fullShare} f)
      ⊢ (iprop((∃ f, slot3P c hB 0 f) ∗ (∃ f, slot3P c hB 1 f) ∗ ∃ f, slot3P c hB 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) SB3 SB3_disjoint SB3_cover f).trans (bigSep_three _))) $$ H
  icases H2 with ⟨H0, H1, H2⟩
  isplitl [H0]
  · iexists f; iapply (entails_of_eq (hB_eq c 0 f)); iexact H0
  isplitl [H1]
  · iexists f; iapply (entails_of_eq (hB_eq c 1 f)); iexact H1
  · iexists f; iapply (entails_of_eq (hB_eq c 2 f)); iexact H2
/-- and back. -/
theorem hB_join :
    iprop((∃ f, slot3P c hB 0 f) ∗ (∃ f, slot3P c hB 1 f) ∗ ∃ f, slot3P c hB 2 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) SB3 SB3_disjoint SB3_cover f0)
  irw [bigSep_three]
  isplitl [H0]
  · iexists f0; iapply (entails_of_eq (hB_eq c 0 f0).symm); iexact H0
  isplitl [H1]
  · iexists f1; iapply (entails_of_eq (hB_eq c 1 f1).symm); iexact H1
  · iexists f2; iapply (entails_of_eq (hB_eq c 2 f2).symm); iexact H2
omit [FloatOps F] in
theorem oB_eq (s : Fin 2) (f : Buf (Elt F) ((c : Thread nD τ).loc cc0_scoped10)) : (((c : Thread nD τ).loc cc0_scoped10) ↦[SB2 s]{fullShare} f : sProp 𝕄) = slot2P c oB s f :=
  congrArg (fun S => (_ ↦[S]{fullShare} f : sProp 𝕄)) ((View.set_reshape _ _).trans (View.set_slice_whole _ _)).symm
/-- The buffer is its two slots, -/
theorem oB_split :
    iprop(∃ f : Buf (Elt F) ((c : Thread nD τ).loc cc0_scoped10), ((c : Thread nD τ).loc cc0_scoped10) ↦{fullShare} f)
      ⊢ (iprop((∃ f, slot2P c oB 0 f) ∗ ∃ f, slot2P c oB 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped10) SB2 SB2_disjoint SB2_cover f).trans (bigSep_two _))) $$ H
  icases H2 with ⟨H0, H1⟩
  isplitl [H0]
  · iexists f; iapply (entails_of_eq (oB_eq c 0 f)); iexact H0
  · iexists f; iapply (entails_of_eq (oB_eq c 1 f)); iexact H1
/-- and back. -/
theorem oB_join :
    iprop((∃ f, slot2P c oB 0 f) ∗ ∃ f, slot2P c oB 1 f)
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) SB2 SB2_disjoint SB2_cover f0)
  irw [bigSep_two]
  isplitl [H0]
  · iexists f0; iapply (entails_of_eq (oB_eq c 0 f0).symm); iexact H0
  · iexists f1; iapply (entails_of_eq (oB_eq c 1 f1).symm); iexact H1
omit [FloatOps F] in
theorem uB_eq (s : Fin 2) (f : Buf (Elt F) ((c : Thread nD τ).loc cc0_scoped12)) : (((c : Thread nD τ).loc cc0_scoped12) ↦[SB2 s]{fullShare} f : sProp 𝕄) = slot2P c uB s f :=
  congrArg (fun S => (_ ↦[S]{fullShare} f : sProp 𝕄)) ((View.set_reshape _ _).trans (View.set_slice_whole _ _)).symm
/-- The buffer is its two slots, -/
theorem uB_split :
    iprop(∃ f : Buf (Elt F) ((c : Thread nD τ).loc cc0_scoped12), ((c : Thread nD τ).loc cc0_scoped12) ↦{fullShare} f)
      ⊢ (iprop((∃ f, slot2P c uB 0 f) ∗ ∃ f, slot2P c uB 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped12) SB2 SB2_disjoint SB2_cover f).trans (bigSep_two _))) $$ H
  icases H2 with ⟨H0, H1⟩
  isplitl [H0]
  · iexists f; iapply (entails_of_eq (uB_eq c 0 f)); iexact H0
  · iexists f; iapply (entails_of_eq (uB_eq c 1 f)); iexact H1
/-- and back. -/
theorem uB_join :
    iprop((∃ f, slot2P c uB 0 f) ∗ ∃ f, slot2P c uB 1 f)
      ⊢ (iprop(∃ f : Buf (Elt F) ((c : Thread nD τ).loc cc0_scoped12), ((c : Thread nD τ).loc cc0_scoped12) ↦{fullShare} f) : sProp 𝕄) := by
  iintro ⟨⟨%f0, H0⟩, ⟨%f1, H1⟩⟩
  iapply (Ring.pointsTo_blocks_join_exists (ℓ := (c : Thread nD τ).loc cc0_scoped12) SB2 SB2_disjoint SB2_cover f0)
  irw [bigSep_two]
  isplitl [H0]
  · iexists f0; iapply (entails_of_eq (uB_eq c 0 f0).symm); iexact H0
  · iexists f1; iapply (entails_of_eq (uB_eq c 1 f1).symm); iexact H1
omit [FloatOps F] in
theorem mB_eq (s : Fin 2) (f : Buf (Elt F) ((c : Thread nD τ).loc cc0_scoped5)) : (((c : Thread nD τ).loc cc0_scoped5) ↦[SBm s]{fullShare} f : sProp 𝕄) = mslotP c mB s f :=
  congrArg (fun S => (_ ↦[S]{fullShare} f : sProp 𝕄)) ((View.set_reshape _ _).trans (View.set_slice_whole _ _)).symm
/-- The buffer is its two slots, -/
theorem mB_split :
    iprop(∃ f : Buf (Elt F) ((c : Thread nD τ).loc cc0_scoped5), ((c : Thread nD τ).loc cc0_scoped5) ↦{fullShare} f)
      ⊢ (iprop((∃ f, mslotP c mB 0 f) ∗ ∃ f, mslotP c mB 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped5) SBm SBm_disjoint SBm_cover f).trans (bigSep_two _))) $$ H
  icases H2 with ⟨H0, H1⟩
  isplitl [H0]
  · iexists f; iapply (entails_of_eq (mB_eq c 0 f)); iexact H0
  · iexists f; iapply (entails_of_eq (mB_eq c 1 f)); iexact H1
/-- and back. -/
theorem mB_join :
    iprop((∃ f, mslotP c mB 0 f) ∗ ∃ f, mslotP c mB 1 f)
      ⊢ (iprop(∃ f : Buf (Elt F) ((c : Thread nD τ).loc cc0_scoped5), ((c : Thread nD τ).loc cc0_scoped5) ↦{fullShare} f) : sProp 𝕄) := by
  iintro ⟨⟨%f0, H0⟩, ⟨%f1, H1⟩⟩
  iapply (Ring.pointsTo_blocks_join_exists (ℓ := (c : Thread nD τ).loc cc0_scoped5) SBm SBm_disjoint SBm_cover f0)
  irw [bigSep_two]
  isplitl [H0]
  · iexists f0; iapply (entails_of_eq (mB_eq c 0 f0).symm); iexact H0
  · iexists f1; iapply (entails_of_eq (mB_eq c 1 f1).symm); iexact H1
omit [FloatOps F] in
theorem nB_eq (s : Fin 2) (f : Buf (Elt F) ((c : Thread nD τ).loc cc0_scoped8)) : (((c : Thread nD τ).loc cc0_scoped8) ↦[SBm s]{fullShare} f : sProp 𝕄) = mslotP c mB' s f :=
  congrArg (fun S => (_ ↦[S]{fullShare} f : sProp 𝕄)) ((View.set_reshape _ _).trans (View.set_slice_whole _ _)).symm
/-- The buffer is its two slots, -/
theorem nB_split :
    iprop(∃ f : Buf (Elt F) ((c : Thread nD τ).loc cc0_scoped8), ((c : Thread nD τ).loc cc0_scoped8) ↦{fullShare} f)
      ⊢ (iprop((∃ f, mslotP c mB' 0 f) ∗ ∃ f, mslotP c mB' 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped8) SBm SBm_disjoint SBm_cover f).trans (bigSep_two _))) $$ H
  icases H2 with ⟨H0, H1⟩
  isplitl [H0]
  · iexists f; iapply (entails_of_eq (nB_eq c 0 f)); iexact H0
  · iexists f; iapply (entails_of_eq (nB_eq c 1 f)); iexact H1
/-- and back. -/
theorem nB_join :
    iprop((∃ f, mslotP c mB' 0 f) ∗ ∃ f, mslotP c mB' 1 f)
      ⊢ (iprop(∃ f : Buf (Elt F) ((c : Thread nD τ).loc cc0_scoped8), ((c : Thread nD τ).loc cc0_scoped8) ↦{fullShare} f) : sProp 𝕄) := by
  iintro ⟨⟨%f0, H0⟩, ⟨%f1, H1⟩⟩
  iapply (Ring.pointsTo_blocks_join_exists (ℓ := (c : Thread nD τ).loc cc0_scoped8) SBm SBm_disjoint SBm_cover f0)
  irw [bigSep_two]
  isplitl [H0]
  · iexists f0; iapply (entails_of_eq (nB_eq c 0 f0).symm); iexact H0
  · iexists f1; iapply (entails_of_eq (nB_eq c 1 f1).symm); iexact H1

end Pieces

end Cert.Proof.PostPre

end
-- ==== Proof.PostPre.Run.lean ====
/-
  The run of the whole program, over any float values: what it leaves in memory.
-/
module

public import proofs.«01_k».proof.Proof.PostPre.Pieces
public import proofs.«01_k».proof.Proof.Gen.KernelIdeal.Launch
public import proofs.«01_k».proof.Proof.Gen.KernelIdeal.Points
public import Idealize.ShloMosaic.Lib.Pipeline.KitQuiescent

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

section Launch

/-- The memory the program starts from. -/
abbrev s₀ : MemSt nD τ sig (Elt F) := ⟨m, fun _ => 0, ρ⟩
abbrev aY (c : Dev nD) : Buf (Elt F) (yM.view.loc (c : Thread nD τ)) := m ((c : Thread nD τ).loc main_arg0)
abbrev aH (c : Dev nD) : Buf (Elt F) (hM.view.loc (c : Thread nD τ)) := m ((c : Thread nD τ).loc main_arg1)
abbrev aG (c : Dev nD) : Buf (Elt F) (gM.view.loc (c : Thread nD τ)) := m ((c : Thread nD τ).loc main_arg2)
abbrev aM (c : Dev nD) : Buf (Elt F) (mM.view.loc (c : Thread nD τ)) := m ((c : Thread nD τ).loc main_arg3)

/-! ## The kernel's own cells -/

abbrev osem : Fin 16 → SemLoc sig := fun k => .dma (match k with
  | ⟨0, _⟩ => (cell3 cc0_scoped1 0).sem | ⟨1, _⟩ => (cell3 cc0_scoped1 1).sem | ⟨2, _⟩ => (cell3 cc0_scoped1 2).sem
  | ⟨3, _⟩ => (cell3 cc0_scoped3 0).sem | ⟨4, _⟩ => (cell3 cc0_scoped3 1).sem | ⟨5, _⟩ => (cell3 cc0_scoped3 2).sem
  | ⟨6, _⟩ => (cell2 cc0_scoped6 0).sem | ⟨7, _⟩ => (cell2 cc0_scoped6 1).sem
  | ⟨8, _⟩ => (cell2 cc0_scoped9 0).sem | ⟨9, _⟩ => (cell2 cc0_scoped9 1).sem
  | ⟨10, _⟩ => (cell2 cc0_scoped11 0).sem | ⟨11, _⟩ => (cell2 cc0_scoped11 1).sem
  | ⟨12, _⟩ => (cell2 cc0_scoped13 0).sem | ⟨13, _⟩ => (cell2 cc0_scoped13 1).sem
  | ⟨14, _⟩ => cc0_scoped14.sem | ⟨_ + 15, _⟩ => cc0_scoped15.sem)
theorem ownSemFacts : Pipeline.OwnSemFacts cfg0.spec osem := by decide +kernel

/-- The cells at zero, one by one. -/
abbrev cellsP (c : Dev nD) : sProp 𝕄 :=
  iprop(cell3P c cc0_scoped1 0 ∗ cell3P c cc0_scoped1 1 ∗ cell3P c cc0_scoped1 2 ∗ cell3P c cc0_scoped3 0 ∗ cell3P c cc0_scoped3 1 ∗ cell3P c cc0_scoped3 2
    ∗ cell2P c cc0_scoped6 0 ∗ cell2P c cc0_scoped6 1 ∗ cell2P c cc0_scoped9 0 ∗ cell2P c cc0_scoped9 1 ∗ cell2P c cc0_scoped11 0 ∗ cell2P c cc0_scoped11 1
    ∗ cell2P c cc0_scoped13 0 ∗ cell2P c cc0_scoped13 1 ∗ cell1P c cc0_scoped14 ∗ cell1P c cc0_scoped15)
omit [FloatOps F] in
theorem ownSems0_eq (c : Dev nD) : (Pipeline.ownSems0 (Ix := Unit) (Name := ℕ) (U := UU nD τ) (Lvl := ℕ) (Val := Elt F) (τ := τ) osem c : sProp 𝕄)
    = cellsP c := by
  unfold Pipeline.ownSems0
  exact bigSep_univ_eq_bigSepL [(0 : Fin 16), 1, 2, 3, 4, 5, 6, 7, 8, 9, 10, 11, 12, 13, 14, 15] (by decide) (by decide) _

/-! ## The region's data -/

/-- The arrays before: every row block, every modulation block twice at half the share, the gains, the results at anything. -/
abbrev arrsIn (c : Dev nD) : sProp 𝕄 :=
  iprop(bigSep Finset.univ (rowP c yM (aY m c)) ∗ bigSep Finset.univ (rowP c hM (aH m c)) ∗ bigSep Finset.univ (mrowP c mM fullShare.left (aM m c))
    ∗ bigSep Finset.univ (mrowP c mM fullShare.right (aM m c)) ∗ gainsP c (aG m c) ∗ bigSep Finset.univ (todoO c oM) ∗ bigSep Finset.univ (todoO c uM))
/-- The arrays after: the results written. -/
abbrev arrsOut (c : Dev nD) : sProp 𝕄 :=
  iprop(bigSep Finset.univ (rowP c yM (aY m c)) ∗ bigSep Finset.univ (rowP c hM (aH m c)) ∗ bigSep Finset.univ (mrowP c mM fullShare.left (aM m c))
    ∗ bigSep Finset.univ (mrowP c mM fullShare.right (aM m c)) ∗ gainsP c (aG m c)
    ∗ bigSep Finset.univ (doneO c oM (hnOf c (aY m c) (aH m c) (aG m c) (aM m c))) ∗ bigSep Finset.univ (doneO c uM (uOf c (aY m c) (aH m c) (aG m c) (aM m c))))
/-- The buffers in slots. -/
abbrev bufsP (c : Dev nD) : sProp 𝕄 :=
  iprop(((∃ f, slot3P c yB 0 f) ∗ (∃ f, slot3P c yB 1 f) ∗ ∃ f, slot3P c yB 2 f) ∗ ((∃ f, slot3P c hB 0 f) ∗ (∃ f, slot3P c hB 1 f) ∗ ∃ f, slot3P c hB 2 f)
    ∗ (∃ f, gbufP c gB f) ∗ ((∃ f, mslotP c mB 0 f) ∗ ∃ f, mslotP c mB 1 f) ∗ (∃ f, gbufP c gB' f) ∗ ((∃ f, mslotP c mB' 0 f) ∗ ∃ f, mslotP c mB' 1 f)
    ∗ ((∃ f, slot2P c oB 0 f) ∗ ∃ f, slot2P c oB 1 f) ∗ ((∃ f, slot2P c uB 0 f) ∗ ∃ f, slot2P c uB 1 f))
def Φ₀ (c : Dev nD) : sProp 𝕄 := iprop(arrsIn m c ∗ bufsP c ∗ cellsP c)
def Φ₁ (c : Dev nD) : sProp 𝕄 := iprop(arrsOut m c ∗ bufsP c ∗ cellsP c)

/-- The invariant before the one point and after it. -/
def ΦAt (c : Dev nD) (n : ℕ) : sProp 𝕄 := if n = 0 then Φ₀ m c else Φ₁ m c
theorem ΦAt_zero (c : Dev nD) (n : ℕ) (h : n = 0) : ΦAt m c n = Φ₀ m c := if_pos h
theorem ΦAt_pos (c : Dev nD) (n : ℕ) (h : n ≠ 0) : ΦAt m c n = Φ₁ m c := if_neg h

def dats (_ : Fin 1) (c : Dev nD) : Dat τ (Elt F) Unit ℕ (UU nD τ) ℕ cfg0 c where
  A w := w.elim0
  after w t := w.elim0
  Φ t := ΦAt m c t.val
  q _ := fullShare
  owed _ := 0

theorem dats_first (c : Dev nD) : (dats m 0 c).Φ 0 = Φ₀ m c := ΦAt_zero m c _ rfl
theorem dats_last (c : Dev nD) : (dats m 0 c).Φ (Fin.last cfg0.N) = Φ₁ m c :=
  ΦAt_pos m c grid0.N (by rw [N_0]; decide)
theorem dats_pre (c : Dev nD) (t : Fin cfg0.N) : (dats m 0 c).Φ t.castSucc = Φ₀ m c := by
  have h : t.val < grid0.N := t.isLt
  rw [N_0] at h
  exact ΦAt_zero m c t.val (by omega)
theorem dats_post (c : Dev nD) (t : Fin cfg0.N) : (dats m 0 c).Φ t.succ = Φ₁ m c := ΦAt_pos m c (t.val + 1) (Nat.succ_ne_zero _)

/-- The body table's entry is the kernel. -/
theorem defs_tc : (defs₀ (F := F)) .tc cfg0.body = fun a => bodyAt0 (F := F) t0_0 := rfl
theorem prog_eq (t : Fin cfg0.N) : (defs₀ (F := F)) .tc cfg0.body (cfg0.bodyArgs t (cfg0.slots t)) = bodyAt0 (F := F) t := (congrFun defs_tc _).trans rfl

omit [FloatOps F] in
theorem bigSep_none (Φ : Fin cfg0.W → sProp 𝕄) : bigSep Finset.univ Φ = iprop(emp) := rfl

set_option maxHeartbeats 1000000 in
set_option backward.isDefEq.respectTransparency.types false in
/-- The body meets the region's data. -/
theorem body_obligation (c : Dev nD) : BodyObligation (dats (F := F) m 0 c) (defs₀ (F := F)) 𝒱₀ () Set.univ := fun t => by
  rw [bigSep_none, bigSep_none]
  dsimp only
  rw [dats_pre m c t, dats_post m c t]
  unfold Dat.owesAt Pipeline.owesWithin
  rw [show (dats m 0 c).owed t.castSucc = 0 from rfl, show (dats m 0 c).owed t.succ = 0 from rfl]
  unfold Φ₀ Φ₁
  iintro ⟨⟨⟨AY, AH, AM, AN, AG, AO, AU⟩, ⟨BY, BH, BG, BM, BG', BN, BO, BU⟩, ⟨y0, y1, y2, h0, h1, h2, m0, m1, n0, n1, o0, o1, u0, u1, g0, g1⟩⟩, ⟨%W, -, HW⟩, -⟩
  sl_rw [prog_eq t]
  iapply (bodyRun c (aY m c) (aH m c) (aG m c) (aM m c) t W)
  isplitl [AY AH AM AN AG AO AU BY BH BG BM BG' BN BO BU y0 y1 y2 h0 h1 h2 m0 m1 n0 n1 o0 o1 u0 u1 g0 g1 HW]
  · isplitl [AY BY y0 y1 y2]
    · isplitl [AY]; · iapply (entails_of_eq (bigSep_rows (rowP c yM (aY m c)))); iexact AY
      isplitl [BY]; · iexact BY
      isplitl [y0]; · iexact y0
      isplitl [y1]; · iexact y1
      iexact y2
    isplitl [AH BH h0 h1 h2]
    · isplitl [AH]; · iapply (entails_of_eq (bigSep_rows (rowP c hM (aH m c)))); iexact AH
      isplitl [BH]; · iexact BH
      isplitl [h0]; · iexact h0
      isplitl [h1]; · iexact h1
      iexact h2
    isplitl [AM BM m0 m1]
    · isplitl [AM]; · iapply (entails_of_eq (allm c mM fullShare.left (aM m c) 0)); iexact AM
      isplitl [BM]; · iexact BM
      isplitl [m0]; · iexact m0
      iexact m1
    isplitl [AN BN n0 n1]
    · isplitl [AN]; · iapply (entails_of_eq (allm c mM fullShare.right (aM m c) 0)); iexact AN
      isplitl [BN]; · iexact BN
      isplitl [n0]; · iexact n0
      iexact n1
    isplitl [AO BO o0 o1]
    · isplitl [AO]; · iexact AO
      isplitl [BO]; · iexact BO
      isplitl [o0]; · iexact o0
      iexact o1
    isplitl [AU BU u0 u1]
    · isplitl [AU]; · iexact AU
      isplitl [BU]; · iexact BU
      isplitl [u0]; · iexact u0
      iexact u1
    isplitl [AG BG BG' g0 g1]
    · isplitl [AG]; · iexact AG
      isplitl [BG]; · iexact BG
      isplitl [BG']; · iexact BG'
      isplitl [g0]; · iexact g0
      iexact g1
    iexact HW
  · iintro ⟨⟨AY, BY, y0, y1, y2⟩, ⟨AH, BH, h0, h1, h2⟩, ⟨AM, BM, m0, m1⟩, ⟨AN, BN, n0, n1⟩, ⟨AO, BO, o0, o1⟩, ⟨AU, BU, u0, u1⟩, ⟨AG, BG, BG', g0, g1⟩, ⟨%W', HW⟩⟩
    isplitl [AY AH AM AN AG AO AU BY BH BG BM BG' BN BO BU y0 y1 y2 h0 h1 h2 m0 m1 n0 n1 o0 o1 u0 u1 g0 g1]
    · isplitl [AY AH AM AN AG AO AU]
      · isplitl [AY]; · iexact AY
        isplitl [AH]; · iexact AH
        isplitl [AM]; · iexact AM
        isplitl [AN]; · iexact AN
        isplitl [AG]; · iexact AG
        isplitl [AO]; · iexact AO
        iexact AU
      isplitl [BY BH BG BM BG' BN BO BU]
      · isplitl [BY]; · iexact BY
        isplitl [BH]; · iexact BH
        isplitl [BG]; · iexact BG
        isplitl [BM]; · iexact BM
        isplitl [BG']; · iexact BG'
        isplitl [BN]; · iexact BN
        isplitl [BO]; · iexact BO
        iexact BU
      isplitl [y0]; · iexact y0
      isplitl [y1]; · iexact y1
      isplitl [y2]; · iexact y2
      isplitl [h0]; · iexact h0
      isplitl [h1]; · iexact h1
      isplitl [h2]; · iexact h2
      isplitl [m0]; · iexact m0
      isplitl [m1]; · iexact m1
      isplitl [n0]; · iexact n0
      isplitl [n1]; · iexact n1
      isplitl [o0]; · iexact o0
      isplitl [o1]; · iexact o1
      isplitl [u0]; · iexact u0
      isplitl [u1]; · iexact u1
      isplitl [g0]; · iexact g0
      iexact g1
    isplitl [HW]
    · iexists W'; isplitr; · ipureintro; exact fun _ _ => Or.inl trivial
      iexact HW
    iempintro

/-! ## The run -/

def intoΦ (c : Dev nD) : sProp 𝕄 := iprop(arrsIn m c ∗ Pipeline.ownSems0 osem c)
/-- The arrays after the run, whole. -/
def outOfΦ (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_arg3) ↦{fullShare} m ((c : Thread nD τ).loc main_arg3))
    ∗ (∃ g : Buf (Elt F) ((c : Thread nD τ).loc main_v0_0), ⌜∀ b, (rowB oM b).view.read (Elt F) g = hnOf c (aY m c) (aH m c) (aG m c) (aM m c) b⌝ ∗ ((c : Thread nD τ).loc main_v0_0) ↦{fullShare} g)
    ∗ (∃ g : Buf (Elt F) ((c : Thread nD τ).loc main_v0_1), ⌜∀ b, (rowB uM b).view.read (Elt F) g = uOf c (aY m c) (aH m c) (aG m c) (aM m c) b⌝ ∗ ((c : Thread nD τ).loc main_v0_1) ↦{fullShare} g))
def u₀ : UU nD τ := (initOf (Pipeline.cells cfgs cellOf_inj) (Pipeline.launchToks cfgs cellOf_inj), 1)
/-- What the run leaves on one core. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ (∀ b, (rowB oM b).view.read (Elt F) (s.mem ((c : Thread nD τ).loc main_v0_0)) = hnOf c (aY m c) (aH m c) (aG m c) (aM m c) b)
  ∧ (∀ b, (rowB uM b).view.read (Elt F) (s.mem ((c : Thread nD τ).loc main_v0_1)) = uOf c (aY m c) (aH m c) (aG m c) (aM m c) b)

omit [FloatOps F] in
theorem gains_eq (c : Dev nD) (G : Buf (Elt F) ((c : Thread nD τ).loc main_arg2)) : (((c : Thread nD τ).loc main_arg2) ↦{fullShare} G : sProp 𝕄) = gainsP c G :=
  congrArg (fun S => (((c : Thread nD τ).loc main_arg2) ↦[S]{fullShare} G : sProp 𝕄)) (View.set_whole main_arg2).symm
omit [FloatOps F] in
theorem gB_eq (c : Dev nD) (f : Buf (Elt F) ((c : Thread nD τ).loc cc0_scoped4)) : (((c : Thread nD τ).loc cc0_scoped4) ↦{fullShare} f : sProp 𝕄) = gbufP c gB f :=
  congrArg (fun S => (((c : Thread nD τ).loc cc0_scoped4) ↦[S]{fullShare} f : sProp 𝕄)) (View.set_whole cc0_scoped4).symm
omit [FloatOps F] in
theorem gB'_eq (c : Dev nD) (f : Buf (Elt F) ((c : Thread nD τ).loc cc0_scoped7)) : (((c : Thread nD τ).loc cc0_scoped7) ↦{fullShare} f : sProp 𝕄) = gbufP c gB' f :=
  congrArg (fun S => (((c : Thread nD τ).loc cc0_scoped7) ↦[S]{fullShare} f : sProp 𝕄)) (View.set_whole cc0_scoped7).symm

/-- The scoped buffers are the slots, -/
theorem bufs_split (c : Dev nD) : (Pipeline.scopedRest (Ix := Unit) (Name := ℕ) (U := UU nD τ) (Lvl := ℕ) (Val := Elt F) cfg0.spec c : sProp 𝕄) ⊢ bufsP c := by
  rw [scopedRest0_eq]
  iintro ⟨B0, B2, ⟨%f4, B4⟩, B5, ⟨%f7, B7⟩, B8, B10, B12⟩
  isplitl [B0]; · iapply (yB_split c); iexact B0
  isplitl [B2]; · iapply (hB_split c); iexact B2
  isplitl [B4]; · iexists f4; iapply (entails_of_eq (gB_eq c f4)); iexact B4
  isplitl [B5]; · iapply (mB_split c); iexact B5
  isplitl [B7]; · iexists f7; iapply (entails_of_eq (gB'_eq c f7)); iexact B7
  isplitl [B8]; · iapply (nB_split c); iexact B8
  isplitl [B10]; · iapply (oB_split c); iexact B10
  iapply (uB_split c); iexact B12
/-- and back. -/
theorem bufs_join (c : Dev nD) : bufsP c ⊢ (Pipeline.scopedRest (Ix := Unit) (Name := ℕ) (U := UU nD τ) (Lvl := ℕ) (Val := Elt F) cfg0.spec c : sProp 𝕄) := by
  rw [scopedRest0_eq]
  iintro ⟨B0, B2, ⟨%f4, B4⟩, B5, ⟨%f7, B7⟩, B8, B10, B12⟩
  isplitl [B0]; · iapply (yB_join c); iexact B0
  isplitl [B2]; · iapply (hB_join c); iexact B2
  isplitl [B4]; · iexists f4; iapply (entails_of_eq (gB_eq c f4).symm); iexact B4
  isplitl [B5]; · iapply (mB_join c); iexact B5
  isplitl [B7]; · iexists f7; iapply (entails_of_eq (gB'_eq c f7).symm); iexact B7
  isplitl [B8]; · iapply (nB_join c); iexact B8
  isplitl [B10]; · iapply (oB_join c); iexact B10
  iapply (uB_join c); iexact B12

/-- The arrays whole are their blocks, -/
theorem arrs_split (c : Dev nD) : (Pipeline.unscopedRest (Ix := Unit) (Name := ℕ) (U := UU nD τ) (Lvl := ℕ) cfg0.spec c (fun b => m ((c : Thread nD τ).loc b)) : sProp 𝕄) ⊢ arrsIn m c := by
  rw [unscopedRest0_eq]
  iintro ⟨AY, AH, AG, AM, AO, AU⟩
  ihave AM' := (pointsTo_share (ℓ := (c : Thread nD τ).loc main_arg3) (PosShare.mem_left_op_right fullShare)).1 $$ AM
  icases AM' with ⟨AM, AN⟩
  isplitl [AY]; · iapply (entails_of_eq (y_eq c _)); iexact AY
  isplitl [AH]; · iapply (entails_of_eq (h_eq c _)); iexact AH
  isplitl [AM]; · iapply (entails_of_eq (m_eq c _ _)); iexact AM
  isplitl [AN]; · iapply (entails_of_eq (m_eq c _ _)); iexact AN
  isplitl [AG]; · iapply (entails_of_eq (gains_eq c _)); iexact AG
  isplitl [AO]; · iapply (o_split c _); iexact AO
  iapply (u_split c _); iexact AU
/-- and back. -/
theorem arrs_join (c : Dev nD) : arrsOut m c ⊢ outOfΦ m c := by
  unfold outOfΦ
  iintro ⟨AY, AH, AM, AN, AG, AO, AU⟩
  isplitl [AY]; · iapply (entails_of_eq (y_eq c _).symm); iexact AY
  isplitl [AH]; · iapply (entails_of_eq (h_eq c _).symm); iexact AH
  isplitl [AG]; · iapply (entails_of_eq (gains_eq c _).symm); iexact AG
  isplitl [AM AN]
  · iapply (pointsTo_share (ℓ := (c : Thread nD τ).loc main_arg3) (PosShare.mem_left_op_right fullShare)).2
    isplitl [AM]; · iapply (entails_of_eq (m_eq c fullShare.left (aM m c)).symm); iexact AM
    iapply (entails_of_eq (m_eq c fullShare.right (aM m c)).symm); iexact AN
  isplitl [AO]; · iapply (o_join c _ (m ((c : Thread nD τ).loc main_v0_0))); iexact AO
  iapply (u_join c _ (m ((c : Thread nD τ).loc main_v0_1))); iexact AU

set_option backward.isDefEq.respectTransparency.types false in
/-- From any memory with counters at zero, over any float values: every fair execution ends, the arguments unchanged,
    every row block of the two results computed from the arguments' blocks, every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      unfold intoΦ
      iintro ⟨H0, HS, -, -, -⟩; imodintro
      isplitl [H0 HS]
      · isplitl [H0]; · iapply (arrs_split m c); iexact H0
        iexact HS
      iempintro)
    (hin := fun c => by
      rw [dats_first m c]
      unfold intoΦ Φ₀; rw [ownSems0_eq]
      iintro ⟨⟨HA, HC⟩, HB⟩
      isplitl [HA]; · iexact HA
      isplitl [HB]; · iapply (bufs_split c); iexact HB
      iexact HC)
    (hout := fun c => by
      rw [dats_last m c, ownSems0_eq]
      unfold Φ₁
      iintro ⟨HA, HB, HC⟩
      isplitl [HA]; · iapply (arrs_join m c); iexact HA
      isplitl [HC]; · iexact HC
      iapply (bufs_join c); iexact HB)
    (QY := QY m)
    (hY := fun c s' => by
      unfold outOfΦ
      iintro ⟨⟨H0, H1, H2, H3, ⟨%go, %ho, HO⟩, ⟨%gu, %hu, HU⟩⟩, -, HSI⟩
      icombine HSI H0 gives %h0
      icombine HSI H1 gives %h1
      icombine HSI H2 gives %h2
      icombine HSI H3 gives %h3
      icombine HSI HO gives %h4
      icombine HSI HU gives %h5
      imodintro
      isplitr
      · ipureintro
        refine ⟨Buf.eq_of_forall_mem_univ h0, Buf.eq_of_forall_mem_univ h1, Buf.eq_of_forall_mem_univ h2, Buf.eq_of_forall_mem_univ h3, ?_, ?_⟩
        · rw [Buf.eq_of_forall_mem_univ h4]; exact ho
        · rw [Buf.eq_of_forall_mem_univ h5]; exact hu
      iexact HSI)
    (hQ := fun _ hh hz => ⟨fun c => (hh c).2, hz⟩)

end Launch

end Cert.Proof.PostPre

end
-- ==== Proof.PostPre.Ref.lean ====
/- The reference's rows at the ideal instance: its composed terms, read at an index, are one formula of a row. -/
module

public import proofs.«01_k».proof.Proof.Gen.ReferenceIdeal.Run
public import Idealize.ShloMosaic.Lib.Pointwise

@[expose] public section

noncomputable section

namespace Cert.Proof.PostPre.Ref

open Cert.ReferenceIdeal Cert.ReferenceIdeal.Gen Idealize.ShloMosaic Idealize.ShloMosaic.TcCoe Idealize.SL.Sem Idealize.ShloMosaic.StableHlo

/-- One over the root of a row's mean square, with the reference's small constant under the root. -/
def inv (x : Fin 4096 → EReal) : EReal :=
  Ideal.rsqrt (Ideal.div (∑ k : Fin 4096, x k * x k) (Ideal.ofBits .f32 0x45800000#32) + Ideal.ofBits .f32 0x358637BD#32)

/-- A row of the new residual: the old one plus half the gated, normalised branch. -/
def hnE (h y g m2 : Fin 4096 → EReal) (d : Fin 4096) : EReal :=
  h d + Ideal.ofBits .f32 0x3F000000#32 * (m2 d * (y d * inv y * g d))

/-- A row of the next branch's input: the residual normalised, scaled and shifted. -/
def uE (x g m3 m4 : Fin 4096 → EReal) (d : Fin 4096) : EReal :=
  x d * inv x * g d * (Ideal.ofBits .f32 0x3F800000#32 + m4 d) + m3 d

/-- Which of the modulation's rows a row of the stream takes: its batch, or 4 for the context's rows. -/
def mr (r : Fin 17408) : Fin 8 := ⟨r.val / 4096, by have := r.isLt; omega⟩

/-- Row `r` of the new residual as a function of the four arrays. -/
def hnR (Y : FVec Ideal S17408x4096 .bf16) (H : FVec Ideal S17408x4096 .f32) (G : FVec Ideal S6x4096 .f32) (M : FVec Ideal S8x9x4096 .f32)
    (r : Fin 17408) (d : Fin 4096) : EReal :=
  hnE (fun d => H (ix2 r d)) (fun d => Y (ix2 r d)) (fun d => G (ix2 1 d)) (fun d => M (ix3 (mr r) 2 d)) d

/-- Row `r` of the next branch's input as a function of the four arrays. -/
def uR (Y : FVec Ideal S17408x4096 .bf16) (H : FVec Ideal S17408x4096 .f32) (G : FVec Ideal S6x4096 .f32) (M : FVec Ideal S8x9x4096 .f32)
    (r : Fin 17408) (d : Fin 4096) : EReal :=
  uE (hnR Y H G M r) (fun d => G (ix2 2 d)) (fun d => M (ix3 (mr r) 3 d)) (fun d => M (ix3 (mr r) 4 d)) d

/-- The latent rows' new residual, in the reference's operations. -/
def hnL (y h : FVec Ideal S4x4096x4096 .f32) (g : FVec Ideal S4096 .f32) (m2 : FVec Ideal S4x4096 .f32) : FVec Ideal S4x4096x4096 .f32 :=
  (addf h (mulf (broadcastInDim S4x4096x4096 ![] bcast_S_S4x4096x4096 (constant S_ .f32 0x3F000000#32)) (mulf (broadcastInDim S4x4096x4096 ![0, 1, 2] bcast_S4x1x4096_S4x4096x4096_0_1_2 (broadcastInDim S4x1x4096 ![0, 2] bcast_S4x4096_S4x1x4096_0_2 m2)) (mulf (mulf y (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf y y) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g))))))

/-- The latent rows' input to the next branch, in the reference's operations. -/
def uL (hn : FVec Ideal S4x4096x4096 .f32) (g : FVec Ideal S4096 .f32) (m3 m4 : FVec Ideal S4x4096 .f32) : FVec Ideal S4x4096x4096 .f32 :=
  (addf (mulf (mulf (mulf hn (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf hn hn) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g))) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 m4)))) (broadcastInDim S4x4096x4096 ![0, 1, 2] bcast_S4x1x4096_S4x4096x4096_0_1_2 (broadcastInDim S4x1x4096 ![0, 2] bcast_S4x4096_S4x1x4096_0_2 m3)))

/-- The latent rows' new residual at an index. -/
theorem hnL_apply (y h : FVec Ideal S4x4096x4096 .f32) (g : FVec Ideal S4096 .f32) (m2 : FVec Ideal S4x4096 .f32) (b : Fin 4) (s : Fin 4096) (d : Fin 4096) :
    hnL y h g m2 (ix3 b s d) = hnE (fun d => h (ix3 b s d)) (fun d => y (ix3 b s d)) (fun d => g (ix1 d)) (fun d => m2 (ix2 b d)) d := by
  unfold hnL hnE inv
  pointwise

/-- The latent rows' input to the next branch at an index. -/
theorem uL_apply (hn : FVec Ideal S4x4096x4096 .f32) (g : FVec Ideal S4096 .f32) (m3 m4 : FVec Ideal S4x4096 .f32) (b : Fin 4) (s : Fin 4096) (d : Fin 4096) :
    uL hn g m3 m4 (ix3 b s d) = uE (fun d => hn (ix3 b s d)) (fun d => g (ix1 d)) (fun d => m3 (ix2 b d)) (fun d => m4 (ix2 b d)) d := by
  unfold uL uE inv
  pointwise

/-- The context rows' new residual, in the reference's operations. -/
def hnC (y h : FVec Ideal S4x256x4096 .f32) (g : FVec Ideal S4096 .f32) (m2 : FVec Ideal S1x4096 .f32) : FVec Ideal S4x256x4096 .f32 :=
  (addf h (mulf (broadcastInDim S4x256x4096 ![] bcast_S_S4x256x4096 (constant S_ .f32 0x3F000000#32)) (mulf (broadcastInDim S4x256x4096 ![0, 1, 2] bcast_S1x1x4096_S4x256x4096_0_1_2 (broadcastInDim S1x1x4096 ![0, 2] bcast_S1x4096_S1x1x4096_0_2 m2)) (mulf (mulf y (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf y y) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 g))))))

/-- The context rows' input to the next branch, in the reference's operations. -/
def uC (hn : FVec Ideal S4x256x4096 .f32) (g : FVec Ideal S4096 .f32) (m3 m4 : FVec Ideal S1x4096 .f32) : FVec Ideal S4x256x4096 .f32 :=
  (addf (mulf (mulf (mulf hn (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf hn hn) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 g))) (broadcastInDim S4x256x4096 ![0, 1, 2] bcast_S1x1x4096_S4x256x4096_0_1_2 (addf (broadcastInDim S1x1x4096 ![] bcast_S_S1x1x4096 (constant S_ .f32 0x3F800000#32)) (broadcastInDim S1x1x4096 ![0, 2] bcast_S1x4096_S1x1x4096_0_2 m4)))) (broadcastInDim S4x256x4096 ![0, 1, 2] bcast_S1x1x4096_S4x256x4096_0_1_2 (broadcastInDim S1x1x4096 ![0, 2] bcast_S1x4096_S1x1x4096_0_2 m3)))

/-- The context rows' new residual at an index. -/
theorem hnC_apply (y h : FVec Ideal S4x256x4096 .f32) (g : FVec Ideal S4096 .f32) (m2 : FVec Ideal S1x4096 .f32) (b : Fin 4) (s : Fin 256) (d : Fin 4096) :
    hnC y h g m2 (ix3 b s d) = hnE (fun d => h (ix3 b s d)) (fun d => y (ix3 b s d)) (fun d => g (ix1 d)) (fun d => m2 (ix2 0 d)) d := by
  unfold hnC hnE inv
  pointwise

/-- The context rows' input to the next branch at an index. -/
theorem uC_apply (hn : FVec Ideal S4x256x4096 .f32) (g : FVec Ideal S4096 .f32) (m3 m4 : FVec Ideal S1x4096 .f32) (b : Fin 4) (s : Fin 256) (d : Fin 4096) :
    uC hn g m3 m4 (ix3 b s d) = uE (fun d => hn (ix3 b s d)) (fun d => g (ix1 d)) (fun d => m3 (ix2 0 d)) (fun d => m4 (ix2 0 d)) d := by
  unfold uC uE inv
  pointwise

section
variable (Y : FVec Ideal S17408x4096 .bf16) (H : FVec Ideal S17408x4096 .f32) (G : FVec Ideal S6x4096 .f32) (M : FVec Ideal S8x9x4096 .f32)

/-- The latent rows' new residual as the reference computes it from the four arrays. -/
def hL : FVec Ideal S4x4096x4096 .f32 := hnL (shapeCast _ (extractStridedSlice S16384x4096 ![0, 0] (extf .f32 Y bitsLt_bf16_f32) slices_S17408x4096_S16384x4096_0_0) shapeCasts_S16384x4096_S4x4096x4096) (shapeCast _ (extractStridedSlice S16384x4096 ![0, 0] H slices_S17408x4096_S16384x4096_0_0) shapeCasts_S16384x4096_S4x4096x4096) (shapeCast _ (extractStridedSlice S1x4096 ![1, 0] G slices_S6x4096_S1x4096_1_0) shapeCasts_S1x4096_S4096) (shapeCast _ (extractStridedSlice S4x1x4096 ![0, 2, 0] (extractStridedSlice S4x9x4096 ![0, 0, 0] M slices_S8x9x4096_S4x9x4096_0_0_0) slices_S4x9x4096_S4x1x4096_0_2_0) shapeCasts_S4x1x4096_S4x4096)

/-- The context rows' new residual as the reference computes it from the four arrays. -/
def hC : FVec Ideal S4x256x4096 .f32 := hnC (shapeCast _ (extractStridedSlice S1024x4096 ![16384, 0] (extf .f32 Y bitsLt_bf16_f32) slices_S17408x4096_S1024x4096_16384_0) shapeCasts_S1024x4096_S4x256x4096) (shapeCast _ (extractStridedSlice S1024x4096 ![16384, 0] H slices_S17408x4096_S1024x4096_16384_0) shapeCasts_S1024x4096_S4x256x4096) (shapeCast _ (extractStridedSlice S1x4096 ![1, 0] G slices_S6x4096_S1x4096_1_0) shapeCasts_S1x4096_S4096) (shapeCast _ (extractStridedSlice S1x1x4096 ![0, 2, 0] (extractStridedSlice S1x9x4096 ![4, 0, 0] M slices_S8x9x4096_S1x9x4096_4_0_0) slices_S1x9x4096_S1x1x4096_0_2_0) shapeCasts_S1x1x4096_S1x4096)

/-- The new residual as the reference computes it from the four arrays. -/
def hnT : FVec Ideal S17408x4096 .f32 :=
  concatenate S17408x4096 0 [⟨S16384x4096, (shapeCast _ (hL Y H G M) shapeCasts_S4x4096x4096_S16384x4096)⟩, ⟨S1024x4096, (shapeCast _ (hC Y H G M) shapeCasts_S4x256x4096_S1024x4096)⟩] concatenates_S16384x4096_S1024x4096_S17408x4096_d0

/-- The next branch's input as the reference computes it from the four arrays. -/
def uT : FVec Ideal S17408x4096 .bf16 :=
  truncf .bf16 (concatenate S17408x4096 0 [⟨S16384x4096, (shapeCast _ (uL (hL Y H G M) (shapeCast _ (extractStridedSlice S1x4096 ![2, 0] G slices_S6x4096_S1x4096_2_0) shapeCasts_S1x4096_S4096) (shapeCast _ (extractStridedSlice S4x1x4096 ![0, 3, 0] (extractStridedSlice S4x9x4096 ![0, 0, 0] M slices_S8x9x4096_S4x9x4096_0_0_0) slices_S4x9x4096_S4x1x4096_0_3_0) shapeCasts_S4x1x4096_S4x4096) (shapeCast _ (extractStridedSlice S4x1x4096 ![0, 4, 0] (extractStridedSlice S4x9x4096 ![0, 0, 0] M slices_S8x9x4096_S4x9x4096_0_0_0) slices_S4x9x4096_S4x1x4096_0_4_0) shapeCasts_S4x1x4096_S4x4096)) shapeCasts_S4x4096x4096_S16384x4096)⟩, ⟨S1024x4096, (shapeCast _ (uC (hC Y H G M) (shapeCast _ (extractStridedSlice S1x4096 ![2, 0] G slices_S6x4096_S1x4096_2_0) shapeCasts_S1x4096_S4096) (shapeCast _ (extractStridedSlice S1x1x4096 ![0, 3, 0] (extractStridedSlice S1x9x4096 ![4, 0, 0] M slices_S8x9x4096_S1x9x4096_4_0_0) slices_S1x9x4096_S1x1x4096_0_3_0) shapeCasts_S1x1x4096_S1x4096) (shapeCast _ (extractStridedSlice S1x1x4096 ![0, 4, 0] (extractStridedSlice S1x9x4096 ![4, 0, 0] M slices_S8x9x4096_S1x9x4096_4_0_0) slices_S1x9x4096_S1x1x4096_0_4_0) shapeCasts_S1x1x4096_S1x4096)) shapeCasts_S4x256x4096_S1024x4096)⟩] concatenates_S16384x4096_S1024x4096_S17408x4096_d0 : FVec Ideal S17408x4096 .f32) bitsLt_bf16_f32

/-- A latent row's new residual is the row formula. -/
theorem hL_apply (b : Fin 4) (s : Fin 4096) (d : Fin 4096) (r : Fin 17408) (hr : r.val = b.val * 4096 + s.val) :
    hL Y H G M (ix3 b s d) = hnR Y H G M r d := by
  have e : mr r = ⟨b.val, by omega⟩ := Fin.ext (by show r.val / 4096 = b.val; omega)
  have hb : b.val * 4096 + s.val < 17408 := by
    clear e hr
    have := b.isLt; have := s.isLt; omega
  obtain rfl : r = ⟨b.val * 4096 + s.val, hb⟩ := Fin.ext hr
  unfold hL hnR
  rw [hnL_apply, e]
  pointwise

/-- A context row's new residual is the row formula. -/
theorem hC_apply (b : Fin 4) (s : Fin 256) (d : Fin 4096) (r : Fin 17408) (hr : r.val = 16384 + (b.val * 256 + s.val)) :
    hC Y H G M (ix3 b s d) = hnR Y H G M r d := by
  have e : mr r = 4 := Fin.ext (by show r.val / 4096 = 4; omega)
  have hb : 16384 + (b.val * 256 + s.val) < 17408 := by
    clear e hr
    have := b.isLt; have := s.isLt; omega
  obtain rfl : r = ⟨16384 + (b.val * 256 + s.val), hb⟩ := Fin.ext hr
  unfold hC hnR
  rw [hnC_apply, e]
  pointwise
end

/-- The generated term of the first result is the function above of the arguments. -/
theorem res_hn (m : (ℓ : Loc nD τ sig) → Buf (Elt Ideal) ℓ) (c : Dev nD) : Value.res_main_v113 m c =
    hnT (m ((c.tc : Thread nD τ).loc main_arg0)) (m ((c.tc : Thread nD τ).loc main_arg1)) (m ((c.tc : Thread nD τ).loc main_arg2)) (m ((c.tc : Thread nD τ).loc main_arg3)) := rfl

/-- The generated term of the second result is the function above of the arguments. -/
theorem res_u (m : (ℓ : Loc nD τ sig) → Buf (Elt Ideal) ℓ) (c : Dev nD) : Value.res_main_v117 m c =
    uT (m ((c.tc : Thread nD τ).loc main_arg0)) (m ((c.tc : Thread nD τ).loc main_arg1)) (m ((c.tc : Thread nD τ).loc main_arg2)) (m ((c.tc : Thread nD τ).loc main_arg3)) := rfl

/-- The reference's new residual at an index. -/
theorem hnT_apply (Y : FVec Ideal S17408x4096 .bf16) (H : FVec Ideal S17408x4096 .f32) (G : FVec Ideal S6x4096 .f32) (M : FVec Ideal S8x9x4096 .f32)
    (r : Fin 17408) (d : Fin 4096) : hnT Y H G M (ix2 r d) = hnR Y H G M r d := by
  have := r.isLt
  unfold hnT
  pointwise
  split
  · exact hL_apply Y H G M _ _ d r (by simp only; omega)
  · exact hC_apply Y H G M _ _ d r (by simp only; omega)

/-- The reference's input to the next branch at an index. -/
theorem uT_apply (Y : FVec Ideal S17408x4096 .bf16) (H : FVec Ideal S17408x4096 .f32) (G : FVec Ideal S6x4096 .f32) (M : FVec Ideal S8x9x4096 .f32)
    (r : Fin 17408) (d : Fin 4096) : uT Y H G M (ix2 r d) = uR Y H G M r d := by
  have := r.isLt
  unfold uT uR
  pointwise
  split
  · rename_i hlt
    have e : (mr r).val = r.val / 4096 := rfl
    rw [uL_apply]
    have hh : (fun d => hL Y H G M (ix3 ⟨r.val / 4096, by omega⟩ ⟨r.val % 4096, by omega⟩ d)) = hnR Y H G M r :=
      funext fun d => hL_apply Y H G M _ _ d r (by simp only; omega)
    rw [hh]
    congr 1 <;> (funext d; pointwise <;> rfl)
  · rename_i hlt
    have e : mr r = 4 := Fin.ext (by show r.val / 4096 = 4; omega)
    rw [uC_apply, e]
    have hh : (fun d => hC Y H G M (ix3 ⟨(r.val - 16384) / 256, by omega⟩ ⟨(r.val - 16384) % 256, by omega⟩ d)) = hnR Y H G M r :=
      funext fun d => hC_apply Y H G M _ _ d r (by simp only; omega)
    rw [hh]
    congr 1 <;> (funext d; pointwise)

end Cert.Proof.PostPre.Ref
end
-- ==== Proof.PostPre.Value.lean ====
/-
  The value: block by block, the arrays the program leaves are the reference's rows, at the ideal instance.
-/
module

public import proofs.«01_k».proof.Proof.PostPre.Run
public import proofs.«01_k».proof.Proof.PostPre.Ref
public import Idealize.ShloMosaic.Lib.Pointwise
public import proofs.«01_k».proof.Proof.Gen.KernelIdeal.Launch
public import proofs.«01_k».proof.Proof.Gen.KernelIdeal.Points
public import Idealize.ShloMosaic.Lib.Pipeline.KitQuiescent

@[expose] public section

noncomputable section

namespace Cert.Proof.PostPre

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD) (Y : Buf (Elt Ideal) (yM.view.loc (c : Thread nD τ))) (H : Buf (Elt Ideal) (hM.view.loc (c : Thread nD τ)))
  (G : Buf (Elt Ideal) (gM.view.loc (c : Thread nD τ))) (M : Buf (Elt Ideal) (mM.view.loc (c : Thread nD τ)))

/-- The row of the stream that row `a` of block `b` is. -/
def rowOf (b : Fin 68) (a : Fin 256) : Fin 17408 := ⟨256 * b.val + a.val, by have := b.isLt; have := a.isLt; omega⟩

theorem emb_row (b : Fin 68) (a : Fin 256) (d : Fin 4096) :
   (Rect.unit (s := S17408x4096) (rowOff b) S256x4096.size (rowOff_inb b)).emb (ix2 a d) = ix2 (rowOf b a) d := by
  funext i
  fin_cases i
  · apply Fin.ext; show 256 * b.val + 1 * a.val = 256 * b.val + a.val; simp
  · apply Fin.ext; show 0 + 1 * d.val = d.val; simp

theorem read_h (b : Fin 68) (a : Fin 256) (d : Fin 4096) : (rowB hM b).view.read (Elt Ideal) H (ix2 a d) = H (ix2 (rowOf b a) d) :=
  congrArg H (emb_row b a d)

theorem read_y (b : Fin 68) (a : Fin 256) (d : Fin 4096) : (rowB yM b).view.read (Elt Ideal) Y (ix2 a d) = Y (ix2 (rowOf b a) d) :=
  congrArg Y (emb_row b a d)

theorem read_m (b : Fin 68) (a : Fin 9) (d : Fin 4096) : modOf c M b (ix3 0 a d) = M (ix3 ⟨b.val / 16, by have := b.isLt; omega⟩ a d) := by
  refine congrArg M ?_
  funext i
  fin_cases i
  · apply Fin.ext; show (Ring.bk 8 (b.val / 16)).val + 1 * 0 = b.val / 16; rw [Ring.bk_val] <;> (have := b.isLt; omega)
  · apply Fin.ext; show 0 + 1 * a.val = a.val; simp
  · apply Fin.ext; show 0 + 1 * d.val = d.val; simp

theorem read_g1 (d : Fin 4096) : gain1 c G (ix2 0 d) = G (ix2 1 d) := by
  refine congrArg G ?_
  funext i
  fin_cases i
  · rfl
  · apply Fin.ext; show 0 + 1 * d.val = d.val; simp

theorem read_g2 (d : Fin 4096) : gain2 c G (ix2 0 d) = G (ix2 2 d) := by
  refine congrArg G ?_
  funext i
  fin_cases i
  · rfl
  · apply Fin.ext; show 0 + 1 * d.val = d.val; simp

theorem mr_rowOf (b : Fin 68) (a : Fin 256) : Ref.mr (rowOf b a) = ⟨b.val / 16, by have := b.isLt; omega⟩ :=
  Fin.ext (by show (256 * b.val + a.val) / 4096 = b.val / 16; have := a.isLt; omega)

/-- Row `a` of block `b` of the new residual is the reference's row. -/
theorem hn_row (b : Fin 68) (a : Fin 256) (d : Fin 4096) : hnOf c Y H G M b (ix2 a d) = Ref.hnR Y H G M (rowOf b a) d := by
  unfold hnOf k0_pay4 k0_pay2 Ref.hnR Ref.hnE Ref.inv
  rw [mr_rowOf]
  pointwise
  simp only [read_h, read_y, read_m, read_g1]

/-- Row `a` of block `b` of the next branch's input is the reference's row. -/
theorem u_row (b : Fin 68) (a : Fin 256) (d : Fin 4096) : uOf c Y H G M b (ix2 a d) = Ref.uR Y H G M (rowOf b a) d := by
  have e : k0_pay4 ((rowB hM b).view.read (Elt Ideal) H) (k0_pay2 (modOf c M b))
      (extf .f32 ((rowB yM b).view.read (Elt Ideal) Y : FVec Ideal S256x4096 .bf16) bitsLt_bf16_f32) (gain1 c G) = hnOf c Y H G M b := rfl
  unfold uOf k0_pay9 k0_pay8 k0_pay7 k0_pay6 Ref.uR Ref.uE Ref.inv
  rw [mr_rowOf]
  pointwise
  simp only [e, hn_row, read_m, read_g2]

/-- A whole array known block by block is known row by row. -/
theorem whole_of_blocks {e : EltTy} (X Z : S17408x4096.Idx → Elt Ideal e)
    (h : ∀ b : Fin 68, ∀ a : Fin 256, ∀ d : Fin 4096, X (ix2 (rowOf b a) d) = Z (ix2 (rowOf b a) d)) : X = Z := by
  funext i
  obtain ⟨r, d, rfl⟩ : ∃ (r : Fin 17408) (d : Fin 4096), i = ix2 r d := ⟨i 0, i 1, eq_ix2 i⟩
  have hr := r.isLt
  have e : r = rowOf ⟨r.val / 256, by omega⟩ ⟨r.val % 256, Nat.mod_lt _ (by norm_num)⟩ :=
    Fin.ext (by show r.val = 256 * (r.val / 256) + r.val % 256; omega)
  rw [e]
  exact h _ _ _

/-- The first array left, block by block the program's, is the reference's. -/
theorem out_hn (X : Buf (Elt Ideal) (oM.view.loc (c : Thread nD τ))) (h : ∀ b, (rowB oM b).view.read (Elt Ideal) X = hnOf c Y H G M b) :
    X = Ref.hnT Y H G M :=
  whole_of_blocks (e := .f32) X _ fun b a d =>
    ((congrArg X (emb_row b a d)).symm.trans (congrFun (h b) (ix2 a d))).trans
      ((hn_row c Y H G M b a d).trans (Ref.hnT_apply Y H G M _ d).symm)

/-- The second array left, block by block the program's, is the reference's. -/
theorem out_u (X : Buf (Elt Ideal) (uM.view.loc (c : Thread nD τ))) (h : ∀ b, (rowB uM b).view.read (Elt Ideal) X = uOf c Y H G M b) :
    X = Ref.uT Y H G M :=
  whole_of_blocks (e := .bf16) X _ fun b a d =>
    ((congrArg X (emb_row b a d)).symm.trans (congrFun (h b) (ix2 a d))).trans
      ((u_row c Y H G M b a d).trans (Ref.uT_apply Y H G M _ d).symm)
end

/-- The program's run with both results as the reference's functions of the arguments. -/
theorem run_value (m : (ℓ : Loc nD τ sig) → Buf (Elt Ideal) ℓ) (ρ : Dev nD → PrngReg) :
    θ_run defs (onTc (τ := τ) (main (F := Ideal))) (s₀ m ρ) (fun r => ∀ c : Dev nD,
      r.2.mem ((c.tc : Thread nD τ).loc main_v0_0) = Ref.hnT (aY m c) (aH m c) (aG m c) (aM m c)
      ∧ r.2.mem ((c.tc : Thread nD τ).loc main_v0_1) = Ref.uT (aY m c) (aH m c) (aG m c) (aM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => by
    obtain ⟨h0, h1, h2, h3, ho, hu⟩ := h.1 c
    exact ⟨out_hn c _ _ _ _ _ ho, out_u c _ _ _ _ _ hu, h0, h1, h2, h3⟩) (run_main m ρ)

end Cert.Proof.PostPre
end
-- ==== Proof.FfnIn.Value.lean ====
/- The feed-forward's input product and its gate: block by block, the arrays the program leaves are the reference's, at the ideal instance. -/
module

public import proofs.«01_k».proof.Proof.Gen.FfnInIdeal.Value
public import proofs.«01_k».proof.Proof.Gen.FfnInRefIdeal.Run
public import Idealize.ShloMosaic.Lib.Pointwise

@[expose] public section

noncomputable section

namespace Cert.Proof.FfnIn

open Cert.FfnInIdeal Cert.FfnInIdeal.Gen
open Idealize.ShloMosaic Idealize.ShloMosaic.TcCoe Idealize.SL.Sem
open Idealize.ShloMosaic.Pipeline (Dat Window)

/-- The gated product from its two sums: the gate times its logistic function, times the other. -/
def swi (g u : EReal) : EReal := g * Ideal.logistic g * u

/-- The gated product at an index: the gate is a column of the weight's first half, the other the same column of its second half. -/
def yT (X : FVec Ideal S17408x4096 .bf16) (W : FVec Ideal S4096x11264 .bf16) : FVec Ideal S17408x5632 .bf16 :=
  fun i => swi (∑ k : Fin 4096, X (ix2 (i 0) k) * W (ix2 k ⟨(i 1).val, by have h : (i 1).val < 5632 := (i 1).isLt; omega⟩))
    (∑ k : Fin 4096, X (ix2 (i 0) k) * W (ix2 k ⟨5632 + (i 1).val, by have h : (i 1).val < 5632 := (i 1).isLt; omega⟩))

/-- The next product's weight: its matrix of the stack. -/
def nT (W : FVec Ideal S4x2x5632x4096 .f32) : FVec Ideal S5632x4096 .bf16 :=
  fun i => W (ix4 0 0 (i 0) (i 1))

/-- The reference's next weight is the one above. -/
theorem ref_n (W : FVec Ideal S4x2x5632x4096 .f32) :
    (truncf .bf16 (shapeCast _ (extractStridedSlice Cert.FfnInRefIdeal.S1x1x5632x4096 ![0, 0, 0, 0] W Cert.FfnInRefIdeal.Facts₀.slices_S4x2x5632x4096_S1x1x5632x4096_0_0_0_0)
      Cert.FfnInRefIdeal.Facts₀.shapeCasts_S1x1x5632x4096_S5632x4096) Cert.FfnInRefIdeal.Facts₀.bitsLt_bf16_f32 : FVec Ideal S5632x4096 .bf16) = nT W := by
  funext i
  obtain ⟨r, f, rfl⟩ : ∃ (r : Fin 5632) (f : Fin 4096), i = ix2 r f := ⟨i 0, i 1, eq_ix2 i⟩
  unfold nT
  pointwise

/-- A block of the gated product at an index. -/
theorem pay_y (x : Vec Ideal S1024x4096 .bf16) (w w' : Vec Ideal S4096x512 .bf16) (a : Fin 1024) (b : Fin 512) :
    k0_pay2 x w w' (ix2 a b) = swi (∑ k : Fin 4096, x (ix2 a k) * w (ix2 k b)) (∑ k : Fin 4096, x (ix2 a k) * w' (ix2 k b)) := by
  unfold k0_pay2 swi
  pointwise

/-- A slab of the next weight at an index. -/
theorem pay_n (w : Vec Ideal S1x1x32x4096 .f32) (a : Fin 32) (b : Fin 4096) : k0_pay1 w (ix2 a b) = w (ix4 0 0 a b) := by
  unfold k0_pay1
  pointwise

variable (m : (ℓ : Loc nD τ sig) → Buf (Elt Ideal) ℓ) (ρ : Dev nD → PrngReg)

/-- The rows the product takes. -/
abbrev aX (c : Dev nD) : FVec Ideal S17408x4096 .bf16 := m ((c : Thread nD τ).loc main_arg0)
/-- The weight the product takes. -/
abbrev aW (c : Dev nD) : FVec Ideal S4096x11264 .bf16 := m ((c : Thread nD τ).loc main_arg1)
/-- The next product's weights, stacked. -/
abbrev aN (c : Dev nD) : FVec Ideal S4x2x5632x4096 .f32 := m ((c : Thread nD τ).loc main_arg2)

/-! Which block each window takes at a point. -/
theorem at0 : ∀ t : Fin grid0.N, win0_0.index t 0 = t.val / 11 ∧ win0_0.index t 1 = 0 := by decide +kernel
theorem at1 : ∀ t : Fin grid0.N, win0_1.index t 0 = 0 ∧ win0_1.index t 1 = t.val % 11 := by decide +kernel
theorem at2 : ∀ t : Fin grid0.N, win0_2.index t 0 = 0 ∧ win0_2.index t 1 = t.val % 11 + 11 := by decide +kernel
theorem at3 : ∀ t : Fin grid0.N, win0_3.index t 0 = 0 ∧ win0_3.index t 1 = 0 ∧ win0_3.index t 2 = min t.val 175 ∧ win0_3.index t 3 = 0 := by decide +kernel
theorem at4 : ∀ t : Fin grid0.N, win0_4.index t 0 = t.val / 11 ∧ win0_4.index t 1 = t.val % 11 := by decide +kernel
theorem at5 : ∀ t : Fin grid0.N, win0_5.index t 0 = min t.val 175 ∧ win0_5.index t 1 = 0 := by decide +kernel
theorem fl4 : ∀ t : Fin grid0.N, win0_4.flush t = true := by decide +kernel
theorem fl5 : ∀ t : Fin grid0.N, t.val < 175 ∨ t.val = 186 → win0_5.flush t = true := by decide +kernel

/-- The row of the array that row `a` of point `t`'s block is. -/
def rowAt (t : Fin grid0.N) (a : Fin 1024) : Fin 17408 := ⟨t.val / 11 * 1024 + a.val, by have : t.val < 187 := t.isLt; have := a.isLt; omega⟩
/-- The column of the array that column `b` of point `t`'s block is. -/
def colAt (t : Fin grid0.N) (b : Fin 512) : Fin 5632 := ⟨t.val % 11 * 512 + b.val, by have := b.isLt; omega⟩
/-- The row of the next weight that row `a` of point `t`'s slab is. -/
def slabAt (t : Fin grid0.N) (a : Fin 32) : Fin 5632 := ⟨min t.val 175 * 32 + a.val, by have := a.isLt; omega⟩
/-- The column of the weight's first half that column `b` of point `t`'s block is. -/
def gateAt (t : Fin grid0.N) (b : Fin 512) : Fin 11264 := ⟨t.val % 11 * 512 + b.val, by have := b.isLt; omega⟩
/-- The column of the weight's second half that column `b` of point `t`'s block is. -/
def upAt (t : Fin grid0.N) (b : Fin 512) : Fin 11264 := ⟨5632 + (t.val % 11 * 512 + b.val), by have := b.isLt; omega⟩

theorem emb0 (t : Fin grid0.N) (a : Fin 1024) (k : Fin 4096) : (win0_0.rect t).emb (ix2 a k) = ix2 (rowAt t a) k := by
  funext i
  fin_cases i <;> apply Fin.ext
  · refine (win0_0.rect_emb_val t _ 0).trans ?_
    rw [(at0 t).1]; rfl
  · refine (win0_0.rect_emb_val t _ 1).trans ?_
    rw [(at0 t).2]; show 0 * 4096 + k.val = k.val; omega

theorem emb1 (t : Fin grid0.N) (k : Fin 4096) (b : Fin 512) : (win0_1.rect t).emb (ix2 k b) = ix2 k (gateAt t b) := by
  funext i
  fin_cases i <;> apply Fin.ext
  · refine (win0_1.rect_emb_val t _ 0).trans ?_
    rw [(at1 t).1]; show 0 * 4096 + k.val = k.val; omega
  · refine (win0_1.rect_emb_val t _ 1).trans ?_
    rw [(at1 t).2]; rfl

theorem emb2 (t : Fin grid0.N) (k : Fin 4096) (b : Fin 512) : (win0_2.rect t).emb (ix2 k b) = ix2 k (upAt t b) := by
  funext i
  fin_cases i <;> apply Fin.ext
  · refine (win0_2.rect_emb_val t _ 0).trans ?_
    rw [(at2 t).1]; show 0 * 4096 + k.val = k.val; omega
  · refine (win0_2.rect_emb_val t _ 1).trans ?_
    rw [(at2 t).2]; show (t.val % 11 + 11) * 512 + b.val = 5632 + (t.val % 11 * 512 + b.val); omega

theorem emb3 (t : Fin grid0.N) (z0 : Fin 1) (z1 : Fin 1) (a : Fin 32) (b : Fin 4096) : (win0_3.rect t).emb (ix4 z0 z1 a b) = ix4 0 0 (slabAt t a) b := by
  funext i
  fin_cases i <;> apply Fin.ext
  · refine (win0_3.rect_emb_val t _ 0).trans ?_
    rw [(at3 t).1]; show 0 * 1 + z0.val = 0; omega
  · refine (win0_3.rect_emb_val t _ 1).trans ?_
    rw [(at3 t).2.1]; show 0 * 1 + z1.val = 0; omega
  · refine (win0_3.rect_emb_val t _ 2).trans ?_
    rw [(at3 t).2.2.1]; rfl
  · refine (win0_3.rect_emb_val t _ 3).trans ?_
    rw [(at3 t).2.2.2]; show 0 * 4096 + b.val = b.val; omega

theorem emb4 (t : Fin grid0.N) (a : Fin 1024) (b : Fin 512) : (win0_4.rect t).emb (ix2 a b) = ix2 (rowAt t a) (colAt t b) := by
  funext i
  fin_cases i <;> apply Fin.ext
  · refine (win0_4.rect_emb_val t _ 0).trans ?_
    rw [(at4 t).1]; rfl
  · refine (win0_4.rect_emb_val t _ 1).trans ?_
    rw [(at4 t).2]; rfl

theorem emb5 (t : Fin grid0.N) (a : Fin 32) (b : Fin 4096) : (win0_5.rect t).emb (ix2 a b) = ix2 (slabAt t a) b := by
  funext i
  fin_cases i <;> apply Fin.ext
  · refine (win0_5.rect_emb_val t _ 0).trans ?_
    rw [(at5 t).1]; rfl
  · refine (win0_5.rect_emb_val t _ 1).trans ?_
    rw [(at5 t).2]; show 0 * 4096 + b.val = b.val; omega

theorem blk0 (c : Dev nD) (t : Fin grid0.N) (a : Fin 1024) (k : Fin 4096) : iblk m c 0 t (ix2 a k) = aX m c (ix2 (rowAt t a) k) :=
  congrArg (aX m c) (emb0 t a k)
theorem blk1 (c : Dev nD) (t : Fin grid0.N) (k : Fin 4096) (b : Fin 512) : iblk m c 1 t (ix2 k b) = aW m c (ix2 k (gateAt t b)) :=
  congrArg (aW m c) (emb1 t k b)
theorem blk2 (c : Dev nD) (t : Fin grid0.N) (k : Fin 4096) (b : Fin 512) : iblk m c 2 t (ix2 k b) = aW m c (ix2 k (upAt t b)) :=
  congrArg (aW m c) (emb2 t k b)
theorem blk3 (c : Dev nD) (t : Fin grid0.N) (z0 : Fin 1) (z1 : Fin 1) (a : Fin 32) (b : Fin 4096) :
    iblk m c 3 t (ix4 z0 z1 a b) = aN m c (ix4 0 0 (slabAt t a) b) :=
  congrArg (aN m c) (emb3 t z0 z1 a b)

set_option maxRecDepth 65536 in
/-- What point `t` writes back is its block of the product. -/
theorem wrote4 (c : Dev nD) (t : Fin grid0.N) (hf : (cfg0.win 4).flush t = true) :
    (dats m 0 c).flushed 4 t = ((cfg0.win 4).blk t).view.read (Elt Ideal) (yT (aX m c) (aW m c)) := by
  rw [Value.flushed4]
  funext y
  obtain ⟨a, b, rfl⟩ : ∃ (a : Fin 1024) (b : Fin 512), y = ix2 a b := ⟨y 0, y 1, eq_ix2 y⟩
  refine Eq.trans ?_ (congrArg (yT (aX m c) (aW m c)) (emb4 t a b)).symm
  show out0_4 (iblk m c 0 t) (iblk m c 1 t) (iblk m c 2 t) (iblk m c 3 t) (ix2 a b) = _
  unfold out0_4
  rw [View.canon_unit_zero (by funext i; fin_cases i <;> rfl), pay_y]
  rw [View.ld_unit_zero (by funext i; fin_cases i <;> rfl), View.ld_unit_zero (by funext i; fin_cases i <;> rfl), View.ld_unit_zero (by funext i; fin_cases i <;> rfl)]
  exact congrArg₂ swi (Finset.sum_congr rfl fun k _ => congrArg₂ (· * ·) (blk0 m c t a k) (blk1 m c t k b))
    (Finset.sum_congr rfl fun k _ => congrArg₂ (· * ·) (blk0 m c t a k) (blk2 m c t k b))

set_option maxRecDepth 65536 in
/-- What point `t` writes back is its slab of the next weight. -/
theorem wrote5 (c : Dev nD) (t : Fin grid0.N) (hf : (cfg0.win 5).flush t = true) :
    (dats m 0 c).flushed 5 t = ((cfg0.win 5).blk t).view.read (Elt Ideal) (nT (aN m c)) := by
  rw [Value.flushed5]
  funext y
  obtain ⟨a, b, rfl⟩ : ∃ (a : Fin 32) (b : Fin 4096), y = ix2 a b := ⟨y 0, y 1, eq_ix2 y⟩
  refine Eq.trans ?_ (congrArg (nT (aN m c)) (emb5 t a b)).symm
  show out0_5 (iblk m c 0 t) (iblk m c 1 t) (iblk m c 2 t) (iblk m c 3 t) (ix2 a b) = _
  unfold out0_5
  rw [View.canon_unit_zero (by funext i; fin_cases i <;> rfl), pay_n, View.ld_unit_zero (by funext i; fin_cases i <;> rfl)]
  exact blk3 m c t 0 0 a b

/-- Every index of the product lies in a block. -/
theorem cover4 (i : S17408x5632.Idx) : ∃ t : Fin grid0.N, (cfg0.win 4).flush t = true ∧ i ∈ ((cfg0.win 4).blk t).view.set := by
  obtain ⟨r, f, rfl⟩ : ∃ (r : Fin 17408) (f : Fin 5632), i = ix2 r f := ⟨i 0, i 1, eq_ix2 i⟩
  have hr := r.isLt
  have hf := f.isLt
  have ht : r.val / 1024 * 11 + f.val / 512 < 187 := by omega
  refine ⟨⟨_, ht⟩, fl4 _, ?_⟩
  have e : ix2 r f = (win0_4.rect ⟨_, ht⟩).emb (ix2 (⟨r.val % 1024, Nat.mod_lt _ (by norm_num)⟩ : Fin 1024) (⟨f.val % 512, Nat.mod_lt _ (by norm_num)⟩ : Fin 512)) := by
    rw [emb4]
    congr 1 <;> apply Fin.ext <;> simp only [rowAt, colAt] <;> omega
  rw [e]
  exact ((cfg0.win 4).blk ⟨_, ht⟩).view.emb_mem_set _

/-- Every index of the next weight lies in a slab. -/
theorem cover5 (i : S5632x4096.Idx) : ∃ t : Fin grid0.N, (cfg0.win 5).flush t = true ∧ i ∈ ((cfg0.win 5).blk t).view.set := by
  obtain ⟨r, f, rfl⟩ : ∃ (r : Fin 5632) (f : Fin 4096), i = ix2 r f := ⟨i 0, i 1, eq_ix2 i⟩
  have hr := r.isLt
  obtain ⟨t, ht, hs⟩ : ∃ t : Fin grid0.N, (t.val < 175 ∨ t.val = 186) ∧ min t.val 175 = r.val / 32 := by
    by_cases h : r.val / 32 < 175
    · exact ⟨⟨r.val / 32, by show _ < 187; omega⟩, Or.inl h, by simp only; omega⟩
    · exact ⟨⟨186, by show _ < 187; omega⟩, Or.inr rfl, by simp only; omega⟩
  refine ⟨t, fl5 t ht, ?_⟩
  have e : ix2 r f = (win0_5.rect t).emb (ix2 (⟨r.val % 32, Nat.mod_lt _ (by norm_num)⟩ : Fin 32) f) := by
    rw [emb5]
    congr 1; apply Fin.ext; simp only [slabAt, hs]; omega
  rw [e]
  exact ((cfg0.win 5).blk t).view.emb_mem_set _

/-- The program's run with both results as functions of the arguments. -/
theorem run_value : θ_run defs (onTc (τ := τ) (main (F := Ideal))) ⟨m, fun _ => 0, ρ⟩ fun r => ∀ c : Dev nD,
      r.2.mem ((c : Thread nD τ).loc main_v0_0) = yT (aX m c) (aW m c)
      ∧ r.2.mem ((c : Thread nD τ).loc main_v0_1) = nT (aN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
    ⟨(h c).1.trans ((dats m 0 c).arrAt_eq_of_cover 4 _ (wrote4 m c) cover4),
      (h c).2.1.trans ((dats m 0 c).arrAt_eq_of_cover 5 _ (wrote5 m c) cover5), (h c).2.2⟩) (Value.run_blocks m ρ)

/-- The reference's gated product is the one above. -/
theorem ref_y (X : FVec Ideal S17408x4096 .bf16) (W : FVec Ideal S4096x11264 .bf16) (P : FVec Ideal Cert.FfnInRefIdeal.S17408x11264 .f32)
    (hP : P = Host.dotGeneral Cert.FfnInRefIdeal.dot_S17408x4096_S4096x11264_S17408x11264_1_0_0_1_n_n none
      (extf .f32 X Cert.FfnInRefIdeal.Facts₀.bitsLt_bf16_f32) (extf .f32 W Cert.FfnInRefIdeal.Facts₀.bitsLt_bf16_f32)) :
    (truncf .bf16 (mulf (mulf (extractStridedSlice S17408x5632 ![0, 0] P Cert.FfnInRefIdeal.Facts₀.slices_S17408x11264_S17408x5632_0_0)
      (Host.divf (broadcastInDim S17408x5632 ![] Cert.FfnInRefIdeal.Facts₀.bcast_S_S17408x5632 (constant Cert.FfnInRefIdeal.S_ .f32 0x3F800000#32))
        (addf (broadcastInDim S17408x5632 ![] Cert.FfnInRefIdeal.Facts₀.bcast_S_S17408x5632 (constant Cert.FfnInRefIdeal.S_ .f32 0x3F800000#32))
          (Host.exp (Host.negf (extractStridedSlice S17408x5632 ![0, 0] P Cert.FfnInRefIdeal.Facts₀.slices_S17408x11264_S17408x5632_0_0))))))
      (extractStridedSlice S17408x5632 ![0, 5632] P Cert.FfnInRefIdeal.Facts₀.slices_S17408x11264_S17408x5632_0_5632)) Cert.FfnInRefIdeal.Facts₀.bitsLt_bf16_f32
      : FVec Ideal S17408x5632 .bf16) = yT X W := by
  funext i
  obtain ⟨r, f, rfl⟩ : ∃ (r : Fin 17408) (f : Fin 5632), i = ix2 r f := ⟨i 0, i 1, eq_ix2 i⟩
  subst hP
  unfold yT swi Ideal.logistic
  pointwise

end Cert.Proof.FfnIn
end
-- ==== Proof.FfnOut.Value.lean ====
/- The feed-forward's output product: block by block, the arrays the program leaves are the reference's, at the ideal instance. -/
module

public import proofs.«01_k».proof.Proof.Gen.FfnOutIdeal.Value
public import proofs.«01_k».proof.Proof.Gen.FfnOutRefIdeal.Run
public import Idealize.ShloMosaic.Lib.Pointwise

@[expose] public section

noncomputable section

namespace Cert.Proof.FfnOut

open Cert.FfnOutIdeal Cert.FfnOutIdeal.Gen
open Idealize.ShloMosaic Idealize.ShloMosaic.TcCoe Idealize.SL.Sem
open Idealize.ShloMosaic.Pipeline (Dat Window)

/-- The product at an index: a row of the one times a column of the other. -/
def yT (X : FVec Ideal S17408x5632 .bf16) (W : FVec Ideal S5632x4096 .bf16) : FVec Ideal S17408x4096 .bf16 :=
  fun i => ∑ k : Fin 5632, X (ix2 (i 0) k) * W (ix2 k (i 1))

/-- The next product's weight: its matrix of the stack. -/
def nT (W : FVec Ideal S2x4096x12288 .f32) : FVec Ideal S4096x12288 .bf16 :=
  fun i => W (ix3 0 (i 0) (i 1))

/-- The reference's product is the one above. -/
theorem ref_y (X : FVec Ideal S17408x5632 .bf16) (W : FVec Ideal S5632x4096 .bf16) :
    (truncf .bf16 (Host.dotGeneral Cert.FfnOutRefIdeal.dot_S17408x5632_S5632x4096_S17408x4096_1_0_0_1_n_n none
      (extf .f32 X Cert.FfnOutRefIdeal.Facts₀.bitsLt_bf16_f32) (extf .f32 W Cert.FfnOutRefIdeal.Facts₀.bitsLt_bf16_f32)) Cert.FfnOutRefIdeal.Facts₀.bitsLt_bf16_f32
      : FVec Ideal S17408x4096 .bf16) = yT X W := by
  funext i
  obtain ⟨r, f, rfl⟩ : ∃ (r : Fin 17408) (f : Fin 4096), i = ix2 r f := ⟨i 0, i 1, eq_ix2 i⟩
  unfold yT
  pointwise

/-- The reference's next weight is the one above. -/
theorem ref_n (W : FVec Ideal S2x4096x12288 .f32) :
    (truncf .bf16 (shapeCast _ (extractStridedSlice Cert.FfnOutRefIdeal.S1x4096x12288 ![0, 0, 0] W Cert.FfnOutRefIdeal.Facts₀.slices_S2x4096x12288_S1x4096x12288_0_0_0)
      Cert.FfnOutRefIdeal.Facts₀.shapeCasts_S1x4096x12288_S4096x12288) Cert.FfnOutRefIdeal.Facts₀.bitsLt_bf16_f32 : FVec Ideal S4096x12288 .bf16) = nT W := by
  funext i
  obtain ⟨r, f, rfl⟩ : ∃ (r : Fin 4096) (f : Fin 12288), i = ix2 r f := ⟨i 0, i 1, eq_ix2 i⟩
  unfold nT
  pointwise

/-- A block of the product at an index. -/
theorem pay_y (x : Vec Ideal S1024x5632 .bf16) (w : Vec Ideal S5632x512 .bf16) (a : Fin 1024) (b : Fin 512) :
    k0_pay2 x w (ix2 a b) = ∑ k : Fin 5632, x (ix2 a k) * w (ix2 k b) := by
  unfold k0_pay2
  pointwise

/-- A slab of the next weight at an index. -/
theorem pay_n (w : Vec Ideal S1x32x12288 .f32) (a : Fin 32) (b : Fin 12288) : k0_pay1 w (ix2 a b) = w (ix3 0 a b) := by
  unfold k0_pay1
  pointwise

variable (m : (ℓ : Loc nD τ sig) → Buf (Elt Ideal) ℓ) (ρ : Dev nD → PrngReg)

/-- The rows the product takes. -/
abbrev aX (c : Dev nD) : FVec Ideal S17408x5632 .bf16 := m ((c : Thread nD τ).loc main_arg0)
/-- The weight the product takes. -/
abbrev aW (c : Dev nD) : FVec Ideal S5632x4096 .bf16 := m ((c : Thread nD τ).loc main_arg1)
/-- The next product's weights, stacked. -/
abbrev aN (c : Dev nD) : FVec Ideal S2x4096x12288 .f32 := m ((c : Thread nD τ).loc main_arg2)

/-! Which block each window takes at a point. -/
theorem at0 : ∀ t : Fin grid0.N, win0_0.index t 0 = t.val / 8 ∧ win0_0.index t 1 = 0 := by decide +kernel
theorem at1 : ∀ t : Fin grid0.N, win0_1.index t 0 = 0 ∧ win0_1.index t 1 = t.val % 8 := by decide +kernel
theorem at2 : ∀ t : Fin grid0.N, win0_2.index t 0 = 0 ∧ win0_2.index t 1 = min t.val 127 ∧ win0_2.index t 2 = 0 := by decide +kernel
theorem at3 : ∀ t : Fin grid0.N, win0_3.index t 0 = t.val / 8 ∧ win0_3.index t 1 = t.val % 8 := by decide +kernel
theorem at4 : ∀ t : Fin grid0.N, win0_4.index t 0 = min t.val 127 ∧ win0_4.index t 1 = 0 := by decide +kernel
theorem fl3 : ∀ t : Fin grid0.N, win0_3.flush t = true := by decide +kernel
theorem fl4 : ∀ t : Fin grid0.N, t.val < 127 ∨ t.val = 135 → win0_4.flush t = true := by decide +kernel

/-- The row of the array that row `a` of point `t`'s block is. -/
def rowAt (t : Fin grid0.N) (a : Fin 1024) : Fin 17408 := ⟨t.val / 8 * 1024 + a.val, by have : t.val < 136 := t.isLt; have := a.isLt; omega⟩
/-- The column of the array that column `b` of point `t`'s block is. -/
def colAt (t : Fin grid0.N) (b : Fin 512) : Fin 4096 := ⟨t.val % 8 * 512 + b.val, by have := b.isLt; omega⟩
/-- The row of the next weight that row `a` of point `t`'s slab is. -/
def slabAt (t : Fin grid0.N) (a : Fin 32) : Fin 4096 := ⟨min t.val 127 * 32 + a.val, by have := a.isLt; omega⟩

theorem emb0 (t : Fin grid0.N) (a : Fin 1024) (k : Fin 5632) : (win0_0.rect t).emb (ix2 a k) = ix2 (rowAt t a) k := by
  funext i
  fin_cases i <;> apply Fin.ext
  · refine (win0_0.rect_emb_val t _ 0).trans ?_
    rw [(at0 t).1]; rfl
  · refine (win0_0.rect_emb_val t _ 1).trans ?_
    rw [(at0 t).2]; show 0 * 5632 + k.val = k.val; omega

theorem emb1 (t : Fin grid0.N) (k : Fin 5632) (b : Fin 512) : (win0_1.rect t).emb (ix2 k b) = ix2 k (colAt t b) := by
  funext i
  fin_cases i <;> apply Fin.ext
  · refine (win0_1.rect_emb_val t _ 0).trans ?_
    rw [(at1 t).1]; show 0 * 5632 + k.val = k.val; omega
  · refine (win0_1.rect_emb_val t _ 1).trans ?_
    rw [(at1 t).2]; rfl

theorem emb2 (t : Fin grid0.N) (z0 : Fin 1) (a : Fin 32) (b : Fin 12288) : (win0_2.rect t).emb (ix3 z0 a b) = ix3 0 (slabAt t a) b := by
  funext i
  fin_cases i <;> apply Fin.ext
  · refine (win0_2.rect_emb_val t _ 0).trans ?_
    rw [(at2 t).1]; show 0 * 1 + z0.val = 0; omega
  · refine (win0_2.rect_emb_val t _ 1).trans ?_
    rw [(at2 t).2.1]; rfl
  · refine (win0_2.rect_emb_val t _ 2).trans ?_
    rw [(at2 t).2.2]; show 0 * 12288 + b.val = b.val; omega

theorem emb3 (t : Fin grid0.N) (a : Fin 1024) (b : Fin 512) : (win0_3.rect t).emb (ix2 a b) = ix2 (rowAt t a) (colAt t b) := by
  funext i
  fin_cases i <;> apply Fin.ext
  · refine (win0_3.rect_emb_val t _ 0).trans ?_
    rw [(at3 t).1]; rfl
  · refine (win0_3.rect_emb_val t _ 1).trans ?_
    rw [(at3 t).2]; rfl

theorem emb4 (t : Fin grid0.N) (a : Fin 32) (b : Fin 12288) : (win0_4.rect t).emb (ix2 a b) = ix2 (slabAt t a) b := by
  funext i
  fin_cases i <;> apply Fin.ext
  · refine (win0_4.rect_emb_val t _ 0).trans ?_
    rw [(at4 t).1]; rfl
  · refine (win0_4.rect_emb_val t _ 1).trans ?_
    rw [(at4 t).2]; show 0 * 12288 + b.val = b.val; omega

theorem blk0 (c : Dev nD) (t : Fin grid0.N) (a : Fin 1024) (k : Fin 5632) : iblk m c 0 t (ix2 a k) = aX m c (ix2 (rowAt t a) k) :=
  congrArg (aX m c) (emb0 t a k)
theorem blk1 (c : Dev nD) (t : Fin grid0.N) (k : Fin 5632) (b : Fin 512) : iblk m c 1 t (ix2 k b) = aW m c (ix2 k (colAt t b)) :=
  congrArg (aW m c) (emb1 t k b)
theorem blk2 (c : Dev nD) (t : Fin grid0.N) (z0 : Fin 1) (a : Fin 32) (b : Fin 12288) :
    iblk m c 2 t (ix3 z0 a b) = aN m c (ix3 0 (slabAt t a) b) :=
  congrArg (aN m c) (emb2 t z0 a b)

set_option maxRecDepth 65536 in
/-- What point `t` writes back is its block of the product. -/
theorem wrote3 (c : Dev nD) (t : Fin grid0.N) (hf : (cfg0.win 3).flush t = true) :
    (dats m 0 c).flushed 3 t = ((cfg0.win 3).blk t).view.read (Elt Ideal) (yT (aX m c) (aW m c)) := by
  rw [Value.flushed3]
  funext y
  obtain ⟨a, b, rfl⟩ : ∃ (a : Fin 1024) (b : Fin 512), y = ix2 a b := ⟨y 0, y 1, eq_ix2 y⟩
  refine Eq.trans ?_ (congrArg (yT (aX m c) (aW m c)) (emb3 t a b)).symm
  show out0_3 (iblk m c 0 t) (iblk m c 1 t) (iblk m c 2 t) (ix2 a b) = _
  unfold out0_3
  rw [View.canon_unit_zero (by funext i; fin_cases i <;> rfl), pay_y]
  refine Finset.sum_congr rfl fun k _ => ?_
  rw [View.ld_unit_zero (by funext i; fin_cases i <;> rfl), View.ld_unit_zero (by funext i; fin_cases i <;> rfl)]
  exact congrArg₂ (· * ·) (blk0 m c t a k) (blk1 m c t k b)

set_option maxRecDepth 65536 in
/-- What point `t` writes back is its slab of the next weight. -/
theorem wrote4 (c : Dev nD) (t : Fin grid0.N) (hf : (cfg0.win 4).flush t = true) :
    (dats m 0 c).flushed 4 t = ((cfg0.win 4).blk t).view.read (Elt Ideal) (nT (aN m c)) := by
  rw [Value.flushed4]
  funext y
  obtain ⟨a, b, rfl⟩ : ∃ (a : Fin 32) (b : Fin 12288), y = ix2 a b := ⟨y 0, y 1, eq_ix2 y⟩
  refine Eq.trans ?_ (congrArg (nT (aN m c)) (emb4 t a b)).symm
  show out0_4 (iblk m c 0 t) (iblk m c 1 t) (iblk m c 2 t) (ix2 a b) = _
  unfold out0_4
  rw [View.canon_unit_zero (by funext i; fin_cases i <;> rfl), pay_n, View.ld_unit_zero (by funext i; fin_cases i <;> rfl)]
  exact blk2 m c t 0 a b

/-- Every index of the product lies in a block. -/
theorem cover3 (i : S17408x4096.Idx) : ∃ t : Fin grid0.N, (cfg0.win 3).flush t = true ∧ i ∈ ((cfg0.win 3).blk t).view.set := by
  obtain ⟨r, f, rfl⟩ : ∃ (r : Fin 17408) (f : Fin 4096), i = ix2 r f := ⟨i 0, i 1, eq_ix2 i⟩
  have hr := r.isLt
  have hf := f.isLt
  have ht : r.val / 1024 * 8 + f.val / 512 < 136 := by omega
  refine ⟨⟨_, ht⟩, fl3 _, ?_⟩
  have e : ix2 r f = (win0_3.rect ⟨_, ht⟩).emb (ix2 (⟨r.val % 1024, Nat.mod_lt _ (by norm_num)⟩ : Fin 1024) (⟨f.val % 512, Nat.mod_lt _ (by norm_num)⟩ : Fin 512)) := by
    rw [emb3]
    congr 1 <;> apply Fin.ext <;> simp only [rowAt, colAt] <;> omega
  rw [e]
  exact ((cfg0.win 3).blk ⟨_, ht⟩).view.emb_mem_set _

/-- Every index of the next weight lies in a slab. -/
theorem cover4 (i : S4096x12288.Idx) : ∃ t : Fin grid0.N, (cfg0.win 4).flush t = true ∧ i ∈ ((cfg0.win 4).blk t).view.set := by
  obtain ⟨r, f, rfl⟩ : ∃ (r : Fin 4096) (f : Fin 12288), i = ix2 r f := ⟨i 0, i 1, eq_ix2 i⟩
  have hr := r.isLt
  obtain ⟨t, ht, hs⟩ : ∃ t : Fin grid0.N, (t.val < 127 ∨ t.val = 135) ∧ min t.val 127 = r.val / 32 := by
    by_cases h : r.val / 32 < 127
    · exact ⟨⟨r.val / 32, by show _ < 136; omega⟩, Or.inl h, by simp only; omega⟩
    · exact ⟨⟨135, by show _ < 136; omega⟩, Or.inr rfl, by simp only; omega⟩
  refine ⟨t, fl4 t ht, ?_⟩
  have e : ix2 r f = (win0_4.rect t).emb (ix2 (⟨r.val % 32, Nat.mod_lt _ (by norm_num)⟩ : Fin 32) f) := by
    rw [emb4]
    congr 1; apply Fin.ext; simp only [slabAt, hs]; omega
  rw [e]
  exact ((cfg0.win 4).blk t).view.emb_mem_set _

/-- The program's run with both results as functions of the arguments. -/
theorem run_value : θ_run defs (onTc (τ := τ) (main (F := Ideal))) ⟨m, fun _ => 0, ρ⟩ fun r => ∀ c : Dev nD,
      r.2.mem ((c : Thread nD τ).loc main_v0_0) = yT (aX m c) (aW m c)
      ∧ r.2.mem ((c : Thread nD τ).loc main_v0_1) = nT (aN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
    ⟨(h c).1.trans ((dats m 0 c).arrAt_eq_of_cover 3 _ (wrote3 m c) cover3),
      (h c).2.1.trans ((dats m 0 c).arrAt_eq_of_cover 4 _ (wrote4 m c) cover4), (h c).2.2⟩) (Value.run_blocks m ρ)

end Cert.Proof.FfnOut
end
-- ==== Proof.MixIn.Value.lean ====
/- The mixer's projection: block by block, the arrays the program leaves are the reference's, at the ideal instance. -/
module

public import proofs.«01_k».proof.Proof.Gen.MixInIdeal.Value
public import proofs.«01_k».proof.Proof.Gen.MixInRefIdeal.Run
public import Idealize.ShloMosaic.Lib.Pointwise

@[expose] public section

noncomputable section

namespace Cert.Proof.MixIn

open Cert.MixInIdeal Cert.MixInIdeal.Gen
open Idealize.ShloMosaic Idealize.ShloMosaic.TcCoe Idealize.SL.Sem
open Idealize.ShloMosaic.Pipeline (Dat Window)

/-- The product at an index: a row of the one times a column of the other. -/
def yT (X : FVec Ideal S17408x4096 .bf16) (W : FVec Ideal S4096x12288 .bf16) : FVec Ideal S17408x12288 .bf16 :=
  fun i => ∑ k : Fin 4096, X (ix2 (i 0) k) * W (ix2 k (i 1))

/-- The next product's weight: its matrix of the stack. -/
def nT (W : FVec Ideal S2x4096x4096 .f32) : FVec Ideal S4096x4096 .bf16 :=
  fun i => W (ix3 0 (i 0) (i 1))

/-- The reference's product is the one above. -/
theorem ref_y (X : FVec Ideal S17408x4096 .bf16) (W : FVec Ideal S4096x12288 .bf16) :
    (truncf .bf16 (Host.dotGeneral Cert.MixInRefIdeal.dot_S17408x4096_S4096x12288_S17408x12288_1_0_0_1_n_n none
      (extf .f32 X Cert.MixInRefIdeal.Facts₀.bitsLt_bf16_f32) (extf .f32 W Cert.MixInRefIdeal.Facts₀.bitsLt_bf16_f32)) Cert.MixInRefIdeal.Facts₀.bitsLt_bf16_f32
      : FVec Ideal S17408x12288 .bf16) = yT X W := by
  funext i
  obtain ⟨r, f, rfl⟩ : ∃ (r : Fin 17408) (f : Fin 12288), i = ix2 r f := ⟨i 0, i 1, eq_ix2 i⟩
  unfold yT
  pointwise

/-- The reference's next weight is the one above. -/
theorem ref_n (W : FVec Ideal S2x4096x4096 .f32) :
    (truncf .bf16 (shapeCast _ (extractStridedSlice Cert.MixInRefIdeal.S1x4096x4096 ![0, 0, 0] W Cert.MixInRefIdeal.Facts₀.slices_S2x4096x4096_S1x4096x4096_0_0_0)
      Cert.MixInRefIdeal.Facts₀.shapeCasts_S1x4096x4096_S4096x4096) Cert.MixInRefIdeal.Facts₀.bitsLt_bf16_f32 : FVec Ideal S4096x4096 .bf16) = nT W := by
  funext i
  obtain ⟨r, f, rfl⟩ : ∃ (r : Fin 4096) (f : Fin 4096), i = ix2 r f := ⟨i 0, i 1, eq_ix2 i⟩
  unfold nT
  pointwise

/-- A block of the product at an index. -/
theorem pay_y (x : Vec Ideal S1024x4096 .bf16) (w : Vec Ideal S4096x1024 .bf16) (a : Fin 1024) (b : Fin 1024) :
    k0_pay2 x w (ix2 a b) = ∑ k : Fin 4096, x (ix2 a k) * w (ix2 k b) := by
  unfold k0_pay2
  pointwise

/-- A slab of the next weight at an index. -/
theorem pay_n (w : Vec Ideal S1x32x4096 .f32) (a : Fin 32) (b : Fin 4096) : k0_pay1 w (ix2 a b) = w (ix3 0 a b) := by
  unfold k0_pay1
  pointwise

variable (m : (ℓ : Loc nD τ sig) → Buf (Elt Ideal) ℓ) (ρ : Dev nD → PrngReg)

/-- The rows the product takes. -/
abbrev aX (c : Dev nD) : FVec Ideal S17408x4096 .bf16 := m ((c : Thread nD τ).loc main_arg0)
/-- The weight the product takes. -/
abbrev aW (c : Dev nD) : FVec Ideal S4096x12288 .bf16 := m ((c : Thread nD τ).loc main_arg1)
/-- The next product's weights, stacked. -/
abbrev aN (c : Dev nD) : FVec Ideal S2x4096x4096 .f32 := m ((c : Thread nD τ).loc main_arg2)

/-! Which block each window takes at a point. -/
theorem at0 : ∀ t : Fin grid0.N, win0_0.index t 0 = t.val / 12 ∧ win0_0.index t 1 = 0 := by decide +kernel
theorem at1 : ∀ t : Fin grid0.N, win0_1.index t 0 = 0 ∧ win0_1.index t 1 = t.val % 12 := by decide +kernel
theorem at2 : ∀ t : Fin grid0.N, win0_2.index t 0 = 0 ∧ win0_2.index t 1 = min t.val 127 ∧ win0_2.index t 2 = 0 := by decide +kernel
theorem at3 : ∀ t : Fin grid0.N, win0_3.index t 0 = t.val / 12 ∧ win0_3.index t 1 = t.val % 12 := by decide +kernel
theorem at4 : ∀ t : Fin grid0.N, win0_4.index t 0 = min t.val 127 ∧ win0_4.index t 1 = 0 := by decide +kernel
theorem fl3 : ∀ t : Fin grid0.N, win0_3.flush t = true := by decide +kernel
theorem fl4 : ∀ t : Fin grid0.N, t.val < 127 ∨ t.val = 203 → win0_4.flush t = true := by decide +kernel

/-- The row of the array that row `a` of point `t`'s block is. -/
def rowAt (t : Fin grid0.N) (a : Fin 1024) : Fin 17408 := ⟨t.val / 12 * 1024 + a.val, by have : t.val < 204 := t.isLt; have := a.isLt; omega⟩
/-- The column of the array that column `b` of point `t`'s block is. -/
def colAt (t : Fin grid0.N) (b : Fin 1024) : Fin 12288 := ⟨t.val % 12 * 1024 + b.val, by have := b.isLt; omega⟩
/-- The row of the next weight that row `a` of point `t`'s slab is. -/
def slabAt (t : Fin grid0.N) (a : Fin 32) : Fin 4096 := ⟨min t.val 127 * 32 + a.val, by have := a.isLt; omega⟩

theorem emb0 (t : Fin grid0.N) (a : Fin 1024) (k : Fin 4096) : (win0_0.rect t).emb (ix2 a k) = ix2 (rowAt t a) k := by
  funext i
  fin_cases i <;> apply Fin.ext
  · refine (win0_0.rect_emb_val t _ 0).trans ?_
    rw [(at0 t).1]; rfl
  · refine (win0_0.rect_emb_val t _ 1).trans ?_
    rw [(at0 t).2]; show 0 * 4096 + k.val = k.val; omega

theorem emb1 (t : Fin grid0.N) (k : Fin 4096) (b : Fin 1024) : (win0_1.rect t).emb (ix2 k b) = ix2 k (colAt t b) := by
  funext i
  fin_cases i <;> apply Fin.ext
  · refine (win0_1.rect_emb_val t _ 0).trans ?_
    rw [(at1 t).1]; show 0 * 4096 + k.val = k.val; omega
  · refine (win0_1.rect_emb_val t _ 1).trans ?_
    rw [(at1 t).2]; rfl

theorem emb2 (t : Fin grid0.N) (z0 : Fin 1) (a : Fin 32) (b : Fin 4096) : (win0_2.rect t).emb (ix3 z0 a b) = ix3 0 (slabAt t a) b := by
  funext i
  fin_cases i <;> apply Fin.ext
  · refine (win0_2.rect_emb_val t _ 0).trans ?_
    rw [(at2 t).1]; show 0 * 1 + z0.val = 0; omega
  · refine (win0_2.rect_emb_val t _ 1).trans ?_
    rw [(at2 t).2.1]; rfl
  · refine (win0_2.rect_emb_val t _ 2).trans ?_
    rw [(at2 t).2.2]; show 0 * 4096 + b.val = b.val; omega

theorem emb3 (t : Fin grid0.N) (a : Fin 1024) (b : Fin 1024) : (win0_3.rect t).emb (ix2 a b) = ix2 (rowAt t a) (colAt t b) := by
  funext i
  fin_cases i <;> apply Fin.ext
  · refine (win0_3.rect_emb_val t _ 0).trans ?_
    rw [(at3 t).1]; rfl
  · refine (win0_3.rect_emb_val t _ 1).trans ?_
    rw [(at3 t).2]; rfl

theorem emb4 (t : Fin grid0.N) (a : Fin 32) (b : Fin 4096) : (win0_4.rect t).emb (ix2 a b) = ix2 (slabAt t a) b := by
  funext i
  fin_cases i <;> apply Fin.ext
  · refine (win0_4.rect_emb_val t _ 0).trans ?_
    rw [(at4 t).1]; rfl
  · refine (win0_4.rect_emb_val t _ 1).trans ?_
    rw [(at4 t).2]; show 0 * 4096 + b.val = b.val; omega

theorem blk0 (c : Dev nD) (t : Fin grid0.N) (a : Fin 1024) (k : Fin 4096) : iblk m c 0 t (ix2 a k) = aX m c (ix2 (rowAt t a) k) :=
  congrArg (aX m c) (emb0 t a k)
theorem blk1 (c : Dev nD) (t : Fin grid0.N) (k : Fin 4096) (b : Fin 1024) : iblk m c 1 t (ix2 k b) = aW m c (ix2 k (colAt t b)) :=
  congrArg (aW m c) (emb1 t k b)
theorem blk2 (c : Dev nD) (t : Fin grid0.N) (z0 : Fin 1) (a : Fin 32) (b : Fin 4096) :
    iblk m c 2 t (ix3 z0 a b) = aN m c (ix3 0 (slabAt t a) b) :=
  congrArg (aN m c) (emb2 t z0 a b)

set_option maxRecDepth 65536 in
/-- What point `t` writes back is its block of the product. -/
theorem wrote3 (c : Dev nD) (t : Fin grid0.N) (hf : (cfg0.win 3).flush t = true) :
    (dats m 0 c).flushed 3 t = ((cfg0.win 3).blk t).view.read (Elt Ideal) (yT (aX m c) (aW m c)) := by
  rw [Value.flushed3]
  funext y
  obtain ⟨a, b, rfl⟩ : ∃ (a : Fin 1024) (b : Fin 1024), y = ix2 a b := ⟨y 0, y 1, eq_ix2 y⟩
  refine Eq.trans ?_ (congrArg (yT (aX m c) (aW m c)) (emb3 t a b)).symm
  show out0_3 (iblk m c 0 t) (iblk m c 1 t) (iblk m c 2 t) (ix2 a b) = _
  unfold out0_3
  rw [View.canon_unit_zero (by funext i; fin_cases i <;> rfl), pay_y]
  refine Finset.sum_congr rfl fun k _ => ?_
  rw [View.ld_unit_zero (by funext i; fin_cases i <;> rfl), View.ld_unit_zero (by funext i; fin_cases i <;> rfl)]
  exact congrArg₂ (· * ·) (blk0 m c t a k) (blk1 m c t k b)

set_option maxRecDepth 65536 in
/-- What point `t` writes back is its slab of the next weight. -/
theorem wrote4 (c : Dev nD) (t : Fin grid0.N) (hf : (cfg0.win 4).flush t = true) :
    (dats m 0 c).flushed 4 t = ((cfg0.win 4).blk t).view.read (Elt Ideal) (nT (aN m c)) := by
  rw [Value.flushed4]
  funext y
  obtain ⟨a, b, rfl⟩ : ∃ (a : Fin 32) (b : Fin 4096), y = ix2 a b := ⟨y 0, y 1, eq_ix2 y⟩
  refine Eq.trans ?_ (congrArg (nT (aN m c)) (emb4 t a b)).symm
  show out0_4 (iblk m c 0 t) (iblk m c 1 t) (iblk m c 2 t) (ix2 a b) = _
  unfold out0_4
  rw [View.canon_unit_zero (by funext i; fin_cases i <;> rfl), pay_n, View.ld_unit_zero (by funext i; fin_cases i <;> rfl)]
  exact blk2 m c t 0 a b

/-- Every index of the product lies in a block. -/
theorem cover3 (i : S17408x12288.Idx) : ∃ t : Fin grid0.N, (cfg0.win 3).flush t = true ∧ i ∈ ((cfg0.win 3).blk t).view.set := by
  obtain ⟨r, f, rfl⟩ : ∃ (r : Fin 17408) (f : Fin 12288), i = ix2 r f := ⟨i 0, i 1, eq_ix2 i⟩
  have hr := r.isLt
  have hf := f.isLt
  have ht : r.val / 1024 * 12 + f.val / 1024 < 204 := by omega
  refine ⟨⟨_, ht⟩, fl3 _, ?_⟩
  have e : ix2 r f = (win0_3.rect ⟨_, ht⟩).emb (ix2 (⟨r.val % 1024, Nat.mod_lt _ (by norm_num)⟩ : Fin 1024) (⟨f.val % 1024, Nat.mod_lt _ (by norm_num)⟩ : Fin 1024)) := by
    rw [emb3]
    congr 1 <;> apply Fin.ext <;> simp only [rowAt, colAt] <;> omega
  rw [e]
  exact ((cfg0.win 3).blk ⟨_, ht⟩).view.emb_mem_set _

/-- Every index of the next weight lies in a slab. -/
theorem cover4 (i : S4096x4096.Idx) : ∃ t : Fin grid0.N, (cfg0.win 4).flush t = true ∧ i ∈ ((cfg0.win 4).blk t).view.set := by
  obtain ⟨r, f, rfl⟩ : ∃ (r : Fin 4096) (f : Fin 4096), i = ix2 r f := ⟨i 0, i 1, eq_ix2 i⟩
  have hr := r.isLt
  obtain ⟨t, ht, hs⟩ : ∃ t : Fin grid0.N, (t.val < 127 ∨ t.val = 203) ∧ min t.val 127 = r.val / 32 := by
    by_cases h : r.val / 32 < 127
    · exact ⟨⟨r.val / 32, by show _ < 204; omega⟩, Or.inl h, by simp only; omega⟩
    · exact ⟨⟨203, by show _ < 204; omega⟩, Or.inr rfl, by simp only; omega⟩
  refine ⟨t, fl4 t ht, ?_⟩
  have e : ix2 r f = (win0_4.rect t).emb (ix2 (⟨r.val % 32, Nat.mod_lt _ (by norm_num)⟩ : Fin 32) f) := by
    rw [emb4]
    congr 1; apply Fin.ext; simp only [slabAt, hs]; omega
  rw [e]
  exact ((cfg0.win 4).blk t).view.emb_mem_set _

/-- The program's run with both results as functions of the arguments. -/
theorem run_value : θ_run defs (onTc (τ := τ) (main (F := Ideal))) ⟨m, fun _ => 0, ρ⟩ fun r => ∀ c : Dev nD,
      r.2.mem ((c : Thread nD τ).loc main_v0_0) = yT (aX m c) (aW m c)
      ∧ r.2.mem ((c : Thread nD τ).loc main_v0_1) = nT (aN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
    ⟨(h c).1.trans ((dats m 0 c).arrAt_eq_of_cover 3 _ (wrote3 m c) cover3),
      (h c).2.1.trans ((dats m 0 c).arrAt_eq_of_cover 4 _ (wrote4 m c) cover4), (h c).2.2⟩) (Value.run_blocks m ρ)

end Cert.Proof.MixIn
end
-- ==== Proof.MixOut.Value.lean ====
/- The mixer's output projection: block by block, the arrays the program leaves are the reference's, at the ideal instance. -/
module

public import proofs.«01_k».proof.Proof.Gen.MixOutIdeal.Value
public import proofs.«01_k».proof.Proof.Gen.MixOutRefIdeal.Run
public import Idealize.ShloMosaic.Lib.Pointwise

@[expose] public section

noncomputable section

namespace Cert.Proof.MixOut

open Cert.MixOutIdeal Cert.MixOutIdeal.Gen
open Idealize.ShloMosaic Idealize.ShloMosaic.TcCoe Idealize.SL.Sem
open Idealize.ShloMosaic.Pipeline (Dat Window)

/-- The product at an index: a row of the one times a column of the other. -/
def yT (X : FVec Ideal S17408x4096 .bf16) (W : FVec Ideal S4096x4096 .bf16) : FVec Ideal S17408x4096 .bf16 :=
  fun i => ∑ k : Fin 4096, X (ix2 (i 0) k) * W (ix2 k (i 1))

/-- The next product's weight: its matrix of the stack. -/
def nT (W : FVec Ideal S4x2x4096x11264 .f32) : FVec Ideal S4096x11264 .bf16 :=
  fun i => W (ix4 0 1 (i 0) (i 1))

/-- The reference's product is the one above. -/
theorem ref_y (X : FVec Ideal S17408x4096 .bf16) (W : FVec Ideal S4096x4096 .bf16) :
    (truncf .bf16 (Host.dotGeneral Cert.MixOutRefIdeal.dot_S17408x4096_S4096x4096_S17408x4096_1_0_0_1_n_n none
      (extf .f32 X Cert.MixOutRefIdeal.Facts₀.bitsLt_bf16_f32) (extf .f32 W Cert.MixOutRefIdeal.Facts₀.bitsLt_bf16_f32)) Cert.MixOutRefIdeal.Facts₀.bitsLt_bf16_f32
      : FVec Ideal S17408x4096 .bf16) = yT X W := by
  funext i
  obtain ⟨r, f, rfl⟩ : ∃ (r : Fin 17408) (f : Fin 4096), i = ix2 r f := ⟨i 0, i 1, eq_ix2 i⟩
  unfold yT
  pointwise

/-- The reference's next weight is the one above. -/
theorem ref_n (W : FVec Ideal S4x2x4096x11264 .f32) :
    (truncf .bf16 (shapeCast _ (extractStridedSlice Cert.MixOutRefIdeal.S1x1x4096x11264 ![0, 1, 0, 0] W Cert.MixOutRefIdeal.Facts₀.slices_S4x2x4096x11264_S1x1x4096x11264_0_1_0_0)
      Cert.MixOutRefIdeal.Facts₀.shapeCasts_S1x1x4096x11264_S4096x11264) Cert.MixOutRefIdeal.Facts₀.bitsLt_bf16_f32 : FVec Ideal S4096x11264 .bf16) = nT W := by
  funext i
  obtain ⟨r, f, rfl⟩ : ∃ (r : Fin 4096) (f : Fin 11264), i = ix2 r f := ⟨i 0, i 1, eq_ix2 i⟩
  unfold nT
  pointwise

/-- A block of the product at an index. -/
theorem pay_y (x : Vec Ideal S1024x4096 .bf16) (w : Vec Ideal S4096x1024 .bf16) (a : Fin 1024) (b : Fin 1024) :
    k0_pay2 x w (ix2 a b) = ∑ k : Fin 4096, x (ix2 a k) * w (ix2 k b) := by
  unfold k0_pay2
  pointwise

/-- A slab of the next weight at an index. -/
theorem pay_n (w : Vec Ideal S1x1x64x11264 .f32) (a : Fin 64) (b : Fin 11264) : k0_pay1 w (ix2 a b) = w (ix4 0 0 a b) := by
  unfold k0_pay1
  pointwise

variable (m : (ℓ : Loc nD τ sig) → Buf (Elt Ideal) ℓ) (ρ : Dev nD → PrngReg)

/-- The rows the product takes. -/
abbrev aX (c : Dev nD) : FVec Ideal S17408x4096 .bf16 := m ((c : Thread nD τ).loc main_arg0)
/-- The weight the product takes. -/
abbrev aW (c : Dev nD) : FVec Ideal S4096x4096 .bf16 := m ((c : Thread nD τ).loc main_arg1)
/-- The next product's weights, stacked. -/
abbrev aN (c : Dev nD) : FVec Ideal S4x2x4096x11264 .f32 := m ((c : Thread nD τ).loc main_arg2)

/-! Which block each window takes at a point. -/
theorem at0 : ∀ t : Fin grid0.N, win0_0.index t 0 = t.val / 4 ∧ win0_0.index t 1 = 0 := by decide +kernel
theorem at1 : ∀ t : Fin grid0.N, win0_1.index t 0 = 0 ∧ win0_1.index t 1 = t.val % 4 := by decide +kernel
theorem at2 : ∀ t : Fin grid0.N, win0_2.index t 0 = 0 ∧ win0_2.index t 1 = 1 ∧ win0_2.index t 2 = min t.val 63 ∧ win0_2.index t 3 = 0 := by decide +kernel
theorem at3 : ∀ t : Fin grid0.N, win0_3.index t 0 = t.val / 4 ∧ win0_3.index t 1 = t.val % 4 := by decide +kernel
theorem at4 : ∀ t : Fin grid0.N, win0_4.index t 0 = min t.val 63 ∧ win0_4.index t 1 = 0 := by decide +kernel
theorem fl3 : ∀ t : Fin grid0.N, win0_3.flush t = true := by decide +kernel
theorem fl4 : ∀ t : Fin grid0.N, t.val < 63 ∨ t.val = 67 → win0_4.flush t = true := by decide +kernel

/-- The row of the array that row `a` of point `t`'s block is. -/
def rowAt (t : Fin grid0.N) (a : Fin 1024) : Fin 17408 := ⟨t.val / 4 * 1024 + a.val, by have : t.val < 68 := t.isLt; have := a.isLt; omega⟩
/-- The column of the array that column `b` of point `t`'s block is. -/
def colAt (t : Fin grid0.N) (b : Fin 1024) : Fin 4096 := ⟨t.val % 4 * 1024 + b.val, by have := b.isLt; omega⟩
/-- The row of the next weight that row `a` of point `t`'s slab is. -/
def slabAt (t : Fin grid0.N) (a : Fin 64) : Fin 4096 := ⟨min t.val 63 * 64 + a.val, by have := a.isLt; omega⟩

theorem emb0 (t : Fin grid0.N) (a : Fin 1024) (k : Fin 4096) : (win0_0.rect t).emb (ix2 a k) = ix2 (rowAt t a) k := by
  funext i
  fin_cases i <;> apply Fin.ext
  · refine (win0_0.rect_emb_val t _ 0).trans ?_
    rw [(at0 t).1]; rfl
  · refine (win0_0.rect_emb_val t _ 1).trans ?_
    rw [(at0 t).2]; show 0 * 4096 + k.val = k.val; omega

theorem emb1 (t : Fin grid0.N) (k : Fin 4096) (b : Fin 1024) : (win0_1.rect t).emb (ix2 k b) = ix2 k (colAt t b) := by
  funext i
  fin_cases i <;> apply Fin.ext
  · refine (win0_1.rect_emb_val t _ 0).trans ?_
    rw [(at1 t).1]; show 0 * 4096 + k.val = k.val; omega
  · refine (win0_1.rect_emb_val t _ 1).trans ?_
    rw [(at1 t).2]; rfl

theorem emb2 (t : Fin grid0.N) (z0 : Fin 1) (z1 : Fin 1) (a : Fin 64) (b : Fin 11264) : (win0_2.rect t).emb (ix4 z0 z1 a b) = ix4 0 1 (slabAt t a) b := by
  funext i
  fin_cases i <;> apply Fin.ext
  · refine (win0_2.rect_emb_val t _ 0).trans ?_
    rw [(at2 t).1]; show 0 * 1 + z0.val = 0; omega
  · refine (win0_2.rect_emb_val t _ 1).trans ?_
    rw [(at2 t).2.1]; show 1 * 1 + z1.val = 1; omega
  · refine (win0_2.rect_emb_val t _ 2).trans ?_
    rw [(at2 t).2.2.1]; rfl
  · refine (win0_2.rect_emb_val t _ 3).trans ?_
    rw [(at2 t).2.2.2]; show 0 * 11264 + b.val = b.val; omega

theorem emb3 (t : Fin grid0.N) (a : Fin 1024) (b : Fin 1024) : (win0_3.rect t).emb (ix2 a b) = ix2 (rowAt t a) (colAt t b) := by
  funext i
  fin_cases i <;> apply Fin.ext
  · refine (win0_3.rect_emb_val t _ 0).trans ?_
    rw [(at3 t).1]; rfl
  · refine (win0_3.rect_emb_val t _ 1).trans ?_
    rw [(at3 t).2]; rfl

theorem emb4 (t : Fin grid0.N) (a : Fin 64) (b : Fin 11264) : (win0_4.rect t).emb (ix2 a b) = ix2 (slabAt t a) b := by
  funext i
  fin_cases i <;> apply Fin.ext
  · refine (win0_4.rect_emb_val t _ 0).trans ?_
    rw [(at4 t).1]; rfl
  · refine (win0_4.rect_emb_val t _ 1).trans ?_
    rw [(at4 t).2]; show 0 * 11264 + b.val = b.val; omega

theorem blk0 (c : Dev nD) (t : Fin grid0.N) (a : Fin 1024) (k : Fin 4096) : iblk m c 0 t (ix2 a k) = aX m c (ix2 (rowAt t a) k) :=
  congrArg (aX m c) (emb0 t a k)
theorem blk1 (c : Dev nD) (t : Fin grid0.N) (k : Fin 4096) (b : Fin 1024) : iblk m c 1 t (ix2 k b) = aW m c (ix2 k (colAt t b)) :=
  congrArg (aW m c) (emb1 t k b)
theorem blk2 (c : Dev nD) (t : Fin grid0.N) (z0 : Fin 1) (z1 : Fin 1) (a : Fin 64) (b : Fin 11264) :
    iblk m c 2 t (ix4 z0 z1 a b) = aN m c (ix4 0 1 (slabAt t a) b) :=
  congrArg (aN m c) (emb2 t z0 z1 a b)

set_option maxRecDepth 65536 in
/-- What point `t` writes back is its block of the product. -/
theorem wrote3 (c : Dev nD) (t : Fin grid0.N) (hf : (cfg0.win 3).flush t = true) :
    (dats m 0 c).flushed 3 t = ((cfg0.win 3).blk t).view.read (Elt Ideal) (yT (aX m c) (aW m c)) := by
  rw [Value.flushed3]
  funext y
  obtain ⟨a, b, rfl⟩ : ∃ (a : Fin 1024) (b : Fin 1024), y = ix2 a b := ⟨y 0, y 1, eq_ix2 y⟩
  refine Eq.trans ?_ (congrArg (yT (aX m c) (aW m c)) (emb3 t a b)).symm
  show out0_3 (iblk m c 0 t) (iblk m c 1 t) (iblk m c 2 t) (ix2 a b) = _
  unfold out0_3
  rw [View.canon_unit_zero (by funext i; fin_cases i <;> rfl), pay_y]
  refine Finset.sum_congr rfl fun k _ => ?_
  rw [View.ld_unit_zero (by funext i; fin_cases i <;> rfl), View.ld_unit_zero (by funext i; fin_cases i <;> rfl)]
  exact congrArg₂ (· * ·) (blk0 m c t a k) (blk1 m c t k b)

set_option maxRecDepth 65536 in
/-- What point `t` writes back is its slab of the next weight. -/
theorem wrote4 (c : Dev nD) (t : Fin grid0.N) (hf : (cfg0.win 4).flush t = true) :
    (dats m 0 c).flushed 4 t = ((cfg0.win 4).blk t).view.read (Elt Ideal) (nT (aN m c)) := by
  rw [Value.flushed4]
  funext y
  obtain ⟨a, b, rfl⟩ : ∃ (a : Fin 64) (b : Fin 11264), y = ix2 a b := ⟨y 0, y 1, eq_ix2 y⟩
  refine Eq.trans ?_ (congrArg (nT (aN m c)) (emb4 t a b)).symm
  show out0_4 (iblk m c 0 t) (iblk m c 1 t) (iblk m c 2 t) (ix2 a b) = _
  unfold out0_4
  rw [View.canon_unit_zero (by funext i; fin_cases i <;> rfl), pay_n, View.ld_unit_zero (by funext i; fin_cases i <;> rfl)]
  exact blk2 m c t 0 0 a b

/-- Every index of the product lies in a block. -/
theorem cover3 (i : S17408x4096.Idx) : ∃ t : Fin grid0.N, (cfg0.win 3).flush t = true ∧ i ∈ ((cfg0.win 3).blk t).view.set := by
  obtain ⟨r, f, rfl⟩ : ∃ (r : Fin 17408) (f : Fin 4096), i = ix2 r f := ⟨i 0, i 1, eq_ix2 i⟩
  have hr := r.isLt
  have hf := f.isLt
  have ht : r.val / 1024 * 4 + f.val / 1024 < 68 := by omega
  refine ⟨⟨_, ht⟩, fl3 _, ?_⟩
  have e : ix2 r f = (win0_3.rect ⟨_, ht⟩).emb (ix2 (⟨r.val % 1024, Nat.mod_lt _ (by norm_num)⟩ : Fin 1024) (⟨f.val % 1024, Nat.mod_lt _ (by norm_num)⟩ : Fin 1024)) := by
    rw [emb3]
    congr 1 <;> apply Fin.ext <;> simp only [rowAt, colAt] <;> omega
  rw [e]
  exact ((cfg0.win 3).blk ⟨_, ht⟩).view.emb_mem_set _

/-- Every index of the next weight lies in a slab. -/
theorem cover4 (i : S4096x11264.Idx) : ∃ t : Fin grid0.N, (cfg0.win 4).flush t = true ∧ i ∈ ((cfg0.win 4).blk t).view.set := by
  obtain ⟨r, f, rfl⟩ : ∃ (r : Fin 4096) (f : Fin 11264), i = ix2 r f := ⟨i 0, i 1, eq_ix2 i⟩
  have hr := r.isLt
  obtain ⟨t, ht, hs⟩ : ∃ t : Fin grid0.N, (t.val < 63 ∨ t.val = 67) ∧ min t.val 63 = r.val / 64 := by
    by_cases h : r.val / 64 < 63
    · exact ⟨⟨r.val / 64, by show _ < 68; omega⟩, Or.inl h, by simp only; omega⟩
    · exact ⟨⟨67, by show _ < 68; omega⟩, Or.inr rfl, by simp only; omega⟩
  refine ⟨t, fl4 t ht, ?_⟩
  have e : ix2 r f = (win0_4.rect t).emb (ix2 (⟨r.val % 64, Nat.mod_lt _ (by norm_num)⟩ : Fin 64) f) := by
    rw [emb4]
    congr 1; apply Fin.ext; simp only [slabAt, hs]; omega
  rw [e]
  exact ((cfg0.win 4).blk t).view.emb_mem_set _

/-- The program's run with both results as functions of the arguments. -/
theorem run_value : θ_run defs (onTc (τ := τ) (main (F := Ideal))) ⟨m, fun _ => 0, ρ⟩ fun r => ∀ c : Dev nD,
      r.2.mem ((c : Thread nD τ).loc main_v0_0) = yT (aX m c) (aW m c)
      ∧ r.2.mem ((c : Thread nD τ).loc main_v0_1) = nT (aN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
    ⟨(h c).1.trans ((dats m 0 c).arrAt_eq_of_cover 3 _ (wrote3 m c) cover3),
      (h c).2.1.trans ((dats m 0 c).arrAt_eq_of_cover 4 _ (wrote4 m c) cover4), (h c).2.2⟩) (Value.run_blocks m ρ)

end Cert.Proof.MixOut
end
-- ==== Proof.Post.Value.lean ====
/- The last residual: block by block, the array the program leaves is the reference's, at the ideal instance. -/
module

public import proofs.«01_k».proof.Proof.Gen.PostIdeal.Value
public import proofs.«01_k».proof.Proof.Gen.PostRefIdeal.Run
public import proofs.«01_k».proof.Proof.PostPre.Ref
public import Idealize.ShloMosaic.Lib.Pointwise

@[expose] public section

noncomputable section

namespace Cert.Proof.Post

open Cert.PostIdeal Cert.PostIdeal.Gen
open Idealize.ShloMosaic Idealize.ShloMosaic.TcCoe Idealize.SL.Sem
open Idealize.ShloMosaic.Pipeline (Dat Window)

/-- The modulation row a row takes: its batch. -/
def batchOf (r : Fin 16384) : Fin 8 := ⟨r.val / 4096, by have := r.isLt; omega⟩

/-- The same row among all the rows. -/
def all (r : Fin 16384) : Fin 17408 := ⟨r.val, by have := r.isLt; omega⟩

/-- Row `r` of the last residual as a function of the four arrays. -/
def hR (Y : FVec Ideal S16384x4096 .bf16) (H : FVec Ideal S17408x4096 .f32) (G : FVec Ideal S6x4096 .f32) (M : FVec Ideal S8x9x4096 .f32)
    (r : Fin 16384) (d : Fin 4096) : EReal :=
  PostPre.Ref.hnE (fun d => H (ix2 (all r) d)) (fun d => Y (ix2 r d)) (fun d => G (ix2 5 d)) (fun d => M (ix3 (batchOf r) 8 d)) d

/-- The last residual as a function of the four arrays. -/
def hT (Y : FVec Ideal S16384x4096 .bf16) (H : FVec Ideal S17408x4096 .f32) (G : FVec Ideal S6x4096 .f32) (M : FVec Ideal S8x9x4096 .f32) :
    FVec Ideal S16384x4096 .f32 := fun i => hR Y H G M (i 0) (i 1)

/-- The reference's last residual is the one above. -/
theorem ref_h (Y : FVec Ideal S16384x4096 .bf16) (H : FVec Ideal S17408x4096 .f32) (G : FVec Ideal S6x4096 .f32) (M : FVec Ideal S8x9x4096 .f32) :
    (shapeCast Cert.PostRefIdeal.S16384x4096 (addf (shapeCast _ (extractStridedSlice Cert.PostRefIdeal.S16384x4096 ![0, 0] H Cert.PostRefIdeal.Facts₀.slices_S17408x4096_S16384x4096_0_0) Cert.PostRefIdeal.Facts₀.shapeCasts_S16384x4096_S4x4096x4096) (mulf (broadcastInDim Cert.PostRefIdeal.S4x4096x4096 ![] Cert.PostRefIdeal.Facts₀.bcast_S_S4x4096x4096 (constant Cert.PostRefIdeal.S_ .f32 0x3F000000#32)) (mulf (broadcastInDim Cert.PostRefIdeal.S4x4096x4096 ![0, 1, 2] Cert.PostRefIdeal.Facts₀.bcast_S4x1x4096_S4x4096x4096_0_1_2 (broadcastInDim Cert.PostRefIdeal.S4x1x4096 ![0, 2] Cert.PostRefIdeal.Facts₀.bcast_S4x4096_S4x1x4096_0_2 (shapeCast _ (extractStridedSlice Cert.PostRefIdeal.S4x1x4096 ![0, 8, 0] M Cert.PostRefIdeal.Facts₀.slices_S8x9x4096_S4x1x4096_0_8_0) Cert.PostRefIdeal.Facts₀.shapeCasts_S4x1x4096_S4x4096))) (mulf (mulf (shapeCast _ (extf .f32 Y Cert.PostRefIdeal.Facts₀.bitsLt_bf16_f32) Cert.PostRefIdeal.Facts₀.shapeCasts_S16384x4096_S4x4096x4096) (broadcastInDim Cert.PostRefIdeal.S4x4096x4096 ![0, 1, 2] Cert.PostRefIdeal.Facts₀.bcast_S4x4096x1_S4x4096x4096_0_1_2 (Host.rsqrt (addf (Host.divf (broadcastInDim Cert.PostRefIdeal.S4x4096x1 ![0, 1] Cert.PostRefIdeal.Facts₀.bcast_S4x4096_S4x4096x1_0_1 (Host.reduceAdd (mulf (shapeCast _ (extf .f32 Y Cert.PostRefIdeal.Facts₀.bitsLt_bf16_f32) Cert.PostRefIdeal.Facts₀.shapeCasts_S16384x4096_S4x4096x4096) (shapeCast _ (extf .f32 Y Cert.PostRefIdeal.Facts₀.bitsLt_bf16_f32) Cert.PostRefIdeal.Facts₀.shapeCasts_S16384x4096_S4x4096x4096)) (constant Cert.PostRefIdeal.S_ .f32 0x00000000#32) Cert.PostRefIdeal.Facts₀.reducesTo_S4x4096x4096_S4x4096_d2 Cert.PostRefIdeal.Facts₀.h_S_)) (broadcastInDim Cert.PostRefIdeal.S4x4096x1 ![] Cert.PostRefIdeal.Facts₀.bcast_S_S4x4096x1 (constant Cert.PostRefIdeal.S_ .f32 0x45800000#32))) (broadcastInDim Cert.PostRefIdeal.S4x4096x1 ![] Cert.PostRefIdeal.Facts₀.bcast_S_S4x4096x1 (constant Cert.PostRefIdeal.S_ .f32 0x358637BD#32)))))) (broadcastInDim Cert.PostRefIdeal.S4x4096x4096 ![0, 1, 2] Cert.PostRefIdeal.Facts₀.bcast_S1x1x4096_S4x4096x4096_0_1_2 (broadcastInDim Cert.PostRefIdeal.S1x1x4096 ![2] Cert.PostRefIdeal.Facts₀.bcast_S4096_S1x1x4096_2 (shapeCast _ (extractStridedSlice Cert.PostRefIdeal.S1x4096 ![5, 0] G Cert.PostRefIdeal.Facts₀.slices_S6x4096_S1x4096_5_0) Cert.PostRefIdeal.Facts₀.shapeCasts_S1x4096_S4096))))))) Cert.PostRefIdeal.Facts₀.shapeCasts_S4x4096x4096_S16384x4096 : FVec Ideal S16384x4096 .f32) = hT Y H G M := by
  funext i
  obtain ⟨r, d, rfl⟩ : ∃ (r : Fin 16384) (d : Fin 4096), i = ix2 r d := ⟨i 0, i 1, eq_ix2 i⟩
  obtain ⟨b, s, hb, rfl⟩ : ∃ (b : Fin 4) (s : Fin 4096) (hb : b.val * 4096 + s.val < 16384), r = ⟨b.val * 4096 + s.val, hb⟩ := by
    have := r.isLt
    exact ⟨⟨r.val / 4096, by omega⟩, ⟨r.val % 4096, by omega⟩, by show r.val / 4096 * 4096 + r.val % 4096 < 16384; omega,
      Fin.ext (by show r.val = r.val / 4096 * 4096 + r.val % 4096; omega)⟩
  have e : batchOf ⟨b.val * 4096 + s.val, hb⟩ = ⟨b.val, by omega⟩ := Fin.ext (by show (b.val * 4096 + s.val) / 4096 = b.val; omega)
  unfold hT
  show _ = hR Y H G M ⟨b.val * 4096 + s.val, hb⟩ d
  unfold hR PostPre.Ref.hnE PostPre.Ref.inv all
  rw [e]
  pointwise

/-- A block of the last residual at an index. -/
theorem pay_h (v0 : Vec Ideal S1x9x4096 .f32) (h : Vec Ideal S256x4096 .f32) (y : Vec Ideal S256x4096 .bf16) (g : Vec Ideal S1x4096 .f32)
    (a : Fin 256) (d : Fin 4096) : k0_pay1 v0 h y g (ix2 a d)
      = PostPre.Ref.hnE (fun d => h (ix2 a d)) (fun d => y (ix2 a d)) (fun d => g (ix2 0 d)) (fun d => v0 (ix3 0 8 d)) d := by
  unfold k0_pay1 PostPre.Ref.hnE PostPre.Ref.inv
  pointwise

variable (m : (ℓ : Loc nD τ sig) → Buf (Elt Ideal) ℓ) (ρ : Dev nD → PrngReg)

/-- The feed-forward's output. -/
abbrev aY (c : Dev nD) : FVec Ideal S16384x4096 .bf16 := m ((c : Thread nD τ).loc main_arg0)
/-- The residual. -/
abbrev aH (c : Dev nD) : FVec Ideal S17408x4096 .f32 := m ((c : Thread nD τ).loc main_arg1)
/-- The gains. -/
abbrev aG (c : Dev nD) : FVec Ideal S6x4096 .f32 := m ((c : Thread nD τ).loc main_arg2)
/-- The modulation. -/
abbrev aM (c : Dev nD) : FVec Ideal S8x9x4096 .f32 := m ((c : Thread nD τ).loc main_arg3)

/-! Which block each window takes at a point. -/

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val / 16 ∧ win0_3.index t 1 = 0 ∧ win0_3.index t 2 = 0 := by decide +kernel
theorem at4 : ∀ t : Fin grid0.N, win0_4.index t 0 = t.val ∧ win0_4.index t 1 = 0 := by decide +kernel
theorem fl4 : ∀ t : Fin grid0.N, win0_4.flush t = true := by decide +kernel

/-- The row of the array that row `a` of point `t`'s block is. -/
def rowAt (t : Fin grid0.N) (a : Fin 256) : Fin 16384 := ⟨t.val * 256 + a.val, by have : t.val < 64 := t.isLt; have := a.isLt; omega⟩

theorem emb0 (t : Fin grid0.N) (a : Fin 256) (d : Fin 4096) : (win0_0.rect t).emb (ix2 a d) = ix2 (rowAt t a) d := by
  funext i
  fin_cases i <;> apply Fin.ext
  · refine (win0_0.rect_emb_val t _ 0).trans ?_
    rw [(at0 t).1]; rfl
  · refine (win0_0.rect_emb_val t _ 1).trans ?_
    rw [(at0 t).2]; show 0 * 4096 + d.val = d.val; omega

theorem emb1 (t : Fin grid0.N) (a : Fin 256) (d : Fin 4096) : (win0_1.rect t).emb (ix2 a d) = ix2 (all (rowAt t a)) d := by
  funext i
  fin_cases i <;> apply Fin.ext
  · refine (win0_1.rect_emb_val t _ 0).trans ?_
    rw [(at1 t).1]; rfl
  · refine (win0_1.rect_emb_val t _ 1).trans ?_
    rw [(at1 t).2]; show 0 * 4096 + d.val = d.val; omega

theorem emb2 (t : Fin grid0.N) (j : Fin 6) (d : Fin 4096) : (win0_2.rect t).emb (ix2 j d) = ix2 j d := by
  funext i
  fin_cases i <;> apply Fin.ext
  · refine (win0_2.rect_emb_val t _ 0).trans ?_
    rw [(at2 t).1]; show 0 * 6 + j.val = j.val; omega
  · refine (win0_2.rect_emb_val t _ 1).trans ?_
    rw [(at2 t).2]; show 0 * 4096 + d.val = d.val; omega

theorem emb3 (t : Fin grid0.N) (a : Fin 256) (z : Fin 1) (j : Fin 9) (d : Fin 4096) :
    (win0_3.rect t).emb (ix3 z j d) = ix3 (batchOf (rowAt t a)) j d := by
  funext i
  fin_cases i <;> apply Fin.ext
  · refine (win0_3.rect_emb_val t _ 0).trans ?_
    rw [(at3 t).1]; show t.val / 16 * 1 + z.val = (t.val * 256 + a.val) / 4096; have := a.isLt; omega
  · refine (win0_3.rect_emb_val t _ 1).trans ?_
    rw [(at3 t).2.1]; show 0 * 9 + j.val = j.val; omega
  · refine (win0_3.rect_emb_val t _ 2).trans ?_
    rw [(at3 t).2.2]; show 0 * 4096 + d.val = d.val; omega

theorem emb4 (t : Fin grid0.N) (a : Fin 256) (d : Fin 4096) : (win0_4.rect t).emb (ix2 a d) = ix2 (rowAt t a) d := by
  funext i
  fin_cases i <;> apply Fin.ext
  · refine (win0_4.rect_emb_val t _ 0).trans ?_
    rw [(at4 t).1]; rfl
  · refine (win0_4.rect_emb_val t _ 1).trans ?_
    rw [(at4 t).2]; show 0 * 4096 + d.val = d.val; omega

theorem blk0 (c : Dev nD) (t : Fin grid0.N) (a : Fin 256) (d : Fin 4096) : iblk m c 0 t (ix2 a d) = aY m c (ix2 (rowAt t a) d) :=
  congrArg (aY m c) (emb0 t a d)
theorem blk1 (c : Dev nD) (t : Fin grid0.N) (a : Fin 256) (d : Fin 4096) : iblk m c 1 t (ix2 a d) = aH m c (ix2 (all (rowAt t a)) d) :=
  congrArg (aH m c) (emb1 t a d)
theorem blk2 (c : Dev nD) (t : Fin grid0.N) (j : Fin 6) (d : Fin 4096) : iblk m c 2 t (ix2 j d) = aG m c (ix2 j d) :=
  congrArg (aG m c) (emb2 t j d)
theorem blk3 (c : Dev nD) (t : Fin grid0.N) (a : Fin 256) (z : Fin 1) (j : Fin 9) (d : Fin 4096) :
    iblk m c 3 t (ix3 z j d) = aM m c (ix3 (batchOf (rowAt t a)) j d) :=
  congrArg (aM m c) (emb3 t a z j d)

/-- The gain the body reads is the sixth. -/
theorem gain (x : Vec Ideal S6x4096 .f32) (d : Fin 4096) : View.ld x r0_2 (ix2 0 d) = x (ix2 5 d) := by
  refine congrArg x ?_
  funext i
  fin_cases i <;> apply Fin.ext
  · rfl
  · show 0 + 1 * d.val = d.val; omega

set_option maxRecDepth 65536 in
/-- What point `t` writes back is its block of the last residual. -/
theorem wrote4 (c : Dev nD) (t : Fin grid0.N) (hf : (cfg0.win 4).flush t = true) :
    (dats m 0 c).flushed 4 t = ((cfg0.win 4).blk t).view.read (Elt Ideal) (hT (aY m c) (aH m c) (aG m c) (aM m c)) := by
  rw [Value.flushed4]
  funext y
  obtain ⟨a, d, rfl⟩ : ∃ (a : Fin 256) (d : Fin 4096), y = ix2 a d := ⟨y 0, y 1, eq_ix2 y⟩
  refine Eq.trans ?_ (congrArg (hT (aY m c) (aH m c) (aG m c) (aM m c)) (emb4 t a d)).symm
  show out0_4 (iblk m c 0 t) (iblk m c 1 t) (iblk m c 2 t) (iblk m c 3 t) (ix2 a d) = hR (aY m c) (aH m c) (aG m c) (aM m c) (rowAt t a) d
  unfold out0_4 hR
  rw [View.canon_unit_zero (by funext i; fin_cases i <;> rfl), pay_h]
  rw [View.ld_unit_zero (S := S256x4096) (by funext i; fin_cases i <;> rfl), View.ld_unit_zero (S := S256x4096) (by funext i; fin_cases i <;> rfl), View.ld_unit_zero (S := S1x9x4096) (by funext i; fin_cases i <;> rfl)]
  refine congr (congr (congr (congr (congrArg PostPre.Ref.hnE ?_) ?_) ?_) ?_) rfl
  · funext d; exact blk1 m c t a d
  · funext d; exact blk0 m c t a d
  · funext d; exact (gain _ d).trans (blk2 m c t 5 d)
  · funext d; exact blk3 m c t a 0 8 d

/-- Every index of the last residual lies in a block. -/
theorem cover4 (i : S16384x4096.Idx) : ∃ t : Fin grid0.N, (cfg0.win 4).flush t = true ∧ i ∈ ((cfg0.win 4).blk t).view.set := by
  obtain ⟨r, d, rfl⟩ : ∃ (r : Fin 16384) (d : Fin 4096), i = ix2 r d := ⟨i 0, i 1, eq_ix2 i⟩
  have hr := r.isLt
  have ht : r.val / 256 < 64 := by omega
  refine ⟨⟨_, ht⟩, fl4 _, ?_⟩
  have e : ix2 r d = (win0_4.rect ⟨_, ht⟩).emb (ix2 (⟨r.val % 256, Nat.mod_lt _ (by norm_num)⟩ : Fin 256) d) := by
    rw [emb4]
    congr 1; apply Fin.ext; simp only [rowAt]; omega
  rw [e]
  exact ((cfg0.win 4).blk ⟨_, ht⟩).view.emb_mem_set _

/-- The program's run with its result as a function of the arguments. -/
theorem run_value : θ_run defs (onTc (τ := τ) (main (F := Ideal))) ⟨m, fun _ => 0, ρ⟩ fun r => ∀ c : Dev nD,
      r.2.mem ((c : Thread nD τ).loc main_v0) = hT (aY m c) (aH m c) (aG m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c =>
    ⟨(h c).1.trans ((dats m 0 c).arrAt_eq_of_cover 4 _ (wrote4 m c) cover4), (h c).2⟩) (Value.run_blocks m ρ)

end Cert.Proof.Post
end
-- ==== Proof.Ada.Value.lean ====
/- The modulation vectors of every layer: block by block, the array the program leaves is the reference's, at the ideal instance. -/
module

public import proofs.«01_k».proof.Proof.Gen.AdaIdeal.Value
public import proofs.«01_k».proof.Proof.Gen.AdaRefIdeal.Run
public import Idealize.ShloMosaic.Lib.Pointwise

@[expose] public section

noncomputable section

namespace Cert.Proof.Ada

open Cert.AdaIdeal Cert.AdaIdeal.Gen
open Idealize.ShloMosaic Idealize.ShloMosaic.TcCoe Idealize.SL.Sem Idealize.ShloMosaic.Tactic
open Idealize.ShloMosaic.Pipeline (Dat Window)

/-- The eight condition vectors: the batch's, the context's, and of zero vectors the rest. -/
def c8 (C : FVec Ideal S4x4096 .f32) (X : FVec Ideal S4096 .f32) : FVec Ideal S8x4096 .f32 :=
  concatenate S8x4096 0 [⟨S4x4096, C⟩, ⟨S1x4096, (broadcastInDim S1x4096 ![1] Facts₀.bcast_S4096_S1x4096_1 X : FVec Ideal S1x4096 .f32)⟩, ⟨S3x4096, (broadcastInDim S3x4096 ![] Facts₀.bcast_S_S3x4096 (constant S_ .f32 0x00000000#32) : FVec Ideal S3x4096 .f32)⟩] Facts₀.concatenates_S4x4096_S1x4096_S3x4096_S8x4096_d0

/-- The first product at an index: the condition's gated value times the layer's first weight. -/
def tE (C : FVec Ideal S8x4096 .f32) (D : FVec Ideal S4x4096x256 .f32) (l : Fin 4) (a : Fin 8) (q : Fin 256) : EReal :=
  ∑ k : Fin 4096, (C (ix2 a k) * Ideal.logistic (C (ix2 a k))) * D (ix3 l k q)

/-- The modulation at an index: the second product's sum, and the bias. -/
def aE (C : FVec Ideal S8x4096 .f32) (D : FVec Ideal S4x4096x256 .f32) (U : FVec Ideal S4x256x36864 .f32) (B : FVec Ideal S4x36864 .f32)
    (l : Fin 4) (a : Fin 8) (f : Fin 36864) : EReal :=
  (∑ q : Fin 256, tE C D l a q * U (ix3 l q f)) + B (ix2 l f)

/-- The modulation as a function of the arrays. -/
def aT (C : FVec Ideal S8x4096 .f32) (D : FVec Ideal S4x4096x256 .f32) (U : FVec Ideal S4x256x36864 .f32) (B : FVec Ideal S4x36864 .f32) :
    FVec Ideal S4x8x36864 .f32 := fun i => aE C D U B (i 0) (i 1) (i 2)

section
open Cert.AdaRefIdeal (dot_S4x8x256_S4x256x36864_S4x8x36864_2_1_1_2_0_0 dot_S8x4096_S4x4096x256_S8x4x256_1_1_0_02_n_n)
/-- The reference's modulation is the one above. -/
theorem ref_a (C : FVec Ideal S8x4096 .f32) (D : FVec Ideal S4x4096x256 .f32) (U : FVec Ideal S4x256x36864 .f32) (B : FVec Ideal S4x36864 .f32) :
    (addf (Host.dotGeneral dot_S4x8x256_S4x256x36864_S4x8x36864_2_1_1_2_0_0 none (transpose Cert.AdaRefIdeal.S4x8x256 [1, 0, 2] (Host.dotGeneral dot_S8x4096_S4x4096x256_S8x4x256_1_1_0_02_n_n none (mulf C (Host.divf (broadcastInDim Cert.AdaRefIdeal.S8x4096 ![] Cert.AdaRefIdeal.Facts₀.bcast_S_S8x4096 (constant Cert.AdaRefIdeal.S_ .f32 0x3F800000#32)) (addf (broadcastInDim Cert.AdaRefIdeal.S8x4096 ![] Cert.AdaRefIdeal.Facts₀.bcast_S_S8x4096 (constant Cert.AdaRefIdeal.S_ .f32 0x3F800000#32)) (Host.exp (Host.negf C))))) D) Cert.AdaRefIdeal.Facts₀.transposes_S8x4x256_S4x8x256_1_0_2) U) (broadcastInDim Cert.AdaRefIdeal.S4x8x36864 ![0, 1, 2] Cert.AdaRefIdeal.Facts₀.bcast_S4x1x36864_S4x8x36864_0_1_2 (broadcastInDim Cert.AdaRefIdeal.S4x1x36864 ![0, 2] Cert.AdaRefIdeal.Facts₀.bcast_S4x36864_S4x1x36864_0_2 B)) : FVec Ideal Cert.AdaRefIdeal.S4x8x36864 .f32) = aT C D U B := by
  funext i
  obtain ⟨l, a, f, rfl⟩ : ∃ (l : Fin 4) (a : Fin 8) (f : Fin 36864), i = ix3 l a f := ⟨i 0, i 1, i 2, eq_ix3 i⟩
  show _ = aE C D U B l a f
  unfold aE tE Ideal.logistic
  pointwise
end

theorem hz : (![0, 0] : Fin 2 → Nat) = fun _ => 0 := funext fun a => by fin_cases a <;> rfl
theorem hz3 : (![0, 0, 0] : Fin 3 → Nat) = fun _ => 0 := funext fun a => by fin_cases a <;> rfl

/-- The first product the body computes, at an index. -/
theorem pay_t (x : Vec Ideal S8x4096 .f32) (w : Vec Ideal S1x4096x256 .f32) (a : Fin 8) (q : Fin 256) :
    k0_pay1 x w (ix2 a q) = ∑ k : Fin 4096, (x (ix2 a k) * Ideal.logistic (x (ix2 a k))) * w (ix3 0 k q) := by
  unfold k0_pay1
  pointwise

/-- The block the body stores, at an index. -/
theorem pay_o (t : Vec Ideal S8x256 .f32) (w : Vec Ideal S1x256x4096 .f32) (b : Vec Ideal S1x1x4096 .f32) (z : Fin 1) (a : Fin 8) (f : Fin 4096) :
    k0_pay2 t w b (ix3 z a f) = (∑ q : Fin 256, t (ix2 a q) * w (ix3 0 q f)) + b (ix3 0 0 f) := by
  unfold k0_pay2
  pointwise

/-- What a layer's first point leaves in the scratch: the first product. -/
theorem sout_A (c : Dev nD) (i : grid0.Coords) (a1 : Memref sig .tc .vmem S8x4096 .f32) (h1 : a1.IsWhole) (a2 : Memref sig .tc .vmem S1x4096x256 .f32) (h2 : a2.IsWhole)
    (a3 : Memref sig .tc .vmem S1x256x4096 .f32) (h3 : a3.IsWhole) (a4 : Memref sig .tc .vmem S1x1x4096 .f32) (h4 : a4.IsWhole) (a5 : Memref sig .tc .vmem S1x8x4096 .f32) (h5 : a5.IsWhole)
    (a6 : Memref sig .tc .vmem S8x256 .f32) (h6 : a6.IsWhole)
    (hc0 : cond0_0 i) (x0 : Vec Ideal S8x4096 .f32) (x1 : Vec Ideal S1x4096x256 .f32) (x2 : Vec Ideal S1x256x4096 .f32) (x3 : Vec Ideal S1x1x4096 .f32) :
    sout0_A_0 c i a1 h1 a2 h2 a3 h3 a4 h4 a5 h5 a6 h6 hc0 x0 x1 x2 x3 = k0_pay1 x0 x1 := by
  unfold sout0_A_0
  rw [View.read_writes_eq_canon _ _ _ (scover0_A_0 c i a1 h1 a2 h2 a3 h3 a4 h4 a5 h5 a6 h6 hc0 x0 x1 x2 x3)]
  unfold kernelRun0_A
  dsimp only
  try sl_unfold_words
  rw [View.canon_unit_zero hz]
  simp only [View.readAt_eq_ld, h1.read_unread, h2.read_unread, View.ld_unit_zero (S := S8x4096) hz, View.ld_unit_zero (S := S8x256) hz, View.ld_unit_zero (S := S1x4096x256) hz3, View.ld_unit_zero (S := S1x256x4096) hz3, View.ld_unit_zero (S := S1x1x4096) hz3]

/-- What a layer's first point leaves in the output's block. -/
theorem out_A (c : Dev nD) (i : grid0.Coords) (a1 : Memref sig .tc .vmem S8x4096 .f32) (h1 : a1.IsWhole) (a2 : Memref sig .tc .vmem S1x4096x256 .f32) (h2 : a2.IsWhole)
    (a3 : Memref sig .tc .vmem S1x256x4096 .f32) (h3 : a3.IsWhole) (a4 : Memref sig .tc .vmem S1x1x4096 .f32) (h4 : a4.IsWhole) (a5 : Memref sig .tc .vmem S1x8x4096 .f32) (h5 : a5.IsWhole)
    (a6 : Memref sig .tc .vmem S8x256 .f32) (h6 : a6.IsWhole)
    (hc0 : cond0_0 i) (x0 : Vec Ideal S8x4096 .f32) (x1 : Vec Ideal S1x4096x256 .f32) (x2 : Vec Ideal S1x256x4096 .f32) (x3 : Vec Ideal S1x1x4096 .f32) :
    out0_A_4 c i a1 h1 a2 h2 a3 h3 a4 h4 a5 h5 a6 h6 hc0 x0 x1 x2 x3 = k0_pay2 (k0_pay1 x0 x1) x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  try sl_unfold_words
  rw [View.canon_unit_zero hz3]
  rw [View.readCov_unit_zero (S := S8x256) _ hz]
  simp only [View.readAt_eq_ld, h1.read_unread, h2.read_unread, h3.read_unread, h4.read_unread, View.ld_unit_zero (S := S8x4096) hz, View.ld_unit_zero (S := S8x256) hz, View.ld_unit_zero (S := S1x4096x256) hz3, View.ld_unit_zero (S := S1x256x4096) hz3, View.ld_unit_zero (S := S1x1x4096) hz3]

/-- What a layer's later points leave in the output's block, over the scratch. -/
theorem out_B (c : Dev nD) (i : grid0.Coords) (a1 : Memref sig .tc .vmem S8x4096 .f32) (h1 : a1.IsWhole) (a2 : Memref sig .tc .vmem S1x4096x256 .f32) (h2 : a2.IsWhole)
    (a3 : Memref sig .tc .vmem S1x256x4096 .f32) (h3 : a3.IsWhole) (a4 : Memref sig .tc .vmem S1x1x4096 .f32) (h4 : a4.IsWhole) (a5 : Memref sig .tc .vmem S1x8x4096 .f32) (h5 : a5.IsWhole)
    (a6 : Memref sig .tc .vmem S8x256 .f32) (h6 : a6.IsWhole)
    (hc0 : ¬cond0_0 i) (x0 : Vec Ideal S8x4096 .f32) (x1 : Vec Ideal S1x4096x256 .f32) (x2 : Vec Ideal S1x256x4096 .f32) (x3 : Vec Ideal S1x1x4096 .f32) (xs : Vec Ideal S8x256 .f32) :
    out0_B_4 c i a1 h1 a2 h2 a3 h3 a4 h4 a5 h5 a6 h6 hc0 x0 x1 x2 x3 xs = k0_pay2 xs x2 x3 := by
  unfold out0_B_4
  rw [View.read_writes_eq_canon _ _ _ (cover0_B_4 c i a1 h1 a2 h2 a3 h3 a4 h4 a5 h5 a6 h6 hc0 x0 x1 x2 x3 xs)]
  unfold kernelRun0_B
  dsimp only
  try sl_unfold_words
  rw [View.canon_unit_zero hz3]
  simp only [View.readAt_eq_ld, h3.read_unread, h4.read_unread, h6.read_unread, View.ld_unit_zero (S := S8x4096) hz, View.ld_unit_zero (S := S8x256) hz, View.ld_unit_zero (S := S1x4096x256) hz3, View.ld_unit_zero (S := S1x256x4096) hz3, View.ld_unit_zero (S := S1x1x4096) hz3]

variable (m : (ℓ : Loc nD τ sig) → Buf (Elt Ideal) ℓ) (ρ : Dev nD → PrngReg)

/-- The condition vectors. -/
abbrev aC (c : Dev nD) : FVec Ideal S8x4096 .f32 := c8 (m ((c : Thread nD τ).loc main_arg0)) (m ((c : Thread nD τ).loc main_arg1))
/-- The first weights. -/
abbrev aD (c : Dev nD) : FVec Ideal S4x4096x256 .f32 := m ((c : Thread nD τ).loc main_arg2)
/-- The second weights. -/
abbrev aU (c : Dev nD) : FVec Ideal S4x256x36864 .f32 := m ((c : Thread nD τ).loc main_arg3)
/-- The biases. -/
abbrev aB (c : Dev nD) : FVec Ideal S4x36864 .f32 := m ((c : Thread nD τ).loc main_arg4)

/-- What the host hands the call as its condition vectors. -/
theorem entry_c (c : Dev nD) : V m c main_v2 = aC m c := by
  unfold_abbrev_sides
  after_results <;> rfl
/-- What the host hands the call as its biases. -/
theorem entry_b (c : Dev nD) : V m c main_v3 = (shapeCast S4x1x36864 (aB m c) Facts₀.shapeCasts_S4x36864_S4x1x36864 : FVec Ideal S4x1x36864 .f32) := by
  unfold_abbrev_sides
  after_results <;> rfl
theorem bias (B : FVec Ideal S4x36864 .f32) (l : Fin 4) (f : Fin 36864) :
    (shapeCast S4x1x36864 B Facts₀.shapeCasts_S4x36864_S4x1x36864 : FVec Ideal S4x1x36864 .f32) (ix3 l 0 f) = B (ix2 l f) := by
  pointwise

/-! Which block each window takes at a point. -/

theorem at0 : ∀ t : Fin grid0.N, win0_0.index t 0 = 0 ∧ win0_0.index t 1 = 0 := by decide +kernel
theorem at1 : ∀ t : Fin grid0.N, win0_1.index t 0 = t.val / 9 ∧ win0_1.index t 1 = 0 ∧ win0_1.index t 2 = 0 := by decide +kernel
theorem at2 : ∀ t : Fin grid0.N, win0_2.index t 0 = t.val / 9 ∧ win0_2.index t 1 = 0 ∧ win0_2.index t 2 = t.val % 9 := by decide +kernel
theorem at3 : ∀ t : Fin grid0.N, win0_3.index t 0 = t.val / 9 ∧ win0_3.index t 1 = 0 ∧ win0_3.index t 2 = t.val % 9 := by decide +kernel
theorem at4 : ∀ t : Fin grid0.N, win0_4.index t 0 = t.val / 9 ∧ win0_4.index t 1 = 0 ∧ win0_4.index t 2 = t.val % 9 := by decide +kernel
theorem fl4 : ∀ t : Fin grid0.N, win0_4.flush t = true := by decide +kernel

/-- The layer of a point. -/
def layerAt (t : Fin grid0.N) : Fin 4 := ⟨t.val / 9, by have : t.val < 36 := t.isLt; omega⟩
/-- The column of the array that column `f` of point `t`'s block is. -/
def colAt (t : Fin grid0.N) (f : Fin 4096) : Fin 36864 := ⟨t.val % 9 * 4096 + f.val, by have := f.isLt; omega⟩

theorem emb0 (t : Fin grid0.N) (a : Fin 8) (k : Fin 4096) : (win0_0.rect t).emb (ix2 a k) = ix2 a k := by
  funext i
  fin_cases i <;> apply Fin.ext
  · refine (win0_0.rect_emb_val t _ 0).trans ?_
    rw [(at0 t).1]; show 0 * 8 + a.val = a.val; omega
  · refine (win0_0.rect_emb_val t _ 1).trans ?_
    rw [(at0 t).2]; show 0 * 4096 + k.val = k.val; omega

theorem emb1 (t : Fin grid0.N) (z : Fin 1) (a : Fin 4096) (f : Fin 256) : (win0_1.rect t).emb (ix3 z a f) = ix3 (layerAt t) a f := by
  funext i
  fin_cases i <;> apply Fin.ext
  · refine (win0_1.rect_emb_val t _ 0).trans ?_
    rw [(at1 t).1]; show t.val / 9 * 1 + z.val = t.val / 9; omega
  · refine (win0_1.rect_emb_val t _ 1).trans ?_
    rw [(at1 t).2.1]; show 0 * 4096 + a.val = a.val; omega
  · refine (win0_1.rect_emb_val t _ 2).trans ?_
    rw [(at1 t).2.2]; show 0 * 256 + f.val = f.val; omega

theorem emb2 (t : Fin grid0.N) (z : Fin 1) (a : Fin 256) (f : Fin 4096) : (win0_2.rect t).emb (ix3 z a f) = ix3 (layerAt t) a (colAt t f) := by
  funext i
  fin_cases i <;> apply Fin.ext
  · refine (win0_2.rect_emb_val t _ 0).trans ?_
    rw [(at2 t).1]; show t.val / 9 * 1 + z.val = t.val / 9; omega
  · refine (win0_2.rect_emb_val t _ 1).trans ?_
    rw [(at2 t).2.1]; show 0 * 256 + a.val = a.val; omega
  · refine (win0_2.rect_emb_val t _ 2).trans ?_
    rw [(at2 t).2.2]; rfl

theorem emb3 (t : Fin grid0.N) (z : Fin 1) (a : Fin 1) (f : Fin 4096) : (win0_3.rect t).emb (ix3 z a f) = ix3 (layerAt t) a (colAt t f) := by
  funext i
  fin_cases i <;> apply Fin.ext
  · refine (win0_3.rect_emb_val t _ 0).trans ?_
    rw [(at3 t).1]; show t.val / 9 * 1 + z.val = t.val / 9; omega
  · refine (win0_3.rect_emb_val t _ 1).trans ?_
    rw [(at3 t).2.1]; show 0 * 1 + a.val = a.val; omega
  · refine (win0_3.rect_emb_val t _ 2).trans ?_
    rw [(at3 t).2.2]; rfl

theorem emb4 (t : Fin grid0.N) (z : Fin 1) (a : Fin 8) (f : Fin 4096) : (win0_4.rect t).emb (ix3 z a f) = ix3 (layerAt t) a (colAt t f) := by
  funext i
  fin_cases i <;> apply Fin.ext
  · refine (win0_4.rect_emb_val t _ 0).trans ?_
    rw [(at4 t).1]; show t.val / 9 * 1 + z.val = t.val / 9; omega
  · refine (win0_4.rect_emb_val t _ 1).trans ?_
    rw [(at4 t).2.1]; show 0 * 8 + a.val = a.val; omega
  · refine (win0_4.rect_emb_val t _ 2).trans ?_
    rw [(at4 t).2.2]; rfl

theorem blk0 (c : Dev nD) (t : Fin grid0.N) (a : Fin 8) (k : Fin 4096) : iblk m c 0 t (ix2 a k) = aC m c (ix2 a k) :=
  (congrArg (V m c main_v2) (emb0 t a k)).trans (congrFun (entry_c m c) _)
theorem blk1 (c : Dev nD) (t : Fin grid0.N) (k : Fin 4096) (q : Fin 256) : iblk m c 1 t (ix3 0 k q) = aD m c (ix3 (layerAt t) k q) :=
  (congrArg (V m c main_arg2) (emb1 t 0 k q)).trans (congrFun (V_main_arg2 m c) _)
theorem blk2 (c : Dev nD) (t : Fin grid0.N) (q : Fin 256) (f : Fin 4096) : iblk m c 2 t (ix3 0 q f) = aU m c (ix3 (layerAt t) q (colAt t f)) :=
  (congrArg (V m c main_arg3) (emb2 t 0 q f)).trans (congrFun (V_main_arg3 m c) _)
theorem blk3 (c : Dev nD) (t : Fin grid0.N) (f : Fin 4096) : iblk m c 3 t (ix3 0 0 f) = aB m c (ix2 (layerAt t) (colAt t f)) :=
  (congrArg (V m c main_v3) (emb3 t 0 0 f)).trans ((congrFun (entry_b m c) _).trans (bias _ _ _))

/-- The first product over the point's blocks is the layer's. -/
theorem first_t (c : Dev nD) (t : Fin grid0.N) (a : Fin 8) (q : Fin 256) :
    k0_pay1 (iblk m c 0 t) (iblk m c 1 t) (ix2 a q) = tE (aC m c) (aD m c) (layerAt t) a q := by
  rw [pay_t]
  unfold tE
  exact Finset.sum_congr rfl fun k _ => by rw [blk0 m c t a k, blk1 m c t k q]

/-- The scratch after a point holds its layer's first product. -/
theorem scratch (c : Dev nD) (a : Fin 8) (q : Fin 256) : ∀ (n : ℕ) (h : n < cfg0.N),
    (outsAt0 m c n h).2 (ix2 a q) = tE (aC m c) (aD m c) (layerAt ⟨n, h⟩) a q := by
  intro n
  induction n with
  | zero =>
    intro h
    rw [outsAt0_A m c ⟨0, h⟩ (Nat.zero_mod _)]
    dsimp only
    rw [sout_A]
    exact first_t m c ⟨0, h⟩ a q
  | succ n ih =>
    intro h
    by_cases h0 : (n + 1) % 9 = 0
    · rw [outsAt0_A m c ⟨n + 1, h⟩ h0]
      dsimp only
      rw [sout_A]
      exact first_t m c ⟨n + 1, h⟩ a q
    · rw [outsAt0_B m c ⟨n + 1, h⟩ h0]
      have e : layerAt ⟨n + 1, h⟩ = layerAt ⟨n, Nat.lt_of_succ_lt h⟩ := Fin.ext (by show (n + 1) / 9 = n / 9; omega)
      rw [e]
      dsimp only [sout0_B_0, Nat.add_one_sub_one]
      exact ih (Nat.lt_of_succ_lt h)

/-- The block over a scratch that holds the layer's first product is the modulation's. -/
theorem block (c : Dev nD) (t : Fin grid0.N) (xs : Vec Ideal S8x256 .f32) (hx : ∀ a q, xs (ix2 a q) = tE (aC m c) (aD m c) (layerAt t) a q)
    (z : Fin 1) (a : Fin 8) (f : Fin 4096) :
    k0_pay2 xs (iblk m c 2 t) (iblk m c 3 t) (ix3 z a f) = aE (aC m c) (aD m c) (aU m c) (aB m c) (layerAt t) a (colAt t f) := by
  rw [pay_o]
  unfold aE
  exact congrArg₂ (· + ·) (Finset.sum_congr rfl fun q _ => by rw [hx a q, blk2 m c t q f]) (blk3 m c t f)

set_option maxRecDepth 65536 in
/-- What point `t` writes back is its block of the modulation. -/
theorem wrote4 (c : Dev nD) (t : Fin grid0.N) (hf : (cfg0.win 4).flush t = true) :
    (dats m 0 c).flushed 4 t = ((cfg0.win 4).blk t).view.read (Elt Ideal) (aT (aC m c) (aD m c) (aU m c) (aB m c)) := by
  by_cases ht : t.val % 9 = 0
  · rw [Value.flushed4_A m c t ht, out_A]
    funext y
    obtain ⟨z, a, f, rfl⟩ : ∃ (z : Fin 1) (a : Fin 8) (f : Fin 4096), y = ix3 z a f := ⟨y 0, y 1, y 2, eq_ix3 y⟩
    exact (block m c t _ (fun a q => first_t m c t a q) z a f).trans (congrArg (aT (aC m c) (aD m c) (aU m c) (aB m c)) (emb4 t z a f)).symm
  · rw [Value.flushed4_B m c t ht, out_B]
    funext y
    obtain ⟨z, a, f, rfl⟩ : ∃ (z : Fin 1) (a : Fin 8) (f : Fin 4096), y = ix3 z a f := ⟨y 0, y 1, y 2, eq_ix3 y⟩
    refine (block m c t _ (fun a q => ?_) z a f).trans (congrArg (aT (aC m c) (aD m c) (aU m c) (aB m c)) (emb4 t z a f)).symm
    rw [scratch]
    have e : layerAt ⟨t.val - 1, Nat.lt_of_le_of_lt (Nat.sub_le _ _) t.isLt⟩ = layerAt t := Fin.ext (by show (t.val - 1) / 9 = t.val / 9; omega)
    rw [e]

/-- Every index of the modulation lies in a block. -/
theorem cover4 (i : S4x8x36864.Idx) : ∃ t : Fin grid0.N, (cfg0.win 4).flush t = true ∧ i ∈ ((cfg0.win 4).blk t).view.set := by
  obtain ⟨l, a, f, rfl⟩ : ∃ (l : Fin 4) (a : Fin 8) (f : Fin 36864), i = ix3 l a f := ⟨i 0, i 1, i 2, eq_ix3 i⟩
  have hl := l.isLt
  have hf := f.isLt
  have ht : l.val * 9 + f.val / 4096 < 36 := by omega
  refine ⟨⟨_, ht⟩, fl4 _, ?_⟩
  have e : ix3 l a f = (win0_4.rect ⟨_, ht⟩).emb (ix3 (0 : Fin 1) a (⟨f.val % 4096, Nat.mod_lt _ (by norm_num)⟩ : Fin 4096)) := by
    rw [emb4]
    have e1 : layerAt ⟨_, ht⟩ = l := Fin.ext (by show (l.val * 9 + f.val / 4096) / 9 = l.val; omega)
    have e2 : colAt ⟨_, ht⟩ (⟨f.val % 4096, Nat.mod_lt _ (by norm_num)⟩ : Fin 4096) = f :=
      Fin.ext (by show (l.val * 9 + f.val / 4096) % 9 * 4096 + f.val % 4096 = f.val; omega)
    rw [e1, e2]
  rw [e]
  exact ((cfg0.win 4).blk ⟨_, ht⟩).view.emb_mem_set _

/-- The program's run with its result as a function of the arguments. -/
theorem run_value : θ_run defs (onTc (τ := τ) (main (F := Ideal))) ⟨m, fun _ => 0, ρ⟩ fun r => ∀ c : Dev nD,
      r.2.mem ((c : Thread nD τ).loc main_v4) = aT (aC m c) (aD m c) (aU m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c =>
    ⟨(h c).1.trans ((dats m 0 c).arrAt_eq_of_cover 4 _ (wrote4 m c) cover4), (h c).2⟩) (Value.run_blocks m ρ)

end Cert.Proof.Ada
end
-- ==== Proof.First.Value.lean ====
/- The first row pass: block by block, the two arrays the program leaves are the reference's, at the ideal instance. -/
module

public import proofs.«01_k».proof.Proof.Gen.FirstIdeal.Value
public import proofs.«01_k».proof.Proof.Gen.FirstRefIdeal.Run
public import proofs.«01_k».proof.Proof.PostPre.Ref
public import Idealize.ShloMosaic.Lib.Pointwise

@[expose] public section

noncomputable section

namespace Cert.Proof.First

section
open Idealize.ShloMosaic Cert.FirstRefIdeal Cert.FirstRefIdeal.Facts₀

/-- The reference's input to the first branch, over the row pass's own terms. -/
def rU (X : FVec Ideal Cert.FirstRefIdeal.S4x4096x4096 .f32) (C : FVec Ideal Cert.FirstRefIdeal.S4x256x4096 .f32) (G : FVec Ideal Cert.FirstRefIdeal.S6x4096 .f32) (M : FVec Ideal Cert.FirstRefIdeal.S8x9x4096 .f32) : FVec Ideal Cert.FirstRefIdeal.S17408x4096 .bf16 :=
  truncf .bf16 (concatenate S17408x4096 0 [⟨S16384x4096, (shapeCast _ (PostPre.Ref.uL X (shapeCast _ (extractStridedSlice S1x4096 ![0, 0] G slices_S6x4096_S1x4096_0_0) shapeCasts_S1x4096_S4096) (shapeCast _ (extractStridedSlice S4x1x4096 ![0, 0, 0] M slices_S8x9x4096_S4x1x4096_0_0_0) shapeCasts_S4x1x4096_S4x4096) (shapeCast _ (extractStridedSlice S4x1x4096 ![0, 1, 0] M slices_S8x9x4096_S4x1x4096_0_1_0) shapeCasts_S4x1x4096_S4x4096)) shapeCasts_S4x4096x4096_S16384x4096)⟩, ⟨S1024x4096, (shapeCast _ (PostPre.Ref.uC C (shapeCast _ (extractStridedSlice S1x4096 ![0, 0] G slices_S6x4096_S1x4096_0_0) shapeCasts_S1x4096_S4096) (shapeCast _ (extractStridedSlice S1x1x4096 ![4, 0, 0] M slices_S8x9x4096_S1x1x4096_4_0_0) shapeCasts_S1x1x4096_S1x4096) (shapeCast _ (extractStridedSlice S1x1x4096 ![4, 1, 0] M slices_S8x9x4096_S1x1x4096_4_1_0) shapeCasts_S1x1x4096_S1x4096)) shapeCasts_S4x256x4096_S1024x4096)⟩] concatenates_S16384x4096_S1024x4096_S17408x4096_d0 : FVec Ideal S17408x4096 .f32) bitsLt_bf16_f32

end

open Cert.FirstIdeal Cert.FirstIdeal.Gen
open Idealize.ShloMosaic Idealize.ShloMosaic.TcCoe Idealize.SL.Sem Idealize.ShloMosaic.Tactic
open Idealize.ShloMosaic.Pipeline (Dat Window)

/-- Row `r` of the stream: a latent row, then the context's rows. -/
def hR (X : FVec Ideal S4x4096x4096 .f32) (C : FVec Ideal S4x256x4096 .f32) (r : Fin 17408) (d : Fin 4096) : EReal :=
  if h : r.val < 16384 then X (ix3 ⟨r.val / 4096, by omega⟩ ⟨r.val % 4096, by omega⟩ d)
  else C (ix3 ⟨(r.val - 16384) / 256, by have := r.isLt; omega⟩ ⟨(r.val - 16384) % 256, by omega⟩ d)

/-- Row `r` of the first branch's input. -/
def uR (X : FVec Ideal S4x4096x4096 .f32) (C : FVec Ideal S4x256x4096 .f32) (G : FVec Ideal S6x4096 .f32) (M : FVec Ideal S8x9x4096 .f32)
    (r : Fin 17408) (d : Fin 4096) : EReal :=
  PostPre.Ref.uE (hR X C r) (fun d => G (ix2 0 d)) (fun d => M (ix3 (PostPre.Ref.mr r) 0 d)) (fun d => M (ix3 (PostPre.Ref.mr r) 1 d)) d

/-- The stream as a function of the two arrays. -/
def hT (X : FVec Ideal S4x4096x4096 .f32) (C : FVec Ideal S4x256x4096 .f32) : FVec Ideal S17408x4096 .f32 := fun i => hR X C (i 0) (i 1)

/-- The first branch's input as a function of the four arrays. -/
def uT (X : FVec Ideal S4x4096x4096 .f32) (C : FVec Ideal S4x256x4096 .f32) (G : FVec Ideal S6x4096 .f32) (M : FVec Ideal S8x9x4096 .f32) :
    FVec Ideal S17408x4096 .bf16 := fun i => uR X C G M (i 0) (i 1)

/-- The reference's stream is the one above. -/
theorem ref_h (X : FVec Ideal Cert.FirstRefIdeal.S4x4096x4096 .f32) (C : FVec Ideal Cert.FirstRefIdeal.S4x256x4096 .f32) :
    (concatenate Cert.FirstRefIdeal.S17408x4096 0 [⟨Cert.FirstRefIdeal.S16384x4096, (shapeCast _ X Cert.FirstRefIdeal.Facts₀.shapeCasts_S4x4096x4096_S16384x4096)⟩, ⟨Cert.FirstRefIdeal.S1024x4096, (shapeCast _ C Cert.FirstRefIdeal.Facts₀.shapeCasts_S4x256x4096_S1024x4096)⟩] Cert.FirstRefIdeal.Facts₀.concatenates_S16384x4096_S1024x4096_S17408x4096_d0 : FVec Ideal Cert.FirstRefIdeal.S17408x4096 .f32) = hT X C := by
  funext i
  obtain ⟨r, d, rfl⟩ : ∃ (r : Fin 17408) (d : Fin 4096), i = ix2 r d := ⟨i 0, i 1, eq_ix2 i⟩
  show _ = hR X C r d
  unfold hR
  pointwise

/-- The reference's input to the first branch is the one above. -/
theorem ref_u (X : FVec Ideal S4x4096x4096 .f32) (C : FVec Ideal S4x256x4096 .f32) (G : FVec Ideal S6x4096 .f32) (M : FVec Ideal S8x9x4096 .f32) :
    rU X C G M = uT X C G M := by
  funext i
  obtain ⟨r, d, rfl⟩ : ∃ (r : Fin 17408) (d : Fin 4096), i = ix2 r d := ⟨i 0, i 1, eq_ix2 i⟩
  show _ = uR X C G M r d
  have := r.isLt
  unfold rU uR
  pointwise
  split
  · rename_i hlt
    have e : (PostPre.Ref.mr r).val = r.val / 4096 := rfl
    rw [PostPre.Ref.uL_apply]
    have hh : (fun d => X (ix3 ⟨r.val / 4096, by omega⟩ ⟨r.val % 4096, by omega⟩ d)) = hR X C r :=
      funext fun d => by unfold hR; rw [dif_pos hlt]
    rw [hh]
    congr 1 <;> (funext d; pointwise <;> rfl)
  · rename_i hlt
    have e : PostPre.Ref.mr r = 4 := Fin.ext (by show r.val / 4096 = 4; omega)
    rw [PostPre.Ref.uC_apply, e]
    have hh : (fun d => C (ix3 ⟨(r.val - 16384) / 256, by omega⟩ ⟨(r.val - 16384) % 256, by omega⟩ d)) = hR X C r :=
      funext fun d => by unfold hR; rw [dif_neg hlt]
    rw [hh]
    congr 1 <;> (funext d; pointwise)

theorem hz : (![0, 0] : Fin 2 → Nat) = fun _ => 0 := funext fun a => by fin_cases a <;> rfl
theorem hz3 : (![0, 0, 0] : Fin 3 → Nat) = fun _ => 0 := funext fun a => by fin_cases a <;> rfl

/-- A block of the first branch's input at an index. -/
theorem pay_uA (x : Vec Ideal S256x4096 .f32) (m : Vec Ideal S1x9x4096 .f32) (g : Vec Ideal S1x4096 .f32) (a : Fin 256) (d : Fin 4096) :
    k0_pay2 x m g (ix2 a d)
      = PostPre.Ref.uE (fun d => x (ix2 a d)) (fun d => g (ix2 0 d)) (fun d => m (ix3 0 0 d)) (fun d => m (ix3 0 1 d)) d := by
  unfold k0_pay2 k0_pay1 PostPre.Ref.uE PostPre.Ref.inv
  pointwise

theorem pay_uB (x : Vec Ideal S256x4096 .f32) (m : Vec Ideal S1x9x4096 .f32) (g : Vec Ideal S1x4096 .f32) (a : Fin 256) (d : Fin 4096) :
    k0_pay4 x m g (ix2 a d)
      = PostPre.Ref.uE (fun d => x (ix2 a d)) (fun d => g (ix2 0 d)) (fun d => m (ix3 0 0 d)) (fun d => m (ix3 0 1 d)) d :=
  pay_uA x m g a d

theorem uE_congr {x x' g g' p p' q q' : Fin 4096 → EReal} (hx : x = x') (hg : g = g') (hp : p = p') (hq : q = q') (d : Fin 4096) :
    PostPre.Ref.uE x g p q d = PostPre.Ref.uE x' g' p' q' d := by rw [hx, hg, hp, hq]

/-- The gain the body reads is the first. -/
theorem gain (x : Vec Ideal S6x4096 .f32) (d : Fin 4096) (h : ∀ a, (![0, 0] : Fin 2 → Nat) a + S1x4096.size a ≤ S6x4096.size a) :
    View.ld x (Rect.unit (s := S6x4096) ![0, 0] S1x4096.size h) (ix2 0 d) = x (ix2 0 d) := by
  refine congrArg x ?_
  funext i
  fin_cases i <;> apply Fin.ext
  · rfl
  · show 0 + 1 * d.val = d.val; omega

/-- What the body leaves as the residual's block at a latent point: the block it reads. -/
theorem out_A_4 (c : Dev nD) (i : grid0.Coords) (a1 : Memref sig .tc .vmem S256x4096 .f32) (h1 : a1.IsWhole) (a2 : Memref sig .tc .vmem S256x4096 .f32) (h2 : a2.IsWhole)
    (a3 : Memref sig .tc .vmem S6x4096 .f32) (h3 : a3.IsWhole) (a4 : Memref sig .tc .vmem S1x9x4096 .f32) (h4 : a4.IsWhole) (a5 : Memref sig .tc .vmem S256x4096 .f32) (h5 : a5.IsWhole)
    (a6 : Memref sig .tc .vmem S256x4096 .bf16) (h6 : a6.IsWhole)
    (hc0 : cond0_0 i) (hc1 : ¬cond0_1 i) (x0 : Vec Ideal S256x4096 .f32) (x1 : Vec Ideal S256x4096 .f32) (x2 : Vec Ideal S6x4096 .f32) (x3 : Vec Ideal S1x9x4096 .f32) :
    out0_A_4 c i a1 h1 a2 h2 a3 h3 a4 h4 a5 h5 a6 h6 hc0 hc1 x0 x1 x2 x3 = x0 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  try sl_unfold_words
  rw [View.canon_unit_zero hz]
  unfold k0_pay1
  simp only [View.readAt_eq_ld, h1.read_unread, h2.read_unread, View.ld_unit_zero (S := S256x4096) hz, shapeCast_self]

/-- What the body leaves as the next input's block at a latent point, at an index. -/
theorem out_A_5 (c : Dev nD) (i : grid0.Coords) (a1 : Memref sig .tc .vmem S256x4096 .f32) (h1 : a1.IsWhole) (a2 : Memref sig .tc .vmem S256x4096 .f32) (h2 : a2.IsWhole)
    (a3 : Memref sig .tc .vmem S6x4096 .f32) (h3 : a3.IsWhole) (a4 : Memref sig .tc .vmem S1x9x4096 .f32) (h4 : a4.IsWhole) (a5 : Memref sig .tc .vmem S256x4096 .f32) (h5 : a5.IsWhole)
    (a6 : Memref sig .tc .vmem S256x4096 .bf16) (h6 : a6.IsWhole)
    (hc0 : cond0_0 i) (hc1 : ¬cond0_1 i) (x0 : Vec Ideal S256x4096 .f32) (x1 : Vec Ideal S256x4096 .f32) (x2 : Vec Ideal S6x4096 .f32) (x3 : Vec Ideal S1x9x4096 .f32) (a : Fin 256) (d : Fin 4096) :
    out0_A_5 c i a1 h1 a2 h2 a3 h3 a4 h4 a5 h5 a6 h6 hc0 hc1 x0 x1 x2 x3 (ix2 a d)
      = PostPre.Ref.uE (fun d => x0 (ix2 a d)) (fun d => x2 (ix2 0 d)) (fun d => x3 (ix3 0 0 d)) (fun d => x3 (ix3 0 1 d)) d := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  try sl_unfold_words
  rw [View.canon_unit_zero hz]
  simp only [View.readAt_eq_ld, h1.read_unread, h2.read_unread, h3.read_unread, h4.read_unread, View.ld_unit_zero (S := S256x4096) hz, View.ld_unit_zero (S := S1x9x4096) hz3, pay_uA]
  exact uE_congr rfl (funext fun d => gain x2 d _) rfl rfl d

/-- What the body leaves as the residual's block at a context point: the block it reads. -/
theorem out_B_4 (c : Dev nD) (i : grid0.Coords) (a1 : Memref sig .tc .vmem S256x4096 .f32) (h1 : a1.IsWhole) (a2 : Memref sig .tc .vmem S256x4096 .f32) (h2 : a2.IsWhole)
    (a3 : Memref sig .tc .vmem S6x4096 .f32) (h3 : a3.IsWhole) (a4 : Memref sig .tc .vmem S1x9x4096 .f32) (h4 : a4.IsWhole) (a5 : Memref sig .tc .vmem S256x4096 .f32) (h5 : a5.IsWhole)
    (a6 : Memref sig .tc .vmem S256x4096 .bf16) (h6 : a6.IsWhole)
    (hc0 : ¬cond0_0 i) (hc1 : cond0_1 i) (x0 : Vec Ideal S256x4096 .f32) (x1 : Vec Ideal S256x4096 .f32) (x2 : Vec Ideal S6x4096 .f32) (x3 : Vec Ideal S1x9x4096 .f32) :
    out0_B_4 c i a1 h1 a2 h2 a3 h3 a4 h4 a5 h5 a6 h6 hc0 hc1 x0 x1 x2 x3 = x1 := by
  unfold out0_B_4
  rw [View.read_writes_eq_canon _ _ _ (cover0_B_4 c i a1 h1 a2 h2 a3 h3 a4 h4 a5 h5 a6 h6 hc0 hc1 x0 x1 x2 x3)]
  unfold kernelRun0_B
  dsimp only
  try sl_unfold_words
  rw [View.canon_unit_zero hz]
  unfold k0_pay3
  simp only [View.readAt_eq_ld, h1.read_unread, h2.read_unread, View.ld_unit_zero (S := S256x4096) hz, shapeCast_self]

/-- What the body leaves as the next input's block at a context point, at an index. -/
theorem out_B_5 (c : Dev nD) (i : grid0.Coords) (a1 : Memref sig .tc .vmem S256x4096 .f32) (h1 : a1.IsWhole) (a2 : Memref sig .tc .vmem S256x4096 .f32) (h2 : a2.IsWhole)
    (a3 : Memref sig .tc .vmem S6x4096 .f32) (h3 : a3.IsWhole) (a4 : Memref sig .tc .vmem S1x9x4096 .f32) (h4 : a4.IsWhole) (a5 : Memref sig .tc .vmem S256x4096 .f32) (h5 : a5.IsWhole)
    (a6 : Memref sig .tc .vmem S256x4096 .bf16) (h6 : a6.IsWhole)
    (hc0 : ¬cond0_0 i) (hc1 : cond0_1 i) (x0 : Vec Ideal S256x4096 .f32) (x1 : Vec Ideal S256x4096 .f32) (x2 : Vec Ideal S6x4096 .f32) (x3 : Vec Ideal S1x9x4096 .f32) (a : Fin 256) (d : Fin 4096) :
    out0_B_5 c i a1 h1 a2 h2 a3 h3 a4 h4 a5 h5 a6 h6 hc0 hc1 x0 x1 x2 x3 (ix2 a d)
      = PostPre.Ref.uE (fun d => x1 (ix2 a d)) (fun d => x2 (ix2 0 d)) (fun d => x3 (ix3 0 0 d)) (fun d => x3 (ix3 0 1 d)) d := by
  unfold out0_B_5
  rw [View.read_writes_eq_canon _ _ _ (cover0_B_5 c i a1 h1 a2 h2 a3 h3 a4 h4 a5 h5 a6 h6 hc0 hc1 x0 x1 x2 x3)]
  unfold kernelRun0_B
  dsimp only
  try sl_unfold_words
  rw [View.canon_unit_zero hz]
  simp only [View.readAt_eq_ld, h1.read_unread, h2.read_unread, h3.read_unread, h4.read_unread, View.ld_unit_zero (S := S256x4096) hz, View.ld_unit_zero (S := S1x9x4096) hz3, pay_uB]
  exact uE_congr rfl (funext fun d => gain x2 d _) rfl rfl d

variable (m : (ℓ : Loc nD τ sig) → Buf (Elt Ideal) ℓ) (ρ : Dev nD → PrngReg)

/-- The latents. -/
abbrev aX (c : Dev nD) : FVec Ideal S4x4096x4096 .f32 := m ((c : Thread nD τ).loc main_arg0)
/-- The context. -/
abbrev aC (c : Dev nD) : FVec Ideal S4x256x4096 .f32 := m ((c : Thread nD τ).loc main_arg1)
/-- The gains. -/
abbrev aG (c : Dev nD) : FVec Ideal S6x4096 .f32 := m ((c : Thread nD τ).loc main_arg2)
/-- The modulation. -/
abbrev aM (c : Dev nD) : FVec Ideal S8x9x4096 .f32 := m ((c : Thread nD τ).loc main_arg3)

/-- What the host hands the call as its latent rows. -/
theorem entry_x (c : Dev nD) : V m c main_v0 = (shapeCast S16384x4096 (aX m c) Facts₀.shapeCasts_S4x4096x4096_S16384x4096 : FVec Ideal S16384x4096 .f32) := by
  unfold_abbrev_sides
  after_results_simp <;> rfl
/-- What the host hands the call as its context rows. -/
theorem entry_c (c : Dev nD) : V m c main_v1 = (shapeCast S1024x4096 (aC m c) Facts₀.shapeCasts_S4x256x4096_S1024x4096 : FVec Ideal S1024x4096 .f32) := by
  unfold_abbrev_sides
  after_results_simp <;> rfl

theorem rows_x (X : FVec Ideal S4x4096x4096 .f32) (r : Fin 16384) (d : Fin 4096) :
    (shapeCast S16384x4096 X Facts₀.shapeCasts_S4x4096x4096_S16384x4096 : FVec Ideal S16384x4096 .f32) (ix2 r d)
      = X (ix3 ⟨r.val / 4096, by omega⟩ ⟨r.val % 4096, by omega⟩ d) := by
  pointwise
theorem rows_c (C : FVec Ideal S4x256x4096 .f32) (r : Fin 1024) (d : Fin 4096) :
    (shapeCast S1024x4096 C Facts₀.shapeCasts_S4x256x4096_S1024x4096 : FVec Ideal S1024x4096 .f32) (ix2 r d)
      = C (ix3 ⟨r.val / 256, by omega⟩ ⟨r.val % 256, by omega⟩ d) := by
  pointwise

/-! Which block each window takes at a point. -/

theorem at0 : ∀ t : Fin grid0.N, t.val < 64 → win0_0.index t 0 = t.val ∧ win0_0.index t 1 = 0 := by decide +kernel
theorem at1 : ∀ t : Fin grid0.N, 64 ≤ t.val → win0_1.index t 0 = t.val - 64 ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val / 16 ∧ win0_3.index t 1 = 0 ∧ win0_3.index t 2 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem fl4 : ∀ t : Fin grid0.N, win0_4.flush t = true := by decide +kernel
theorem fl5 : ∀ t : Fin grid0.N, win0_5.flush t = true := by decide +kernel

/-- The row of the array that row `a` of point `t`'s block is. -/
def rowAt (t : Fin grid0.N) (a : Fin 256) : Fin 17408 := ⟨t.val * 256 + a.val, by have : t.val < 68 := t.isLt; have := a.isLt; omega⟩

theorem emb0 (t : Fin grid0.N) (ht : t.val < 64) (a : Fin 256) (d : Fin 4096) :
    (win0_0.rect t).emb (ix2 a d) = ix2 (⟨t.val * 256 + a.val, by have := a.isLt; omega⟩ : Fin 16384) d := by
  funext i
  fin_cases i <;> apply Fin.ext
  · refine (win0_0.rect_emb_val t _ 0).trans ?_
    rw [(at0 t ht).1]; rfl
  · refine (win0_0.rect_emb_val t _ 1).trans ?_
    rw [(at0 t ht).2]; show 0 * 4096 + d.val = d.val; omega

theorem emb1 (t : Fin grid0.N) (ht : 64 ≤ t.val) (a : Fin 256) (d : Fin 4096) :
    (win0_1.rect t).emb (ix2 a d) = ix2 (⟨(t.val - 64) * 256 + a.val, by have : t.val < 68 := t.isLt; have := a.isLt; omega⟩ : Fin 1024) d := by
  funext i
  fin_cases i <;> apply Fin.ext
  · refine (win0_1.rect_emb_val t _ 0).trans ?_
    rw [(at1 t ht).1]; rfl
  · refine (win0_1.rect_emb_val t _ 1).trans ?_
    rw [(at1 t ht).2]; show 0 * 4096 + d.val = d.val; omega

theorem emb2 (t : Fin grid0.N) (j : Fin 6) (d : Fin 4096) : (win0_2.rect t).emb (ix2 j d) = ix2 j d := by
  funext i
  fin_cases i <;> apply Fin.ext
  · refine (win0_2.rect_emb_val t _ 0).trans ?_
    rw [(at2 t).1]; show 0 * 6 + j.val = j.val; omega
  · refine (win0_2.rect_emb_val t _ 1).trans ?_
    rw [(at2 t).2]; show 0 * 4096 + d.val = d.val; omega

theorem emb3 (t : Fin grid0.N) (a : Fin 256) (z : Fin 1) (j : Fin 9) (d : Fin 4096) :
    (win0_3.rect t).emb (ix3 z j d) = ix3 (PostPre.Ref.mr (rowAt t a)) j d := by
  funext i
  fin_cases i <;> apply Fin.ext
  · refine (win0_3.rect_emb_val t _ 0).trans ?_
    rw [(at3 t).1]; show t.val / 16 * 1 + z.val = (t.val * 256 + a.val) / 4096; have := a.isLt; omega
  · refine (win0_3.rect_emb_val t _ 1).trans ?_
    rw [(at3 t).2.1]; show 0 * 9 + j.val = j.val; omega
  · refine (win0_3.rect_emb_val t _ 2).trans ?_
    rw [(at3 t).2.2]; show 0 * 4096 + d.val = d.val; omega

theorem emb4 (t : Fin grid0.N) (a : Fin 256) (d : Fin 4096) : (win0_4.rect t).emb (ix2 a d) = ix2 (rowAt t a) d := by
  funext i
  fin_cases i <;> apply Fin.ext
  · refine (win0_4.rect_emb_val t _ 0).trans ?_
    rw [(at4 t).1]; rfl
  · refine (win0_4.rect_emb_val t _ 1).trans ?_
    rw [(at4 t).2]; show 0 * 4096 + d.val = d.val; omega

theorem emb5 (t : Fin grid0.N) (a : Fin 256) (d : Fin 4096) : (win0_5.rect t).emb (ix2 a d) = ix2 (rowAt t a) d := by
  funext i
  fin_cases i <;> apply Fin.ext
  · refine (win0_5.rect_emb_val t _ 0).trans ?_
    rw [(at5 t).1]; rfl
  · refine (win0_5.rect_emb_val t _ 1).trans ?_
    rw [(at5 t).2]; show 0 * 4096 + d.val = d.val; omega

theorem blk0 (c : Dev nD) (t : Fin grid0.N) (ht : t.val < 64) (a : Fin 256) (d : Fin 4096) :
    iblk m c 0 t (ix2 a d) = hR (aX m c) (aC m c) (rowAt t a) d := by
  refine (congrArg (V m c main_v0) (emb0 t ht a d)).trans ((congrFun (entry_x m c) _).trans ((rows_x _ _ d).trans ?_))
  unfold hR
  rw [dif_pos (show (rowAt t a).val < 16384 by have := a.isLt; show t.val * 256 + a.val < 16384; omega)]
  rfl
theorem blk1 (c : Dev nD) (t : Fin grid0.N) (ht : 64 ≤ t.val) (a : Fin 256) (d : Fin 4096) :
    iblk m c 1 t (ix2 a d) = hR (aX m c) (aC m c) (rowAt t a) d := by
  refine (congrArg (V m c main_v1) (emb1 t ht a d)).trans ((congrFun (entry_c m c) _).trans ((rows_c _ _ d).trans ?_))
  unfold hR
  rw [dif_neg (show ¬ (rowAt t a).val < 16384 by show ¬ t.val * 256 + a.val < 16384; omega)]
  have e : (rowAt t a).val - 16384 = (t.val - 64) * 256 + a.val := by show t.val * 256 + a.val - 16384 = _; omega
  simp only [e]
theorem blk2 (c : Dev nD) (t : Fin grid0.N) (j : Fin 6) (d : Fin 4096) : iblk m c 2 t (ix2 j d) = aG m c (ix2 j d) :=
  (congrArg (V m c main_arg2) (emb2 t j d)).trans (congrFun (V_main_arg2 m c) _)
theorem blk3 (c : Dev nD) (t : Fin grid0.N) (a : Fin 256) (z : Fin 1) (j : Fin 9) (d : Fin 4096) :
    iblk m c 3 t (ix3 z j d) = aM m c (ix3 (PostPre.Ref.mr (rowAt t a)) j d) :=
  (congrArg (V m c main_arg3) (emb3 t a z j d)).trans (congrFun (V_main_arg3 m c) _)

set_option maxRecDepth 65536 in
/-- What point `t` writes back is its block of the stream. -/
theorem wrote4 (c : Dev nD) (t : Fin grid0.N) (hf : (cfg0.win 4).flush t = true) :
    (dats m 0 c).flushed 4 t = ((cfg0.win 4).blk t).view.read (Elt Ideal) (hT (aX m c) (aC m c)) := by
  by_cases ht : t.val < 64
  · rw [Value.flushed4_A m c t ht (by omega), out_A_4]
    funext y
    obtain ⟨a, d, rfl⟩ : ∃ (a : Fin 256) (d : Fin 4096), y = ix2 a d := ⟨y 0, y 1, eq_ix2 y⟩
    exact (blk0 m c t ht a d).trans (congrArg (hT (aX m c) (aC m c)) (emb4 t a d)).symm
  · rw [Value.flushed4_B m c t ht (by omega), out_B_4]
    funext y
    obtain ⟨a, d, rfl⟩ : ∃ (a : Fin 256) (d : Fin 4096), y = ix2 a d := ⟨y 0, y 1, eq_ix2 y⟩
    exact (blk1 m c t (by omega) a d).trans (congrArg (hT (aX m c) (aC m c)) (emb4 t a d)).symm

set_option maxRecDepth 65536 in
/-- What point `t` writes back is its block of the first branch's input. -/
theorem wrote5 (c : Dev nD) (t : Fin grid0.N) (hf : (cfg0.win 5).flush t = true) :
    (dats m 0 c).flushed 5 t = ((cfg0.win 5).blk t).view.read (Elt Ideal) (uT (aX m c) (aC m c) (aG m c) (aM m c)) := by
  by_cases ht : t.val < 64
  · rw [Value.flushed5_A m c t ht (by omega)]
    funext y
    obtain ⟨a, d, rfl⟩ : ∃ (a : Fin 256) (d : Fin 4096), y = ix2 a d := ⟨y 0, y 1, eq_ix2 y⟩
    refine Eq.trans ?_ (congrArg (uT (aX m c) (aC m c) (aG m c) (aM m c)) (emb5 t a d)).symm
    refine (out_A_5 c _ _ _ _ _ _ _ _ _ _ _ _ _ _ _ _ _ _ _ a d).trans ?_
    exact uE_congr (funext fun d => blk0 m c t ht a d) (funext fun d => blk2 m c t 0 d) (funext fun d => blk3 m c t a 0 0 d) (funext fun d => blk3 m c t a 0 1 d) d
  · rw [Value.flushed5_B m c t ht (by omega)]
    funext y
    obtain ⟨a, d, rfl⟩ : ∃ (a : Fin 256) (d : Fin 4096), y = ix2 a d := ⟨y 0, y 1, eq_ix2 y⟩
    refine Eq.trans ?_ (congrArg (uT (aX m c) (aC m c) (aG m c) (aM m c)) (emb5 t a d)).symm
    refine (out_B_5 c _ _ _ _ _ _ _ _ _ _ _ _ _ _ _ _ _ _ _ a d).trans ?_
    exact uE_congr (funext fun d => blk1 m c t (by omega) a d) (funext fun d => blk2 m c t 0 d) (funext fun d => blk3 m c t a 0 0 d) (funext fun d => blk3 m c t a 0 1 d) d

/-- Every index of the array lies in a block. -/
theorem cover4 (i : S17408x4096.Idx) : ∃ t : Fin grid0.N, (cfg0.win 4).flush t = true ∧ i ∈ ((cfg0.win 4).blk t).view.set := by
  obtain ⟨r, f, rfl⟩ : ∃ (r : Fin 17408) (f : Fin 4096), i = ix2 r f := ⟨i 0, i 1, eq_ix2 i⟩
  have hr := r.isLt
  have ht : r.val / 256 < 68 := by omega
  refine ⟨⟨_, ht⟩, fl4 _, ?_⟩
  have e : ix2 r f = (win0_4.rect ⟨_, ht⟩).emb (ix2 (⟨r.val % 256, Nat.mod_lt _ (by norm_num)⟩ : Fin 256) f) := by
    rw [emb4]
    congr 1; apply Fin.ext; simp only [rowAt]; omega
  rw [e]
  exact ((cfg0.win 4).blk ⟨_, ht⟩).view.emb_mem_set _

/-- Every index of the array lies in a block. -/
theorem cover5 (i : S17408x4096.Idx) : ∃ t : Fin grid0.N, (cfg0.win 5).flush t = true ∧ i ∈ ((cfg0.win 5).blk t).view.set := by
  obtain ⟨r, f, rfl⟩ : ∃ (r : Fin 17408) (f : Fin 4096), i = ix2 r f := ⟨i 0, i 1, eq_ix2 i⟩
  have hr := r.isLt
  have ht : r.val / 256 < 68 := by omega
  refine ⟨⟨_, ht⟩, fl5 _, ?_⟩
  have e : ix2 r f = (win0_5.rect ⟨_, ht⟩).emb (ix2 (⟨r.val % 256, Nat.mod_lt _ (by norm_num)⟩ : Fin 256) f) := by
    rw [emb5]
    congr 1; apply Fin.ext; simp only [rowAt]; omega
  rw [e]
  exact ((cfg0.win 5).blk ⟨_, ht⟩).view.emb_mem_set _

/-- The program's run with its results as functions of the arguments. -/
theorem run_value : θ_run defs (onTc (τ := τ) (main (F := Ideal))) ⟨m, fun _ => 0, ρ⟩ fun r => ∀ c : Dev nD,
      r.2.mem ((c : Thread nD τ).loc main_v2_0) = hT (aX m c) (aC m c)
      ∧ r.2.mem ((c : Thread nD τ).loc main_v2_1) = uT (aX m c) (aC m c) (aG m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c =>
    ⟨(h c).1.trans ((dats m 0 c).arrAt_eq_of_cover 4 _ (wrote4 m c) cover4),
      (h c).2.1.trans ((dats m 0 c).arrAt_eq_of_cover 5 _ (wrote5 m c) cover5), (h c).2.2⟩) (Value.run_blocks m ρ)

end Cert.Proof.First
end
-- ==== Proof.Codes.Value.lean ====
/- The gate codes: block by block, the array the program leaves is the reference's, at the ideal instance. -/
module

public import proofs.«01_k».proof.Proof.Gen.CodesIdeal.Value
public import proofs.«01_k».proof.Proof.Gen.CodesRefIdeal.Run
public import Idealize.ShloMosaic.Lib.Pointwise

@[expose] public section

noncomputable section

namespace Cert.Proof.Codes

open Cert.CodesIdeal Cert.CodesIdeal.Gen
open Idealize.ShloMosaic Idealize.ShloMosaic.TcCoe Idealize.SL.Sem
open Idealize.ShloMosaic.Pipeline (Dat Window)

/-- The last 32 columns of the projection's weight at an index, then zeros. -/
def wz (W : FVec Ideal S4096x12320 .f32) (k : Fin 4096) (b : Fin 128) : EReal :=
  if h : b.val < 32 then W (ix2 k ⟨12288 + b.val, by omega⟩) else 0

/-- The gate codes at an index: the product's sum. -/
def zT (X : FVec Ideal S17408x4096 .bf16) (W : FVec Ideal S4096x12320 .f32) : FVec Ideal S17408x128 .f32 :=
  fun i => ∑ k : Fin 4096, X (ix2 (i 0) k) * wz W k (i 1)

/-- The integer zero, as a float, is zero. -/
theorem zero_int : FloatOps.sitofp (F := Ideal) FTy.f32 (0#32) = (0 : EReal) := by
  show (((0#32 : BitVec 32).toInt : ℝ) : EReal) = 0
  simp

/-- The weight the host prepares is the one above. -/
theorem prep (W : FVec Ideal S4096x12320 .f32) (k : Fin 4096) (b : Fin 128) :
    (truncf .bf16 (pad S4096x128 ![0, 0] ![0, 96] ![0, 0] (extractStridedSlice S4096x32 ![0, 12288] W Facts₀.slices_S4096x12320_S4096x32_0_12288)
      (sitofp .f32 (constantI S_ 32 0#32)) Facts₀.pads_S4096x32_S4096x128_000_0960 Facts₀.h_S_) Facts₀.bitsLt_bf16_f32 : FVec Ideal S4096x128 .bf16) (ix2 k b) = wz W k b := by
  unfold wz
  pointwise
  by_cases h : b.val < 32
  · simp [h]
  · simp [h, zero_int]

/-- The reference's codes are the ones above. -/
theorem ref_z (X : FVec Ideal S17408x4096 .bf16) (W : FVec Ideal S4096x12320 .f32) :
    (pad S17408x128 ![0, 0] ![0, 96] ![0, 0] (Host.dotGeneral Cert.CodesRefIdeal.dot_S17408x4096_S4096x32_S17408x32_1_0_0_1_n_n none (extf .f32 X Cert.CodesRefIdeal.Facts₀.bitsLt_bf16_f32) (extractStridedSlice Cert.CodesRefIdeal.S4096x32 ![0, 12288] W Cert.CodesRefIdeal.Facts₀.slices_S4096x12320_S4096x32_0_12288)) (sitofp .f32 (constantI Cert.CodesRefIdeal.S_ 32 0#32)) Cert.CodesRefIdeal.Facts₀.pads_S17408x32_S17408x128_000_0960 Cert.CodesRefIdeal.Facts₀.h_S_ : FVec Ideal S17408x128 .f32) = zT X W := by
  funext i
  obtain ⟨r, b, rfl⟩ : ∃ (r : Fin 17408) (b : Fin 128), i = ix2 r b := ⟨i 0, i 1, eq_ix2 i⟩
  show _ = ∑ k : Fin 4096, X (ix2 r k) * wz W k b
  unfold wz
  pointwise
  by_cases h : b.val < 32
  · simp [h]
  · simp [h, zero_int]

/-- A block of the codes at an index. -/
theorem pay_z (x : Vec Ideal S1024x4096 .bf16) (w : Vec Ideal S4096x128 .bf16) (a : Fin 1024) (b : Fin 128) :
    k0_pay1 x w (ix2 a b) = ∑ k : Fin 4096, x (ix2 a k) * w (ix2 k b) := by
  unfold k0_pay1
  pointwise

variable (m : (ℓ : Loc nD τ sig) → Buf (Elt Ideal) ℓ) (ρ : Dev nD → PrngReg)

/-- The rows the product takes. -/
abbrev aX (c : Dev nD) : FVec Ideal S17408x4096 .bf16 := m ((c : Thread nD τ).loc main_arg0)
/-- The projection's weight. -/
abbrev aW (c : Dev nD) : FVec Ideal S4096x12320 .f32 := m ((c : Thread nD τ).loc main_arg1)

/-- What the host hands the call as its weight. -/
theorem entry_w (c : Dev nD) : V m c main_v2 =
    (truncf .bf16 (pad S4096x128 ![0, 0] ![0, 96] ![0, 0] (extractStridedSlice S4096x32 ![0, 12288] (aW m c) Facts₀.slices_S4096x12320_S4096x32_0_12288)
      (sitofp .f32 (constantI S_ 32 0#32)) Facts₀.pads_S4096x32_S4096x128_000_0960 Facts₀.h_S_) Facts₀.bitsLt_bf16_f32 : FVec Ideal S4096x128 .bf16) := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results_simp <;> rfl

/-! Which block each window takes at a point. -/

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem fl2 : ∀ t : Fin grid0.N, win0_2.flush t = true := by decide +kernel

/-- The row of the array that row `a` of point `t`'s block is. -/
def rowAt (t : Fin grid0.N) (a : Fin 1024) : Fin 17408 := ⟨t.val * 1024 + a.val, by have : t.val < 17 := t.isLt; have := a.isLt; omega⟩

theorem emb0 (t : Fin grid0.N) (a : Fin 1024) (k : Fin 4096) : (win0_0.rect t).emb (ix2 a k) = ix2 (rowAt t a) k := by
  funext i
  fin_cases i <;> apply Fin.ext
  · refine (win0_0.rect_emb_val t _ 0).trans ?_
    rw [(at0 t).1]; rfl
  · refine (win0_0.rect_emb_val t _ 1).trans ?_
    rw [(at0 t).2]; show 0 * 4096 + k.val = k.val; omega

theorem emb1 (t : Fin grid0.N) (k : Fin 4096) (b : Fin 128) : (win0_1.rect t).emb (ix2 k b) = ix2 k b := by
  funext i
  fin_cases i <;> apply Fin.ext
  · refine (win0_1.rect_emb_val t _ 0).trans ?_
    rw [(at1 t).1]; show 0 * 4096 + k.val = k.val; omega
  · refine (win0_1.rect_emb_val t _ 1).trans ?_
    rw [(at1 t).2]; show 0 * 128 + b.val = b.val; omega

theorem emb2 (t : Fin grid0.N) (a : Fin 1024) (b : Fin 128) : (win0_2.rect t).emb (ix2 a b) = ix2 (rowAt t a) b := by
  funext i
  fin_cases i <;> apply Fin.ext
  · refine (win0_2.rect_emb_val t _ 0).trans ?_
    rw [(at2 t).1]; rfl
  · refine (win0_2.rect_emb_val t _ 1).trans ?_
    rw [(at2 t).2]; show 0 * 128 + b.val = b.val; omega

theorem blk0 (c : Dev nD) (t : Fin grid0.N) (a : Fin 1024) (k : Fin 4096) : iblk m c 0 t (ix2 a k) = aX m c (ix2 (rowAt t a) k) :=
  (congrArg (V m c main_arg0) (emb0 t a k)).trans (congrFun (V_main_arg0 m c) _)
theorem blk1 (c : Dev nD) (t : Fin grid0.N) (k : Fin 4096) (b : Fin 128) : iblk m c 1 t (ix2 k b) = wz (aW m c) k b :=
  (congrArg (V m c main_v2) (emb1 t k b)).trans ((congrFun (entry_w m c) _).trans (prep _ k b))

set_option maxRecDepth 65536 in
/-- What point `t` writes back is its block of the codes. -/
theorem wrote2 (c : Dev nD) (t : Fin grid0.N) (hf : (cfg0.win 2).flush t = true) :
    (dats m 0 c).flushed 2 t = ((cfg0.win 2).blk t).view.read (Elt Ideal) (zT (aX m c) (aW m c)) := by
  rw [Value.flushed2]
  funext y
  obtain ⟨a, b, rfl⟩ : ∃ (a : Fin 1024) (b : Fin 128), y = ix2 a b := ⟨y 0, y 1, eq_ix2 y⟩
  refine Eq.trans ?_ (congrArg (zT (aX m c) (aW m c)) (emb2 t a b)).symm
  show out0_2 (iblk m c 0 t) (iblk m c 1 t) (ix2 a b) = _
  unfold out0_2
  rw [View.canon_unit_zero (by funext i; fin_cases i <;> rfl), pay_z]
  refine Finset.sum_congr rfl fun k _ => ?_
  rw [View.ld_unit_zero (by funext i; fin_cases i <;> rfl), View.ld_unit_zero (by funext i; fin_cases i <;> rfl)]
  exact congrArg₂ (· * ·) (blk0 m c t a k) (blk1 m c t k b)

/-- Every index of the codes lies in a block. -/
theorem cover2 (i : S17408x128.Idx) : ∃ t : Fin grid0.N, (cfg0.win 2).flush t = true ∧ i ∈ ((cfg0.win 2).blk t).view.set := by
  obtain ⟨r, f, rfl⟩ : ∃ (r : Fin 17408) (f : Fin 128), i = ix2 r f := ⟨i 0, i 1, eq_ix2 i⟩
  have hr := r.isLt
  have ht : r.val / 1024 < 17 := by omega
  refine ⟨⟨_, ht⟩, fl2 _, ?_⟩
  have e : ix2 r f = (win0_2.rect ⟨_, ht⟩).emb (ix2 (⟨r.val % 1024, Nat.mod_lt _ (by norm_num)⟩ : Fin 1024) f) := by
    rw [emb2]
    congr 1; apply Fin.ext; simp only [rowAt]; omega
  rw [e]
  exact ((cfg0.win 2).blk ⟨_, ht⟩).view.emb_mem_set _

/-- The program's run with its result as a function of the arguments. -/
theorem run_value : θ_run defs (onTc (τ := τ) (main (F := Ideal))) ⟨m, fun _ => 0, ρ⟩ fun r => ∀ c : Dev nD,
      r.2.mem ((c : Thread nD τ).loc main_v3) = zT (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c =>
    ⟨(h c).1.trans ((dats m 0 c).arrAt_eq_of_cover 2 _ (wrote2 m c) cover2), (h c).2⟩) (Value.run_blocks m ρ)

end Cert.Proof.Codes
end
-- ==== Proof.lean ====
/-
  The residual update and the next branch's input, by rows: the program terminates and leaves its arguments and
  counters as they were, and over the extended reals its two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PostPre.Value
public import proofs.«01_k».proof.Proof.FfnIn.Value
public import proofs.«01_k».proof.Proof.FfnOut.Value
public import proofs.«01_k».proof.Proof.MixIn.Value
public import proofs.«01_k».proof.Proof.MixOut.Value
public import proofs.«01_k».proof.Proof.Post.Value
public import proofs.«01_k».proof.Proof.Ada.Value
public import proofs.«01_k».proof.Proof.First.Value
public import proofs.«01_k».proof.Proof.Codes.Value
public import proofs.«01_k».proof.Proof.Gen.FfnIn
public import proofs.«01_k».proof.Proof.Gen.FfnInIdeal.Value
public import proofs.«01_k».proof.Proof.Gen.FfnInRefIdeal.Run
public import proofs.«01_k».proof.Proof.Gen.FfnOut
public import proofs.«01_k».proof.Proof.Gen.FfnOutIdeal.Value
public import proofs.«01_k».proof.Proof.Gen.FfnOutRefIdeal.Run
public import proofs.«01_k».proof.Proof.Gen.MixIn
public import proofs.«01_k».proof.Proof.Gen.MixInIdeal.Value
public import proofs.«01_k».proof.Proof.Gen.MixInRefIdeal.Run
public import proofs.«01_k».proof.Proof.Gen.MixOut
public import proofs.«01_k».proof.Proof.Gen.MixOutIdeal.Value
public import proofs.«01_k».proof.Proof.Gen.MixOutRefIdeal.Run
public import proofs.«01_k».proof.Proof.Gen.Ada
public import proofs.«01_k».proof.Proof.Gen.AdaIdeal.Value
public import proofs.«01_k».proof.Proof.Gen.AdaRefIdeal.Run
public import proofs.«01_k».proof.Proof.Gen.First
public import proofs.«01_k».proof.Proof.Gen.FirstIdeal.Value
public import proofs.«01_k».proof.Proof.Gen.FirstRefIdeal.Run
public import proofs.«01_k».proof.Proof.Gen.Codes
public import proofs.«01_k».proof.Proof.Gen.CodesIdeal.Value
public import proofs.«01_k».proof.Proof.Gen.CodesRefIdeal.Run
public import proofs.«01_k».proof.Proof.Gen.Post
public import proofs.«01_k».proof.Proof.Gen.PostIdeal.Value
public import proofs.«01_k».proof.Proof.Gen.PostRefIdeal.Run
public import Idealize.ShloMosaic.Adequacy
public import Idealize.ShloMosaic.Init

@[expose] public section

noncomputable section

namespace Cert.Proof

open Idealize.ShloMosaic Idealize.SL.Sem

set_option maxRecDepth 65536 in
set_option maxHeartbeats 40000000 in
/-- The kernel's frame: the run, written once over any float values, at machine words. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1⟩, h.2⟩)
    (PostPre.run_main (F := Bits) m ρ)

/-- The ideal kernel's frame: the same run over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (PostPre.run_main (F := Ideal) m ρ)

/-- The reference's frame: its generated run; it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- From equal arguments the program and the reference leave equal results. -/
theorem algebraic : Cert.algebraic_KernelIdeal_ReferenceIdeal := by
  intro m g m' g' hpre hargs
  refine ⟨_, _, PostPre.run_value m g, ?_⟩
  refine (θ_run Cert.ReferenceIdeal.defs _ _).mono (fun r h c => ?_) (Cert.ReferenceIdeal.Value.run (F := Ideal) m' g')
  obtain ⟨e0, e1, e2, e3⟩ := hargs c
  obtain ⟨h0, h1, hr⟩ := h c
  refine ⟨h0.trans ((PostPre.Ref.res_hn m' c).trans ?_), h1.trans ((PostPre.Ref.res_u m' c).trans ?_), hr⟩
  · exact congr (congr (congr (congrArg PostPre.Ref.hnT e0) e1) e2) e3
  · exact congr (congr (congr (congrArg PostPre.Ref.uT e0) e1) e2) e3

set_option maxRecDepth 65536 in
/-- The two texts of the feed-forward's input product have one table of bodies. -/
theorem bodies_FfnIn : Cert.FfnIn.defs₀ (F := Bits) = Cert.FfnInIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_FfnIn : Cert.FfnIn.defs (F := Bits) = Cert.FfnInIdeal.defs (F := Bits) :=
  congrArg (Pipeline.defs Cert.FfnIn.pcfgs) bodies_FfnIn

set_option maxRecDepth 65536 in
/-- The feed-forward's input product's frame, at machine words. -/
theorem frame_FfnIn : Cert.quiescent_FfnIn := fun m ρ _ => by
  rw [defs_FfnIn]
  exact Cert.FfnInIdeal.Gen.frame (F := Bits) m ρ

/-- The same over the extended reals. -/
theorem frame_FfnIn_ideal : Cert.quiescent_FfnInIdeal := fun m ρ _ => Cert.FfnInIdeal.Gen.frame m ρ

/-- Its reference's frame. -/
theorem frame_FfnIn_reference : Cert.quiescent_FfnInRefIdeal := fun m ρ _ =>
  (θ_run Cert.FfnInRefIdeal.defs _ _).mono
    (fun r h => ⟨fun c => (h c).2.2, sem_eq_zero_of_no_sems (by decide) r.2⟩)
    (Cert.FfnInRefIdeal.Value.run (F := Ideal) m ρ)

/-- From equal arguments the feed-forward's input product and its reference leave equal results. -/
theorem algebraic_FfnIn : Cert.algebraic_FfnInIdeal_FfnInRefIdeal := by
  intro m g m' g' hpre hargs
  refine ⟨_, _, FfnIn.run_value m g, ?_⟩
  refine (θ_run Cert.FfnInRefIdeal.defs _ _).mono (fun r h c => ?_) (Cert.FfnInRefIdeal.Value.run (F := Ideal) m' g')
  obtain ⟨e0, e1, e2⟩ := hargs c
  obtain ⟨h0, h1, hr⟩ := h c
  refine ⟨h0.trans ((FfnIn.ref_y _ _ _ rfl).trans ?_), h1.trans ((FfnIn.ref_n _).trans ?_), hr⟩
  · exact congr (congrArg FfnIn.yT e0) e1
  · exact congrArg FfnIn.nT e2

set_option maxRecDepth 65536 in
/-- The two texts of the feed-forward's output product have one table of bodies. -/
theorem bodies_FfnOut : Cert.FfnOut.defs₀ (F := Bits) = Cert.FfnOutIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_FfnOut : Cert.FfnOut.defs (F := Bits) = Cert.FfnOutIdeal.defs (F := Bits) :=
  congrArg (Pipeline.defs Cert.FfnOut.pcfgs) bodies_FfnOut

set_option maxRecDepth 65536 in
/-- The feed-forward's output product's frame, at machine words. -/
theorem frame_FfnOut : Cert.quiescent_FfnOut := fun m ρ _ => by
  rw [defs_FfnOut]
  exact Cert.FfnOutIdeal.Gen.frame (F := Bits) m ρ

/-- The same over the extended reals. -/
theorem frame_FfnOut_ideal : Cert.quiescent_FfnOutIdeal := fun m ρ _ => Cert.FfnOutIdeal.Gen.frame m ρ

/-- Its reference's frame. -/
theorem frame_FfnOut_reference : Cert.quiescent_FfnOutRefIdeal := fun m ρ _ =>
  (θ_run Cert.FfnOutRefIdeal.defs _ _).mono
    (fun r h => ⟨fun c => (h c).2.2, sem_eq_zero_of_no_sems (by decide) r.2⟩)
    (Cert.FfnOutRefIdeal.Value.run (F := Ideal) m ρ)

/-- From equal arguments the feed-forward's output product and its reference leave equal results. -/
theorem algebraic_FfnOut : Cert.algebraic_FfnOutIdeal_FfnOutRefIdeal := by
  intro m g m' g' hpre hargs
  refine ⟨_, _, FfnOut.run_value m g, ?_⟩
  refine (θ_run Cert.FfnOutRefIdeal.defs _ _).mono (fun r h c => ?_) (Cert.FfnOutRefIdeal.Value.run (F := Ideal) m' g')
  obtain ⟨e0, e1, e2⟩ := hargs c
  obtain ⟨h0, h1, hr⟩ := h c
  refine ⟨h0.trans ((FfnOut.ref_y _ _).trans ?_), h1.trans ((FfnOut.ref_n _).trans ?_), hr⟩
  · exact congr (congrArg FfnOut.yT e0) e1
  · exact congrArg FfnOut.nT e2

set_option maxRecDepth 65536 in
/-- The two texts of the mixer's projection have one table of bodies. -/
theorem bodies_MixIn : Cert.MixIn.defs₀ (F := Bits) = Cert.MixInIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_MixIn : Cert.MixIn.defs (F := Bits) = Cert.MixInIdeal.defs (F := Bits) :=
  congrArg (Pipeline.defs Cert.MixIn.pcfgs) bodies_MixIn

set_option maxRecDepth 65536 in
/-- The mixer's projection's frame, at machine words. -/
theorem frame_MixIn : Cert.quiescent_MixIn := fun m ρ _ => by
  rw [defs_MixIn]
  exact Cert.MixInIdeal.Gen.frame (F := Bits) m ρ

/-- The same over the extended reals. -/
theorem frame_MixIn_ideal : Cert.quiescent_MixInIdeal := fun m ρ _ => Cert.MixInIdeal.Gen.frame m ρ

/-- Its reference's frame. -/
theorem frame_MixIn_reference : Cert.quiescent_MixInRefIdeal := fun m ρ _ =>
  (θ_run Cert.MixInRefIdeal.defs _ _).mono
    (fun r h => ⟨fun c => (h c).2.2, sem_eq_zero_of_no_sems (by decide) r.2⟩)
    (Cert.MixInRefIdeal.Value.run (F := Ideal) m ρ)

/-- From equal arguments the mixer's projection and its reference leave equal results. -/
theorem algebraic_MixIn : Cert.algebraic_MixInIdeal_MixInRefIdeal := by
  intro m g m' g' hpre hargs
  refine ⟨_, _, MixIn.run_value m g, ?_⟩
  refine (θ_run Cert.MixInRefIdeal.defs _ _).mono (fun r h c => ?_) (Cert.MixInRefIdeal.Value.run (F := Ideal) m' g')
  obtain ⟨e0, e1, e2⟩ := hargs c
  obtain ⟨h0, h1, hr⟩ := h c
  refine ⟨h0.trans ((MixIn.ref_y _ _).trans ?_), h1.trans ((MixIn.ref_n _).trans ?_), hr⟩
  · exact congr (congrArg MixIn.yT e0) e1
  · exact congrArg MixIn.nT e2

set_option maxRecDepth 65536 in
/-- The two texts of the mixer's output projection have one table of bodies. -/
theorem bodies_MixOut : Cert.MixOut.defs₀ (F := Bits) = Cert.MixOutIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_MixOut : Cert.MixOut.defs (F := Bits) = Cert.MixOutIdeal.defs (F := Bits) :=
  congrArg (Pipeline.defs Cert.MixOut.pcfgs) bodies_MixOut

set_option maxRecDepth 65536 in
/-- The mixer's output projection's frame, at machine words. -/
theorem frame_MixOut : Cert.quiescent_MixOut := fun m ρ _ => by
  rw [defs_MixOut]
  exact Cert.MixOutIdeal.Gen.frame (F := Bits) m ρ

/-- The same over the extended reals. -/
theorem frame_MixOut_ideal : Cert.quiescent_MixOutIdeal := fun m ρ _ => Cert.MixOutIdeal.Gen.frame m ρ

/-- Its reference's frame. -/
theorem frame_MixOut_reference : Cert.quiescent_MixOutRefIdeal := fun m ρ _ =>
  (θ_run Cert.MixOutRefIdeal.defs _ _).mono
    (fun r h => ⟨fun c => (h c).2.2, sem_eq_zero_of_no_sems (by decide) r.2⟩)
    (Cert.MixOutRefIdeal.Value.run (F := Ideal) m ρ)

/-- From equal arguments the mixer's output projection and its reference leave equal results. -/
theorem algebraic_MixOut : Cert.algebraic_MixOutIdeal_MixOutRefIdeal := by
  intro m g m' g' hpre hargs
  refine ⟨_, _, MixOut.run_value m g, ?_⟩
  refine (θ_run Cert.MixOutRefIdeal.defs _ _).mono (fun r h c => ?_) (Cert.MixOutRefIdeal.Value.run (F := Ideal) m' g')
  obtain ⟨e0, e1, e2⟩ := hargs c
  obtain ⟨h0, h1, hr⟩ := h c
  refine ⟨h0.trans ((MixOut.ref_y _ _).trans ?_), h1.trans ((MixOut.ref_n _).trans ?_), hr⟩
  · exact congr (congrArg MixOut.yT e0) e1
  · exact congrArg MixOut.nT e2

set_option maxRecDepth 65536 in
/-- The two texts of the last residual have one table of bodies. -/
theorem bodies_Post : Cert.Post.defs₀ (F := Bits) = Cert.PostIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_Post : Cert.Post.defs (F := Bits) = Cert.PostIdeal.defs (F := Bits) :=
  congrArg (Pipeline.defs Cert.Post.pcfgs) bodies_Post

set_option maxRecDepth 65536 in
/-- The last residual's frame, at machine words. -/
theorem frame_Post : Cert.quiescent_Post := fun m ρ _ => by
  rw [defs_Post]
  exact Cert.PostIdeal.Gen.frame (F := Bits) m ρ

/-- The same over the extended reals. -/
theorem frame_Post_ideal : Cert.quiescent_PostIdeal := fun m ρ _ => Cert.PostIdeal.Gen.frame m ρ

/-- Its reference's frame. -/
theorem frame_Post_reference : Cert.quiescent_PostRefIdeal := fun m ρ _ =>
  (θ_run Cert.PostRefIdeal.defs _ _).mono
    (fun r h => ⟨fun c => (h c).2, sem_eq_zero_of_no_sems (by decide) r.2⟩)
    (Cert.PostRefIdeal.Value.run (F := Ideal) m ρ)

/-- From equal arguments the last residual and its reference leave equal results. -/
theorem algebraic_Post : Cert.algebraic_PostIdeal_PostRefIdeal := by
  intro m g m' g' hpre hargs
  refine ⟨_, Post.run_value m g, ?_⟩
  refine (θ_run Cert.PostRefIdeal.defs _ _).mono (fun r h c => ?_) (Cert.PostRefIdeal.Value.run (F := Ideal) m' g')
  obtain ⟨e0, e1, e2, e3⟩ := hargs c
  obtain ⟨h0, hr⟩ := h c
  refine ⟨h0.trans ((Post.ref_h _ _ _ _).trans ?_), hr⟩
  exact congr (congr (congr (congrArg Post.hT e0) e1) e2) e3

set_option maxRecDepth 65536 in
/-- The two texts of the modulation have one table of bodies. -/
theorem bodies_Ada : Cert.Ada.defs₀ (F := Bits) = Cert.AdaIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_Ada : Cert.Ada.defs (F := Bits) = Cert.AdaIdeal.defs (F := Bits) :=
  congrArg (Pipeline.defs Cert.Ada.pcfgs) bodies_Ada

set_option maxRecDepth 65536 in
/-- The frame of the modulation, at machine words. -/
theorem frame_Ada : Cert.quiescent_Ada := fun m ρ _ => by
  rw [defs_Ada]
  exact Cert.AdaIdeal.Gen.frame (F := Bits) m ρ

/-- The same over the extended reals. -/
theorem frame_Ada_ideal : Cert.quiescent_AdaIdeal := fun m ρ _ => Cert.AdaIdeal.Gen.frame m ρ

/-- Its reference's frame. -/
theorem frame_Ada_reference : Cert.quiescent_AdaRefIdeal := fun m ρ _ =>
  (θ_run Cert.AdaRefIdeal.defs _ _).mono
    (fun r h => ⟨fun c => (h c).2, sem_eq_zero_of_no_sems (by decide) r.2⟩)
    (Cert.AdaRefIdeal.Value.run (F := Ideal) m ρ)

/-- From equal arguments the modulation and its reference leave equal results. -/
theorem algebraic_Ada : Cert.algebraic_AdaIdeal_AdaRefIdeal := by
  intro m g m' g' hpre hargs
  refine ⟨_, Ada.run_value m g, ?_⟩
  refine (θ_run Cert.AdaRefIdeal.defs _ _).mono (fun r h c => ?_) (Cert.AdaRefIdeal.Value.run (F := Ideal) m' g')
  obtain ⟨e0, e1, e2, e3, e4⟩ := hargs c
  obtain ⟨h0, hr⟩ := h c
  refine ⟨h0.trans ((Ada.ref_a (Ada.c8 _ _) _ _ _).trans ?_), hr⟩
  exact congr (congr (congr (congrArg Ada.aT (congr (congrArg Ada.c8 e0) e1)) e2) e3) e4

set_option maxRecDepth 65536 in
/-- The two texts of the first row pass have one table of bodies. -/
theorem bodies_First : Cert.First.defs₀ (F := Bits) = Cert.FirstIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_First : Cert.First.defs (F := Bits) = Cert.FirstIdeal.defs (F := Bits) :=
  congrArg (Pipeline.defs Cert.First.pcfgs) bodies_First

set_option maxRecDepth 65536 in
/-- The frame of the first row pass, at machine words. -/
theorem frame_First : Cert.quiescent_First := fun m ρ _ => by
  rw [defs_First]
  exact Cert.FirstIdeal.Gen.frame (F := Bits) m ρ

/-- The same over the extended reals. -/
theorem frame_First_ideal : Cert.quiescent_FirstIdeal := fun m ρ _ => Cert.FirstIdeal.Gen.frame m ρ

/-- Its reference's frame. -/
theorem frame_First_reference : Cert.quiescent_FirstRefIdeal := fun m ρ _ =>
  (θ_run Cert.FirstRefIdeal.defs _ _).mono
    (fun r h => ⟨fun c => (h c).2.2, sem_eq_zero_of_no_sems (by decide) r.2⟩)
    (Cert.FirstRefIdeal.Value.run (F := Ideal) m ρ)

/-- From equal arguments the first row pass and its reference leave equal results. -/
theorem algebraic_First : Cert.algebraic_FirstIdeal_FirstRefIdeal := by
  intro m g m' g' hpre hargs
  refine ⟨_, _, First.run_value m g, ?_⟩
  refine (θ_run Cert.FirstRefIdeal.defs _ _).mono (fun r h c => ?_) (Cert.FirstRefIdeal.Value.run (F := Ideal) m' g')
  obtain ⟨e0, e1, e2, e3⟩ := hargs c
  obtain ⟨h0, h1, hr⟩ := h c
  refine ⟨h0.trans ((First.ref_h _ _).trans ?_), h1.trans ((First.ref_u _ _ _ _).trans ?_), hr⟩
  · exact congr (congrArg First.hT e0) e1
  · exact congr (congr (congr (congrArg First.uT e0) e1) e2) e3

set_option maxRecDepth 65536 in
/-- The two texts of the gate codes' product have one table of bodies. -/
theorem bodies_Codes : Cert.Codes.defs₀ (F := Bits) = Cert.CodesIdeal.defs₀ (F := Bits) := by
  refine congrArg Defs.onTc ?_
  funext l x
  rcases l with ⟨_ | n, h⟩
  · obtain ⟨t, s⟩ := x
    exact rfl
  · exact absurd h (Nat.not_lt.2 (Nat.le_add_left _ _))

/-- And so one table of programs. -/
theorem defs_Codes : Cert.Codes.defs (F := Bits) = Cert.CodesIdeal.defs (F := Bits) :=
  congrArg (Pipeline.defs Cert.Codes.pcfgs) bodies_Codes

set_option maxRecDepth 65536 in
/-- The frame of the gate codes' product, at machine words. -/
theorem frame_Codes : Cert.quiescent_Codes := fun m ρ _ => by
  rw [defs_Codes]
  exact Cert.CodesIdeal.Gen.frame (F := Bits) m ρ

/-- The same over the extended reals. -/
theorem frame_Codes_ideal : Cert.quiescent_CodesIdeal := fun m ρ _ => Cert.CodesIdeal.Gen.frame m ρ

/-- Its reference's frame. -/
theorem frame_Codes_reference : Cert.quiescent_CodesRefIdeal := fun m ρ _ =>
  (θ_run Cert.CodesRefIdeal.defs _ _).mono
    (fun r h => ⟨fun c => (h c).2, sem_eq_zero_of_no_sems (by decide) r.2⟩)
    (Cert.CodesRefIdeal.Value.run (F := Ideal) m ρ)

/-- From equal arguments the gate codes' product and its reference leave equal results. -/
theorem algebraic_Codes : Cert.algebraic_CodesIdeal_CodesRefIdeal := by
  intro m g m' g' hpre hargs
  refine ⟨_, Codes.run_value m g, ?_⟩
  refine (θ_run Cert.CodesRefIdeal.defs _ _).mono (fun r h c => ?_) (Cert.CodesRefIdeal.Value.run (F := Ideal) m' g')
  obtain ⟨e0, e1⟩ := hargs c
  obtain ⟨h0, hr⟩ := h c
  refine ⟨h0.trans ((Codes.ref_z _ _).trans ?_), hr⟩
  exact congr (congrArg Codes.zT e0) e1

theorem claim : Cert.Claim := ⟨Cert.Kernel.Gen.facts, Cert.KernelIdeal.Gen.facts, Cert.ReferenceIdeal.Gen.facts,
  Cert.FfnIn.Gen.facts, Cert.FfnInIdeal.Gen.facts, Cert.FfnInRefIdeal.Gen.facts, Cert.FfnOut.Gen.facts, Cert.FfnOutIdeal.Gen.facts, Cert.FfnOutRefIdeal.Gen.facts, Cert.MixIn.Gen.facts, Cert.MixInIdeal.Gen.facts, Cert.MixInRefIdeal.Gen.facts, Cert.MixOut.Gen.facts, Cert.MixOutIdeal.Gen.facts, Cert.MixOutRefIdeal.Gen.facts, Cert.Post.Gen.facts, Cert.PostIdeal.Gen.facts, Cert.PostRefIdeal.Gen.facts, Cert.Ada.Gen.facts, Cert.AdaIdeal.Gen.facts, Cert.AdaRefIdeal.Gen.facts, Cert.First.Gen.facts, Cert.FirstIdeal.Gen.facts, Cert.FirstRefIdeal.Gen.facts, Cert.Codes.Gen.facts, Cert.CodesIdeal.Gen.facts, Cert.CodesRefIdeal.Gen.facts,
  frame_kernel, frame_ideal, frame_reference,
  frame_FfnIn, frame_FfnIn_ideal, frame_FfnIn_reference, frame_FfnOut, frame_FfnOut_ideal, frame_FfnOut_reference, frame_MixIn, frame_MixIn_ideal, frame_MixIn_reference, frame_MixOut, frame_MixOut_ideal, frame_MixOut_reference, frame_Post, frame_Post_ideal, frame_Post_reference, frame_Ada, frame_Ada_ideal, frame_Ada_reference, frame_First, frame_First_ideal, frame_First_reference, frame_Codes, frame_Codes_ideal, frame_Codes_reference,
  trivial, algebraic, trivial, algebraic_FfnIn, trivial, algebraic_FfnOut, trivial, algebraic_MixIn, trivial, algebraic_MixOut, trivial, algebraic_Post, trivial, algebraic_Ada, trivial, algebraic_First, trivial, algebraic_Codes⟩

end Cert.Proof

end
